-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_MlstmIdeal_finite_gates [hPre_finite_gates : Cert.Pre_finite_gates.Facts] (m : (ℓ : Loc Cert.MlstmIdeal.nD Cert.MlstmIdeal.τ Cert.MlstmIdeal.sig) → Buf (Elt Ideal) ℓ) : Prop :=
  ∀ c : Dev Cert.MlstmIdeal.nD,
    (Cert.Pre_finite_gates.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5))).1 = (fun _ => 1#1)
    ∧ (Cert.Pre_finite_gates.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5))).2.1 = (fun _ => 1#1)
    ∧ (Cert.Pre_finite_gates.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5))).2.2 = (fun _ => 1#1)

def Pre_MlstmRefIdeal (m : (ℓ : Loc Cert.MlstmRefIdeal.nD Cert.MlstmRefIdeal.τ Cert.MlstmRefIdeal.sig) → Buf (Elt Ideal) ℓ) : Prop :=
  True

def Pre_MlstmRefIdeal_finite_gates [hPre_finite_gates : Cert.Pre_finite_gates.Facts] (m : (ℓ : Loc Cert.MlstmRefIdeal.nD Cert.MlstmRefIdeal.τ Cert.MlstmRefIdeal.sig) → Buf (Elt Ideal) ℓ) : Prop :=
  ∀ c : Dev Cert.MlstmRefIdeal.nD,
    (Cert.Pre_finite_gates.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2)) (m ((c.tc : Thread Cert.MlstmRefIdeal.nD Cert.MlstmRefIdeal.τ).loc Cert.MlstmRefIdeal.main_arg3)) (m ((c.tc : Thread Cert.MlstmRefIdeal.nD Cert.MlstmRefIdeal.τ).loc Cert.MlstmRefIdeal.main_arg4)) (m ((c.tc : Thread Cert.MlstmRefIdeal.nD Cert.MlstmRefIdeal.τ).loc Cert.MlstmRefIdeal.main_arg5))).1 = (fun _ => 1#1)
    ∧ (Cert.Pre_finite_gates.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2)) (m ((c.tc : Thread Cert.MlstmRefIdeal.nD Cert.MlstmRefIdeal.τ).loc Cert.MlstmRefIdeal.main_arg3)) (m ((c.tc : Thread Cert.MlstmRefIdeal.nD Cert.MlstmRefIdeal.τ).loc Cert.MlstmRefIdeal.main_arg4)) (m ((c.tc : Thread Cert.MlstmRefIdeal.nD Cert.MlstmRefIdeal.τ).loc Cert.MlstmRefIdeal.main_arg5))).2.1 = (fun _ => 1#1)
    ∧ (Cert.Pre_finite_gates.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2)) (m ((c.tc : Thread Cert.MlstmRefIdeal.nD Cert.MlstmRefIdeal.τ).loc Cert.MlstmRefIdeal.main_arg3)) (m ((c.tc : Thread Cert.MlstmRefIdeal.nD Cert.MlstmRefIdeal.τ).loc Cert.MlstmRefIdeal.main_arg4)) (m ((c.tc : Thread Cert.MlstmRefIdeal.nD Cert.MlstmRefIdeal.τ).loc Cert.MlstmRefIdeal.main_arg5))).2.2 = (fun _ => 1#1)

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressIdeal_finite_weights [hPre_finite_weights : Cert.Pre_finite_weights.Facts] (m : (ℓ : Loc Cert.CompressIdeal.nD Cert.CompressIdeal.τ Cert.CompressIdeal.sig) → Buf (Elt Ideal) ℓ) : Prop :=
  ∀ c : Dev Cert.CompressIdeal.nD,
    (Cert.Pre_finite_weights.fn (F := Ideal) (m ((c.tc : Thread Cert.CompressIdeal.nD Cert.CompressIdeal.τ).loc Cert.CompressIdeal.main_arg0)) (m ((c.tc : Thread Cert.CompressIdeal.nD Cert.CompressIdeal.τ).loc Cert.CompressIdeal.main_arg1)) (m ((c.tc : Thread Cert.CompressIdeal.nD Cert.CompressIdeal.τ).loc Cert.CompressIdeal.main_arg2)) (m ((c.tc : Thread Cert.CompressIdeal.nD Cert.CompressIdeal.τ).loc Cert.CompressIdeal.main_arg3))).1 = (fun _ => 1#1)
    ∧ (Cert.Pre_finite_weights.fn (F := Ideal) (m ((c.tc : Thread Cert.CompressIdeal.nD Cert.CompressIdeal.τ).loc Cert.CompressIdeal.main_arg0)) (m ((c.tc : Thread Cert.CompressIdeal.nD Cert.CompressIdeal.τ).loc Cert.CompressIdeal.main_arg1)) (m ((c.tc : Thread Cert.CompressIdeal.nD Cert.CompressIdeal.τ).loc Cert.CompressIdeal.main_arg2)) (m ((c.tc : Thread Cert.CompressIdeal.nD Cert.CompressIdeal.τ).loc Cert.CompressIdeal.main_arg3))).2 = (fun _ => 1#1)

def Pre_CompressRefIdeal (m : (ℓ : Loc Cert.CompressRefIdeal.nD Cert.CompressRefIdeal.τ Cert.CompressRefIdeal.sig) → Buf (Elt Ideal) ℓ) : Prop :=
  True

def Pre_CompressRefIdeal_finite_weights [hPre_finite_weights : Cert.Pre_finite_weights.Facts] (m : (ℓ : Loc Cert.CompressRefIdeal.nD Cert.CompressRefIdeal.τ Cert.CompressRefIdeal.sig) → Buf (Elt Ideal) ℓ) : Prop :=
  ∀ c : Dev Cert.CompressRefIdeal.nD,
    (Cert.Pre_finite_weights.fn (F := Ideal) (m ((c.tc : Thread Cert.CompressRefIdeal.nD Cert.CompressRefIdeal.τ).loc Cert.CompressRefIdeal.main_arg0)) (m ((c.tc : Thread Cert.CompressRefIdeal.nD Cert.CompressRefIdeal.τ).loc Cert.CompressRefIdeal.main_arg1)) (m ((c.tc : Thread Cert.CompressRefIdeal.nD Cert.CompressRefIdeal.τ).loc Cert.CompressRefIdeal.main_arg2)) (m ((c.tc : Thread Cert.CompressRefIdeal.nD Cert.CompressRefIdeal.τ).loc Cert.CompressRefIdeal.main_arg3))).1 = (fun _ => 1#1)
    ∧ (Cert.Pre_finite_weights.fn (F := Ideal) (m ((c.tc : Thread Cert.CompressRefIdeal.nD Cert.CompressRefIdeal.τ).loc Cert.CompressRefIdeal.main_arg0)) (m ((c.tc : Thread Cert.CompressRefIdeal.nD Cert.CompressRefIdeal.τ).loc Cert.CompressRefIdeal.main_arg1)) (m ((c.tc : Thread Cert.CompressRefIdeal.nD Cert.CompressRefIdeal.τ).loc Cert.CompressRefIdeal.main_arg2)) (m ((c.tc : Thread Cert.CompressRefIdeal.nD Cert.CompressRefIdeal.τ).loc Cert.CompressRefIdeal.main_arg3))).2 = (fun _ => 1#1)

def Pre_InProjSample (m : (ℓ : Loc Cert.InProjSample.nD Cert.InProjSample.τ Cert.InProjSample.sig) → Buf (Elt Bits) ℓ) : Prop :=
  True

def Pre_InProjSampleIdeal (m : (ℓ : Loc Cert.InProjSampleIdeal.nD Cert.InProjSampleIdeal.τ Cert.InProjSampleIdeal.sig) → Buf (Elt Ideal) ℓ) : Prop :=
  True

def Pre_InProjSampleRefIdeal (m : (ℓ : Loc Cert.InProjSampleRefIdeal.nD Cert.InProjSampleRefIdeal.τ Cert.InProjSampleRefIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleRefIdeal (m : (ℓ : Loc Cert.FfnSampleRefIdeal.nD Cert.FfnSampleRefIdeal.τ Cert.FfnSampleRefIdeal.sig) → Buf (Elt Ideal) ℓ) : Prop :=
  True

def Pre_OutProjSample (m : (ℓ : Loc Cert.OutProjSample.nD Cert.OutProjSample.τ Cert.OutProjSample.sig) → Buf (Elt Bits) ℓ) : Prop :=
  True

def Pre_OutProjSampleIdeal (m : (ℓ : Loc Cert.OutProjSampleIdeal.nD Cert.OutProjSampleIdeal.τ Cert.OutProjSampleIdeal.sig) → Buf (Elt Ideal) ℓ) : Prop :=
  True

def Pre_OutProjSampleRefIdeal (m : (ℓ : Loc Cert.OutProjSampleRefIdeal.nD Cert.OutProjSampleRefIdeal.τ Cert.OutProjSampleRefIdeal.sig) → Buf (Elt Ideal) ℓ) : Prop :=
  True

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3)
      ∧ r.2.mem ((c.tc : Thread Cert.Mlstm.nD Cert.Mlstm.τ).loc Cert.Mlstm.main_arg4) = m ((c.tc : Thread Cert.Mlstm.nD Cert.Mlstm.τ).loc Cert.Mlstm.main_arg4)
      ∧ r.2.mem ((c.tc : Thread Cert.Mlstm.nD Cert.Mlstm.τ).loc Cert.Mlstm.main_arg5) = m ((c.tc : Thread Cert.Mlstm.nD Cert.Mlstm.τ).loc Cert.Mlstm.main_arg5))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5))
      ∧ r.2.sem = fun _ => 0)

def quiescent_MlstmIdeal_pre_finite_gates [hMlstmIdeal : Cert.MlstmIdeal.Facts] [hPre_finite_gates : Cert.Pre_finite_gates.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal_finite_gates m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5))
      ∧ r.2.sem = fun _ => 0)

def quiescent_MlstmRefIdeal [hMlstmRefIdeal : Cert.MlstmRefIdeal.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
      ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3)
      ∧ r.2.mem ((c.tc : Thread Cert.MlstmRefIdeal.nD Cert.MlstmRefIdeal.τ).loc Cert.MlstmRefIdeal.main_arg4) = m ((c.tc : Thread Cert.MlstmRefIdeal.nD Cert.MlstmRefIdeal.τ).loc Cert.MlstmRefIdeal.main_arg4)
      ∧ r.2.mem ((c.tc : Thread Cert.MlstmRefIdeal.nD Cert.MlstmRefIdeal.τ).loc Cert.MlstmRefIdeal.main_arg5) = m ((c.tc : Thread Cert.MlstmRefIdeal.nD Cert.MlstmRefIdeal.τ).loc Cert.MlstmRefIdeal.main_arg5))
      ∧ r.2.sem = fun _ => 0)

def quiescent_MlstmRefIdeal_pre_finite_gates [hMlstmRefIdeal : Cert.MlstmRefIdeal.Facts] [hPre_finite_gates : Cert.Pre_finite_gates.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal_finite_gates m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
      ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3)
      ∧ r.2.mem ((c.tc : Thread Cert.MlstmRefIdeal.nD Cert.MlstmRefIdeal.τ).loc Cert.MlstmRefIdeal.main_arg4) = m ((c.tc : Thread Cert.MlstmRefIdeal.nD Cert.MlstmRefIdeal.τ).loc Cert.MlstmRefIdeal.main_arg4)
      ∧ r.2.mem ((c.tc : Thread Cert.MlstmRefIdeal.nD Cert.MlstmRefIdeal.τ).loc Cert.MlstmRefIdeal.main_arg5) = m ((c.tc : Thread Cert.MlstmRefIdeal.nD Cert.MlstmRefIdeal.τ).loc Cert.MlstmRefIdeal.main_arg5))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3))
      ∧ r.2.sem = fun _ => 0)

def quiescent_CompressIdeal_pre_finite_weights [hCompressIdeal : Cert.CompressIdeal.Facts] [hPre_finite_weights : Cert.Pre_finite_weights.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal_finite_weights m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3))
      ∧ r.2.sem = fun _ => 0)

def quiescent_CompressRefIdeal [hCompressRefIdeal : Cert.CompressRefIdeal.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3))
      ∧ r.2.sem = fun _ => 0)

def quiescent_CompressRefIdeal_pre_finite_weights [hCompressRefIdeal : Cert.CompressRefIdeal.Facts] [hPre_finite_weights : Cert.Pre_finite_weights.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal_finite_weights m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3))
      ∧ r.2.sem = fun _ => 0)

def quiescent_InProjSample [hInProjSample : Cert.InProjSample.Facts] : Prop :=
  ∀ (m : (ℓ : Loc Cert.InProjSample.nD Cert.InProjSample.τ Cert.InProjSample.sig) → Buf (Elt Bits) ℓ) (g : Dev Cert.InProjSample.nD → PrngReg), Pre_InProjSample m →
    θ_run (Cert.InProjSample.defs (F := Bits)) (onTc (τ := Cert.InProjSample.τ) (Cert.InProjSample.main (F := Bits))) ⟨m, fun _ => 0, g⟩ (fun r => (∀ c : Dev Cert.InProjSample.nD,
      r.2.mem ((c.tc : Thread Cert.InProjSample.nD Cert.InProjSample.τ).loc Cert.InProjSample.main_arg0) = m ((c.tc : Thread Cert.InProjSample.nD Cert.InProjSample.τ).loc Cert.InProjSample.main_arg0)
      ∧ r.2.mem ((c.tc : Thread Cert.InProjSample.nD Cert.InProjSample.τ).loc Cert.InProjSample.main_arg1) = m ((c.tc : Thread Cert.InProjSample.nD Cert.InProjSample.τ).loc Cert.InProjSample.main_arg1)
      ∧ r.2.mem ((c.tc : Thread Cert.InProjSample.nD Cert.InProjSample.τ).loc Cert.InProjSample.main_arg2) = m ((c.tc : Thread Cert.InProjSample.nD Cert.InProjSample.τ).loc Cert.InProjSample.main_arg2)
      ∧ r.2.mem ((c.tc : Thread Cert.InProjSample.nD Cert.InProjSample.τ).loc Cert.InProjSample.main_arg3) = m ((c.tc : Thread Cert.InProjSample.nD Cert.InProjSample.τ).loc Cert.InProjSample.main_arg3)
      ∧ r.2.mem ((c.tc : Thread Cert.InProjSample.nD Cert.InProjSample.τ).loc Cert.InProjSample.main_arg4) = m ((c.tc : Thread Cert.InProjSample.nD Cert.InProjSample.τ).loc Cert.InProjSample.main_arg4))
      ∧ r.2.sem = fun _ => 0)

def quiescent_InProjSampleIdeal [hInProjSampleIdeal : Cert.InProjSampleIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg), Pre_InProjSampleIdeal m →
    θ_run (Cert.InProjSampleIdeal.defs (F := Ideal)) (onTc (τ := Cert.InProjSampleIdeal.τ) (Cert.InProjSampleIdeal.main (F := Ideal))) ⟨m, fun _ => 0, g⟩ (fun r => (∀ c : Dev Cert.InProjSampleIdeal.nD,
      r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
      ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1)
      ∧ r.2.mem ((c.tc : Thread Cert.InProjSampleIdeal.nD Cert.InProjSampleIdeal.τ).loc Cert.InProjSampleIdeal.main_arg2) = m ((c.tc : Thread Cert.InProjSampleIdeal.nD Cert.InProjSampleIdeal.τ).loc Cert.InProjSampleIdeal.main_arg2)
      ∧ r.2.mem ((c.tc : Thread Cert.InProjSampleIdeal.nD Cert.InProjSampleIdeal.τ).loc Cert.InProjSampleIdeal.main_arg3) = m ((c.tc : Thread Cert.InProjSampleIdeal.nD Cert.InProjSampleIdeal.τ).loc Cert.InProjSampleIdeal.main_arg3)
      ∧ r.2.mem ((c.tc : Thread Cert.InProjSampleIdeal.nD Cert.InProjSampleIdeal.τ).loc Cert.InProjSampleIdeal.main_arg4) = m ((c.tc : Thread Cert.InProjSampleIdeal.nD Cert.InProjSampleIdeal.τ).loc Cert.InProjSampleIdeal.main_arg4))
      ∧ r.2.sem = fun _ => 0)

def quiescent_InProjSampleRefIdeal [hInProjSampleRefIdeal : Cert.InProjSampleRefIdeal.Facts] : Prop :=
  ∀ (m : (ℓ : Loc Cert.InProjSampleRefIdeal.nD Cert.InProjSampleRefIdeal.τ Cert.InProjSampleRefIdeal.sig) → Buf (Elt Ideal) ℓ) (g : Dev Cert.InProjSampleRefIdeal.nD → PrngReg), Pre_InProjSampleRefIdeal m →
    θ_run (Cert.InProjSampleRefIdeal.defs (F := Ideal)) (onTc (τ := Cert.InProjSampleRefIdeal.τ) (Cert.InProjSampleRefIdeal.main (F := Ideal))) ⟨m, fun _ => 0, g⟩ (fun r => (∀ c : Dev Cert.InProjSampleRefIdeal.nD,
      r.2.mem ((c.tc : Thread Cert.InProjSampleRefIdeal.nD Cert.InProjSampleRefIdeal.τ).loc Cert.InProjSampleRefIdeal.main_arg0) = m ((c.tc : Thread Cert.InProjSampleRefIdeal.nD Cert.InProjSampleRefIdeal.τ).loc Cert.InProjSampleRefIdeal.main_arg0)
      ∧ r.2.mem ((c.tc : Thread Cert.InProjSampleRefIdeal.nD Cert.InProjSampleRefIdeal.τ).loc Cert.InProjSampleRefIdeal.main_arg1) = m ((c.tc : Thread Cert.InProjSampleRefIdeal.nD Cert.InProjSampleRefIdeal.τ).loc Cert.InProjSampleRefIdeal.main_arg1)
      ∧ r.2.mem ((c.tc : Thread Cert.InProjSampleRefIdeal.nD Cert.InProjSampleRefIdeal.τ).loc Cert.InProjSampleRefIdeal.main_arg2) = m ((c.tc : Thread Cert.InProjSampleRefIdeal.nD Cert.InProjSampleRefIdeal.τ).loc Cert.InProjSampleRefIdeal.main_arg2)
      ∧ r.2.mem ((c.tc : Thread Cert.InProjSampleRefIdeal.nD Cert.InProjSampleRefIdeal.τ).loc Cert.InProjSampleRefIdeal.main_arg3) = m ((c.tc : Thread Cert.InProjSampleRefIdeal.nD Cert.InProjSampleRefIdeal.τ).loc Cert.InProjSampleRefIdeal.main_arg3)
      ∧ r.2.mem ((c.tc : Thread Cert.InProjSampleRefIdeal.nD Cert.InProjSampleRefIdeal.τ).loc Cert.InProjSampleRefIdeal.main_arg4) = m ((c.tc : Thread Cert.InProjSampleRefIdeal.nD Cert.InProjSampleRefIdeal.τ).loc Cert.InProjSampleRefIdeal.main_arg4))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5)
      ∧ r.2.mem ((c.tc : Thread Cert.FfnSample.nD Cert.FfnSample.τ).loc Cert.FfnSample.main_arg6) = m ((c.tc : Thread Cert.FfnSample.nD Cert.FfnSample.τ).loc Cert.FfnSample.main_arg6)
      ∧ r.2.mem ((c.tc : Thread Cert.FfnSample.nD Cert.FfnSample.τ).loc Cert.FfnSample.main_arg7) = m ((c.tc : Thread Cert.FfnSample.nD Cert.FfnSample.τ).loc Cert.FfnSample.main_arg7))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
      ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
      ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7))
      ∧ r.2.sem = fun _ => 0)

def quiescent_FfnSampleRefIdeal [hFfnSampleRefIdeal : Cert.FfnSampleRefIdeal.Facts] : Prop :=
  ∀ (m : (ℓ : Loc Cert.FfnSampleRefIdeal.nD Cert.FfnSampleRefIdeal.τ Cert.FfnSampleRefIdeal.sig) → Buf (Elt Ideal) ℓ) (g : Dev Cert.FfnSampleRefIdeal.nD → PrngReg), Pre_FfnSampleRefIdeal m →
    θ_run (Cert.FfnSampleRefIdeal.defs (F := Ideal)) (onTc (τ := Cert.FfnSampleRefIdeal.τ) (Cert.FfnSampleRefIdeal.main (F := Ideal))) ⟨m, fun _ => 0, g⟩ (fun r => (∀ c : Dev Cert.FfnSampleRefIdeal.nD,
      r.2.mem ((c.tc : Thread Cert.FfnSampleRefIdeal.nD Cert.FfnSampleRefIdeal.τ).loc Cert.FfnSampleRefIdeal.main_arg0) = m ((c.tc : Thread Cert.FfnSampleRefIdeal.nD Cert.FfnSampleRefIdeal.τ).loc Cert.FfnSampleRefIdeal.main_arg0)
      ∧ r.2.mem ((c.tc : Thread Cert.FfnSampleRefIdeal.nD Cert.FfnSampleRefIdeal.τ).loc Cert.FfnSampleRefIdeal.main_arg1) = m ((c.tc : Thread Cert.FfnSampleRefIdeal.nD Cert.FfnSampleRefIdeal.τ).loc Cert.FfnSampleRefIdeal.main_arg1)
      ∧ r.2.mem ((c.tc : Thread Cert.FfnSampleRefIdeal.nD Cert.FfnSampleRefIdeal.τ).loc Cert.FfnSampleRefIdeal.main_arg2) = m ((c.tc : Thread Cert.FfnSampleRefIdeal.nD Cert.FfnSampleRefIdeal.τ).loc Cert.FfnSampleRefIdeal.main_arg2)
      ∧ r.2.mem ((c.tc : Thread Cert.FfnSampleRefIdeal.nD Cert.FfnSampleRefIdeal.τ).loc Cert.FfnSampleRefIdeal.main_arg3) = m ((c.tc : Thread Cert.FfnSampleRefIdeal.nD Cert.FfnSampleRefIdeal.τ).loc Cert.FfnSampleRefIdeal.main_arg3)
      ∧ r.2.mem ((c.tc : Thread Cert.FfnSampleRefIdeal.nD Cert.FfnSampleRefIdeal.τ).loc Cert.FfnSampleRefIdeal.main_arg4) = m ((c.tc : Thread Cert.FfnSampleRefIdeal.nD Cert.FfnSampleRefIdeal.τ).loc Cert.FfnSampleRefIdeal.main_arg4)
      ∧ r.2.mem ((c.tc : Thread Cert.FfnSampleRefIdeal.nD Cert.FfnSampleRefIdeal.τ).loc Cert.FfnSampleRefIdeal.main_arg5) = m ((c.tc : Thread Cert.FfnSampleRefIdeal.nD Cert.FfnSampleRefIdeal.τ).loc Cert.FfnSampleRefIdeal.main_arg5)
      ∧ r.2.mem ((c.tc : Thread Cert.FfnSampleRefIdeal.nD Cert.FfnSampleRefIdeal.τ).loc Cert.FfnSampleRefIdeal.main_arg6) = m ((c.tc : Thread Cert.FfnSampleRefIdeal.nD Cert.FfnSampleRefIdeal.τ).loc Cert.FfnSampleRefIdeal.main_arg6)
      ∧ r.2.mem ((c.tc : Thread Cert.FfnSampleRefIdeal.nD Cert.FfnSampleRefIdeal.τ).loc Cert.FfnSampleRefIdeal.main_arg7) = m ((c.tc : Thread Cert.FfnSampleRefIdeal.nD Cert.FfnSampleRefIdeal.τ).loc Cert.FfnSampleRefIdeal.main_arg7))
      ∧ r.2.sem = fun _ => 0)

def quiescent_OutProjSample [hOutProjSample : Cert.OutProjSample.Facts] : Prop :=
  ∀ (m : (ℓ : Loc Cert.OutProjSample.nD Cert.OutProjSample.τ Cert.OutProjSample.sig) → Buf (Elt Bits) ℓ) (g : Dev Cert.OutProjSample.nD → PrngReg), Pre_OutProjSample m →
    θ_run (Cert.OutProjSample.defs (F := Bits)) (onTc (τ := Cert.OutProjSample.τ) (Cert.OutProjSample.main (F := Bits))) ⟨m, fun _ => 0, g⟩ (fun r => (∀ c : Dev Cert.OutProjSample.nD,
      r.2.mem ((c.tc : Thread Cert.OutProjSample.nD Cert.OutProjSample.τ).loc Cert.OutProjSample.main_arg0) = m ((c.tc : Thread Cert.OutProjSample.nD Cert.OutProjSample.τ).loc Cert.OutProjSample.main_arg0)
      ∧ r.2.mem ((c.tc : Thread Cert.OutProjSample.nD Cert.OutProjSample.τ).loc Cert.OutProjSample.main_arg1) = m ((c.tc : Thread Cert.OutProjSample.nD Cert.OutProjSample.τ).loc Cert.OutProjSample.main_arg1)
      ∧ r.2.mem ((c.tc : Thread Cert.OutProjSample.nD Cert.OutProjSample.τ).loc Cert.OutProjSample.main_arg2) = m ((c.tc : Thread Cert.OutProjSample.nD Cert.OutProjSample.τ).loc Cert.OutProjSample.main_arg2)
      ∧ r.2.mem ((c.tc : Thread Cert.OutProjSample.nD Cert.OutProjSample.τ).loc Cert.OutProjSample.main_arg3) = m ((c.tc : Thread Cert.OutProjSample.nD Cert.OutProjSample.τ).loc Cert.OutProjSample.main_arg3)
      ∧ r.2.mem ((c.tc : Thread Cert.OutProjSample.nD Cert.OutProjSample.τ).loc Cert.OutProjSample.main_arg4) = m ((c.tc : Thread Cert.OutProjSample.nD Cert.OutProjSample.τ).loc Cert.OutProjSample.main_arg4)
      ∧ r.2.mem ((c.tc : Thread Cert.OutProjSample.nD Cert.OutProjSample.τ).loc Cert.OutProjSample.main_arg5) = m ((c.tc : Thread Cert.OutProjSample.nD Cert.OutProjSample.τ).loc Cert.OutProjSample.main_arg5)
      ∧ r.2.mem ((c.tc : Thread Cert.OutProjSample.nD Cert.OutProjSample.τ).loc Cert.OutProjSample.main_arg6) = m ((c.tc : Thread Cert.OutProjSample.nD Cert.OutProjSample.τ).loc Cert.OutProjSample.main_arg6))
      ∧ r.2.sem = fun _ => 0)

def quiescent_OutProjSampleIdeal [hOutProjSampleIdeal : Cert.OutProjSampleIdeal.Facts] : Prop :=
  ∀ (m : (ℓ : Loc Cert.OutProjSampleIdeal.nD Cert.OutProjSampleIdeal.τ Cert.OutProjSampleIdeal.sig) → Buf (Elt Ideal) ℓ) (g : Dev Cert.OutProjSampleIdeal.nD → PrngReg), Pre_OutProjSampleIdeal m →
    θ_run (Cert.OutProjSampleIdeal.defs (F := Ideal)) (onTc (τ := Cert.OutProjSampleIdeal.τ) (Cert.OutProjSampleIdeal.main (F := Ideal))) ⟨m, fun _ => 0, g⟩ (fun r => (∀ c : Dev Cert.OutProjSampleIdeal.nD,
      r.2.mem ((c.tc : Thread Cert.OutProjSampleIdeal.nD Cert.OutProjSampleIdeal.τ).loc Cert.OutProjSampleIdeal.main_arg0) = m ((c.tc : Thread Cert.OutProjSampleIdeal.nD Cert.OutProjSampleIdeal.τ).loc Cert.OutProjSampleIdeal.main_arg0)
      ∧ r.2.mem ((c.tc : Thread Cert.OutProjSampleIdeal.nD Cert.OutProjSampleIdeal.τ).loc Cert.OutProjSampleIdeal.main_arg1) = m ((c.tc : Thread Cert.OutProjSampleIdeal.nD Cert.OutProjSampleIdeal.τ).loc Cert.OutProjSampleIdeal.main_arg1)
      ∧ r.2.mem ((c.tc : Thread Cert.OutProjSampleIdeal.nD Cert.OutProjSampleIdeal.τ).loc Cert.OutProjSampleIdeal.main_arg2) = m ((c.tc : Thread Cert.OutProjSampleIdeal.nD Cert.OutProjSampleIdeal.τ).loc Cert.OutProjSampleIdeal.main_arg2)
      ∧ r.2.mem ((c.tc : Thread Cert.OutProjSampleIdeal.nD Cert.OutProjSampleIdeal.τ).loc Cert.OutProjSampleIdeal.main_arg3) = m ((c.tc : Thread Cert.OutProjSampleIdeal.nD Cert.OutProjSampleIdeal.τ).loc Cert.OutProjSampleIdeal.main_arg3)
      ∧ r.2.mem ((c.tc : Thread Cert.OutProjSampleIdeal.nD Cert.OutProjSampleIdeal.τ).loc Cert.OutProjSampleIdeal.main_arg4) = m ((c.tc : Thread Cert.OutProjSampleIdeal.nD Cert.OutProjSampleIdeal.τ).loc Cert.OutProjSampleIdeal.main_arg4)
      ∧ r.2.mem ((c.tc : Thread Cert.OutProjSampleIdeal.nD Cert.OutProjSampleIdeal.τ).loc Cert.OutProjSampleIdeal.main_arg5) = m ((c.tc : Thread Cert.OutProjSampleIdeal.nD Cert.OutProjSampleIdeal.τ).loc Cert.OutProjSampleIdeal.main_arg5)
      ∧ r.2.mem ((c.tc : Thread Cert.OutProjSampleIdeal.nD Cert.OutProjSampleIdeal.τ).loc Cert.OutProjSampleIdeal.main_arg6) = m ((c.tc : Thread Cert.OutProjSampleIdeal.nD Cert.OutProjSampleIdeal.τ).loc Cert.OutProjSampleIdeal.main_arg6))
      ∧ r.2.sem = fun _ => 0)

def quiescent_OutProjSampleRefIdeal [hOutProjSampleRefIdeal : Cert.OutProjSampleRefIdeal.Facts] : Prop :=
  ∀ (m : (ℓ : Loc Cert.OutProjSampleRefIdeal.nD Cert.OutProjSampleRefIdeal.τ Cert.OutProjSampleRefIdeal.sig) → Buf (Elt Ideal) ℓ) (g : Dev Cert.OutProjSampleRefIdeal.nD → PrngReg), Pre_OutProjSampleRefIdeal m →
    θ_run (Cert.OutProjSampleRefIdeal.defs (F := Ideal)) (onTc (τ := Cert.OutProjSampleRefIdeal.τ) (Cert.OutProjSampleRefIdeal.main (F := Ideal))) ⟨m, fun _ => 0, g⟩ (fun r => (∀ c : Dev Cert.OutProjSampleRefIdeal.nD,
      r.2.mem ((c.tc : Thread Cert.OutProjSampleRefIdeal.nD Cert.OutProjSampleRefIdeal.τ).loc Cert.OutProjSampleRefIdeal.main_arg0) = m ((c.tc : Thread Cert.OutProjSampleRefIdeal.nD Cert.OutProjSampleRefIdeal.τ).loc Cert.OutProjSampleRefIdeal.main_arg0)
      ∧ r.2.mem ((c.tc : Thread Cert.OutProjSampleRefIdeal.nD Cert.OutProjSampleRefIdeal.τ).loc Cert.OutProjSampleRefIdeal.main_arg1) = m ((c.tc : Thread Cert.OutProjSampleRefIdeal.nD Cert.OutProjSampleRefIdeal.τ).loc Cert.OutProjSampleRefIdeal.main_arg1)
      ∧ r.2.mem ((c.tc : Thread Cert.OutProjSampleRefIdeal.nD Cert.OutProjSampleRefIdeal.τ).loc Cert.OutProjSampleRefIdeal.main_arg2) = m ((c.tc : Thread Cert.OutProjSampleRefIdeal.nD Cert.OutProjSampleRefIdeal.τ).loc Cert.OutProjSampleRefIdeal.main_arg2)
      ∧ r.2.mem ((c.tc : Thread Cert.OutProjSampleRefIdeal.nD Cert.OutProjSampleRefIdeal.τ).loc Cert.OutProjSampleRefIdeal.main_arg3) = m ((c.tc : Thread Cert.OutProjSampleRefIdeal.nD Cert.OutProjSampleRefIdeal.τ).loc Cert.OutProjSampleRefIdeal.main_arg3)
      ∧ r.2.mem ((c.tc : Thread Cert.OutProjSampleRefIdeal.nD Cert.OutProjSampleRefIdeal.τ).loc Cert.OutProjSampleRefIdeal.main_arg4) = m ((c.tc : Thread Cert.OutProjSampleRefIdeal.nD Cert.OutProjSampleRefIdeal.τ).loc Cert.OutProjSampleRefIdeal.main_arg4)
      ∧ r.2.mem ((c.tc : Thread Cert.OutProjSampleRefIdeal.nD Cert.OutProjSampleRefIdeal.τ).loc Cert.OutProjSampleRefIdeal.main_arg5) = m ((c.tc : Thread Cert.OutProjSampleRefIdeal.nD Cert.OutProjSampleRefIdeal.τ).loc Cert.OutProjSampleRefIdeal.main_arg5)
      ∧ r.2.mem ((c.tc : Thread Cert.OutProjSampleRefIdeal.nD Cert.OutProjSampleRefIdeal.τ).loc Cert.OutProjSampleRefIdeal.main_arg6) = m ((c.tc : Thread Cert.OutProjSampleRefIdeal.nD Cert.OutProjSampleRefIdeal.τ).loc Cert.OutProjSampleRefIdeal.main_arg6))
      ∧ r.2.sem = fun _ => 0)

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v7)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v7) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v14) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v36) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v40) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Mlstm_MlstmIdeal : Prop :=
  IdealRules.named_const.Statement Cert.MlstmIdeal.κ "mask" .f32 0xF149F2CA#32 ⊥

def algebraic_MlstmIdeal_MlstmRefIdeal_pre_finite_gates [hMlstmIdeal : Cert.MlstmIdeal.Facts] [hMlstmRefIdeal : Cert.MlstmRefIdeal.Facts] [hPre_finite_gates : Cert.Pre_finite_gates.Facts] : Prop :=
  ∀ (m : (ℓ : Loc Cert.MlstmIdeal.nD Cert.MlstmIdeal.τ Cert.MlstmIdeal.sig) → Buf (Elt Ideal) ℓ) (g : Dev Cert.MlstmIdeal.nD → PrngReg)
    (m' : (ℓ : Loc Cert.MlstmRefIdeal.nD Cert.MlstmRefIdeal.τ Cert.MlstmRefIdeal.sig) → Buf (Elt Ideal) ℓ) (g' : Dev Cert.MlstmRefIdeal.nD → PrngReg), Pre_MlstmIdeal_finite_gates m →
    (∀ c : Dev Cert.MlstmIdeal.nD,
      m' ((c.tc : Thread Cert.MlstmRefIdeal.nD Cert.MlstmRefIdeal.τ).loc Cert.MlstmRefIdeal.main_arg0) = m ((c.tc : Thread Cert.MlstmIdeal.nD Cert.MlstmIdeal.τ).loc Cert.MlstmIdeal.main_arg0)
      ∧ m' ((c.tc : Thread Cert.MlstmRefIdeal.nD Cert.MlstmRefIdeal.τ).loc Cert.MlstmRefIdeal.main_arg1) = m ((c.tc : Thread Cert.MlstmIdeal.nD Cert.MlstmIdeal.τ).loc Cert.MlstmIdeal.main_arg1)
      ∧ m' ((c.tc : Thread Cert.MlstmRefIdeal.nD Cert.MlstmRefIdeal.τ).loc Cert.MlstmRefIdeal.main_arg2) = m ((c.tc : Thread Cert.MlstmIdeal.nD Cert.MlstmIdeal.τ).loc Cert.MlstmIdeal.main_arg2)
      ∧ m' ((c.tc : Thread Cert.MlstmRefIdeal.nD Cert.MlstmRefIdeal.τ).loc Cert.MlstmRefIdeal.main_arg3) = m ((c.tc : Thread Cert.MlstmIdeal.nD Cert.MlstmIdeal.τ).loc Cert.MlstmIdeal.main_arg3)
      ∧ m' ((c.tc : Thread Cert.MlstmRefIdeal.nD Cert.MlstmRefIdeal.τ).loc Cert.MlstmRefIdeal.main_arg4) = m ((c.tc : Thread Cert.MlstmIdeal.nD Cert.MlstmIdeal.τ).loc Cert.MlstmIdeal.main_arg4)
      ∧ m' ((c.tc : Thread Cert.MlstmRefIdeal.nD Cert.MlstmRefIdeal.τ).loc Cert.MlstmRefIdeal.main_arg5) = m ((c.tc : Thread Cert.MlstmIdeal.nD Cert.MlstmIdeal.τ).loc Cert.MlstmIdeal.main_arg5)) →
    ∃ (v0 : (c : Dev Cert.MlstmIdeal.nD) → Buf (Elt Ideal) ((c.tc : Thread Cert.MlstmIdeal.nD Cert.MlstmIdeal.τ).loc Cert.MlstmIdeal.main_v4_0)) (v1 : (c : Dev Cert.MlstmIdeal.nD) → Buf (Elt Ideal) ((c.tc : Thread Cert.MlstmIdeal.nD Cert.MlstmIdeal.τ).loc Cert.MlstmIdeal.main_v4_1)) (v2 : (c : Dev Cert.MlstmIdeal.nD) → Buf (Elt Ideal) ((c.tc : Thread Cert.MlstmIdeal.nD Cert.MlstmIdeal.τ).loc Cert.MlstmIdeal.main_v4_2)) (v3 : (c : Dev Cert.MlstmIdeal.nD) → Buf (Elt Ideal) ((c.tc : Thread Cert.MlstmIdeal.nD Cert.MlstmIdeal.τ).loc Cert.MlstmIdeal.main_v4_3)),
      θ_run (Cert.MlstmIdeal.defs (F := Ideal)) (onTc (τ := Cert.MlstmIdeal.τ) (Cert.MlstmIdeal.main (F := Ideal))) ⟨m, fun _ => 0, g⟩ (fun r => ∀ c : Dev Cert.MlstmIdeal.nD,
          r.2.mem ((c.tc : Thread Cert.MlstmIdeal.nD Cert.MlstmIdeal.τ).loc Cert.MlstmIdeal.main_v4_0) = v0 c
          ∧ r.2.mem ((c.tc : Thread Cert.MlstmIdeal.nD Cert.MlstmIdeal.τ).loc Cert.MlstmIdeal.main_v4_1) = v1 c
          ∧ r.2.mem ((c.tc : Thread Cert.MlstmIdeal.nD Cert.MlstmIdeal.τ).loc Cert.MlstmIdeal.main_v4_2) = v2 c
          ∧ r.2.mem ((c.tc : Thread Cert.MlstmIdeal.nD Cert.MlstmIdeal.τ).loc Cert.MlstmIdeal.main_v4_3) = v3 c
          ∧ r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
          ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
          ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
          ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
          ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
          ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5))
      ∧ θ_run (Cert.MlstmRefIdeal.defs (F := Ideal)) (onTc (τ := Cert.MlstmRefIdeal.τ) (Cert.MlstmRefIdeal.main (F := Ideal))) ⟨m', fun _ => 0, g'⟩ (fun r => ∀ c : Dev Cert.MlstmRefIdeal.nD,
          r.2.mem ((c.tc : Thread Cert.MlstmRefIdeal.nD Cert.MlstmRefIdeal.τ).loc Cert.MlstmRefIdeal.main_v136) = v0 c
          ∧ r.2.mem ((c.tc : Thread Cert.MlstmRefIdeal.nD Cert.MlstmRefIdeal.τ).loc Cert.MlstmRefIdeal.main_v98) = v1 c
          ∧ r.2.mem ((c.tc : Thread Cert.MlstmRefIdeal.nD Cert.MlstmRefIdeal.τ).loc Cert.MlstmRefIdeal.main_v137) = v2 c
          ∧ r.2.mem ((c.tc : Thread Cert.MlstmRefIdeal.nD Cert.MlstmRefIdeal.τ).loc Cert.MlstmRefIdeal.main_v138) = v3 c
          ∧ r.2.mem ((c.tc : Thread Cert.MlstmRefIdeal.nD Cert.MlstmRefIdeal.τ).loc Cert.MlstmRefIdeal.main_arg0) = m' ((c.tc : Thread Cert.MlstmRefIdeal.nD Cert.MlstmRefIdeal.τ).loc Cert.MlstmRefIdeal.main_arg0)
          ∧ r.2.mem ((c.tc : Thread Cert.MlstmRefIdeal.nD Cert.MlstmRefIdeal.τ).loc Cert.MlstmRefIdeal.main_arg1) = m' ((c.tc : Thread Cert.MlstmRefIdeal.nD Cert.MlstmRefIdeal.τ).loc Cert.MlstmRefIdeal.main_arg1)
          ∧ r.2.mem ((c.tc : Thread Cert.MlstmRefIdeal.nD Cert.MlstmRefIdeal.τ).loc Cert.MlstmRefIdeal.main_arg2) = m' ((c.tc : Thread Cert.MlstmRefIdeal.nD Cert.MlstmRefIdeal.τ).loc Cert.MlstmRefIdeal.main_arg2)
          ∧ r.2.mem ((c.tc : Thread Cert.MlstmRefIdeal.nD Cert.MlstmRefIdeal.τ).loc Cert.MlstmRefIdeal.main_arg3) = m' ((c.tc : Thread Cert.MlstmRefIdeal.nD Cert.MlstmRefIdeal.τ).loc Cert.MlstmRefIdeal.main_arg3)
          ∧ r.2.mem ((c.tc : Thread Cert.MlstmRefIdeal.nD Cert.MlstmRefIdeal.τ).loc Cert.MlstmRefIdeal.main_arg4) = m' ((c.tc : Thread Cert.MlstmRefIdeal.nD Cert.MlstmRefIdeal.τ).loc Cert.MlstmRefIdeal.main_arg4)
          ∧ r.2.mem ((c.tc : Thread Cert.MlstmRefIdeal.nD Cert.MlstmRefIdeal.τ).loc Cert.MlstmRefIdeal.main_arg5) = m' ((c.tc : Thread Cert.MlstmRefIdeal.nD Cert.MlstmRefIdeal.τ).loc Cert.MlstmRefIdeal.main_arg5))

def preserves_Compress_CompressIdeal : Prop :=
  True

def algebraic_CompressIdeal_CompressRefIdeal_pre_finite_weights [hCompressIdeal : Cert.CompressIdeal.Facts] [hCompressRefIdeal : Cert.CompressRefIdeal.Facts] [hPre_finite_weights : Cert.Pre_finite_weights.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressRefIdeal.nD Cert.CompressRefIdeal.τ Cert.CompressRefIdeal.sig) → Buf (Elt Ideal) ℓ) (g' : Dev Cert.CompressRefIdeal.nD → PrngReg), Pre_CompressIdeal_finite_weights m →
    (∀ c : Dev Cert.CompressIdeal.nD,
      m' ((c.tc : Thread Cert.CompressRefIdeal.nD Cert.CompressRefIdeal.τ).loc Cert.CompressRefIdeal.main_arg0) = m ((c.tc : Thread Cert.CompressIdeal.nD Cert.CompressIdeal.τ).loc Cert.CompressIdeal.main_arg0)
      ∧ m' ((c.tc : Thread Cert.CompressRefIdeal.nD Cert.CompressRefIdeal.τ).loc Cert.CompressRefIdeal.main_arg1) = m ((c.tc : Thread Cert.CompressIdeal.nD Cert.CompressIdeal.τ).loc Cert.CompressIdeal.main_arg1)
      ∧ m' ((c.tc : Thread Cert.CompressRefIdeal.nD Cert.CompressRefIdeal.τ).loc Cert.CompressRefIdeal.main_arg2) = m ((c.tc : Thread Cert.CompressIdeal.nD Cert.CompressIdeal.τ).loc Cert.CompressIdeal.main_arg2)
      ∧ m' ((c.tc : Thread Cert.CompressRefIdeal.nD Cert.CompressRefIdeal.τ).loc Cert.CompressRefIdeal.main_arg3) = m ((c.tc : Thread Cert.CompressIdeal.nD Cert.CompressIdeal.τ).loc Cert.CompressIdeal.main_arg3)) →
    ∃ (v0 : (c : Dev Cert.CompressIdeal.nD) → Buf (Elt Ideal) ((c.tc : Thread Cert.CompressIdeal.nD Cert.CompressIdeal.τ).loc Cert.CompressIdeal.main_v50)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v50) = v0 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3))
      ∧ θ_run (Cert.CompressRefIdeal.defs (F := Ideal)) (onTc (τ := Cert.CompressRefIdeal.τ) (Cert.CompressRefIdeal.main (F := Ideal))) ⟨m', fun _ => 0, g'⟩ (fun r => ∀ c : Dev Cert.CompressRefIdeal.nD,
          r.2.mem ((c.tc : Thread Cert.CompressRefIdeal.nD Cert.CompressRefIdeal.τ).loc Cert.CompressRefIdeal.main_v41) = v0 c
          ∧ r.2.mem ((c.tc : Thread Cert.CompressRefIdeal.nD Cert.CompressRefIdeal.τ).loc Cert.CompressRefIdeal.main_arg0) = m' ((c.tc : Thread Cert.CompressRefIdeal.nD Cert.CompressRefIdeal.τ).loc Cert.CompressRefIdeal.main_arg0)
          ∧ r.2.mem ((c.tc : Thread Cert.CompressRefIdeal.nD Cert.CompressRefIdeal.τ).loc Cert.CompressRefIdeal.main_arg1) = m' ((c.tc : Thread Cert.CompressRefIdeal.nD Cert.CompressRefIdeal.τ).loc Cert.CompressRefIdeal.main_arg1)
          ∧ r.2.mem ((c.tc : Thread Cert.CompressRefIdeal.nD Cert.CompressRefIdeal.τ).loc Cert.CompressRefIdeal.main_arg2) = m' ((c.tc : Thread Cert.CompressRefIdeal.nD Cert.CompressRefIdeal.τ).loc Cert.CompressRefIdeal.main_arg2)
          ∧ r.2.mem ((c.tc : Thread Cert.CompressRefIdeal.nD Cert.CompressRefIdeal.τ).loc Cert.CompressRefIdeal.main_arg3) = m' ((c.tc : Thread Cert.CompressRefIdeal.nD Cert.CompressRefIdeal.τ).loc Cert.CompressRefIdeal.main_arg3))

def preserves_InProjSample_InProjSampleIdeal : Prop :=
  True

def algebraic_InProjSampleIdeal_InProjSampleRefIdeal [hInProjSampleIdeal : Cert.InProjSampleIdeal.Facts] [hInProjSampleRefIdeal : Cert.InProjSampleRefIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg)
    (m' : (ℓ : Loc Cert.InProjSampleRefIdeal.nD Cert.InProjSampleRefIdeal.τ Cert.InProjSampleRefIdeal.sig) → Buf (Elt Ideal) ℓ) (g' : Dev Cert.InProjSampleRefIdeal.nD → PrngReg), Pre_InProjSampleIdeal m →
    (∀ c : Dev Cert.InProjSampleIdeal.nD,
      m' ((c.tc : Thread Cert.InProjSampleRefIdeal.nD Cert.InProjSampleRefIdeal.τ).loc Cert.InProjSampleRefIdeal.main_arg0) = m ((c.tc : Thread Cert.InProjSampleIdeal.nD Cert.InProjSampleIdeal.τ).loc Cert.InProjSampleIdeal.main_arg0)
      ∧ m' ((c.tc : Thread Cert.InProjSampleRefIdeal.nD Cert.InProjSampleRefIdeal.τ).loc Cert.InProjSampleRefIdeal.main_arg1) = m ((c.tc : Thread Cert.InProjSampleIdeal.nD Cert.InProjSampleIdeal.τ).loc Cert.InProjSampleIdeal.main_arg1)
      ∧ m' ((c.tc : Thread Cert.InProjSampleRefIdeal.nD Cert.InProjSampleRefIdeal.τ).loc Cert.InProjSampleRefIdeal.main_arg2) = m ((c.tc : Thread Cert.InProjSampleIdeal.nD Cert.InProjSampleIdeal.τ).loc Cert.InProjSampleIdeal.main_arg2)
      ∧ m' ((c.tc : Thread Cert.InProjSampleRefIdeal.nD Cert.InProjSampleRefIdeal.τ).loc Cert.InProjSampleRefIdeal.main_arg3) = m ((c.tc : Thread Cert.InProjSampleIdeal.nD Cert.InProjSampleIdeal.τ).loc Cert.InProjSampleIdeal.main_arg3)
      ∧ m' ((c.tc : Thread Cert.InProjSampleRefIdeal.nD Cert.InProjSampleRefIdeal.τ).loc Cert.InProjSampleRefIdeal.main_arg4) = m ((c.tc : Thread Cert.InProjSampleIdeal.nD Cert.InProjSampleIdeal.τ).loc Cert.InProjSampleIdeal.main_arg4)) →
    ∃ (v0 : (c : Dev Cert.InProjSampleIdeal.nD) → Buf (Elt Ideal) ((c.tc : Thread Cert.InProjSampleIdeal.nD Cert.InProjSampleIdeal.τ).loc Cert.InProjSampleIdeal.main_v17)) (v1 : (c : Dev Cert.InProjSampleIdeal.nD) → Buf (Elt Ideal) ((c.tc : Thread Cert.InProjSampleIdeal.nD Cert.InProjSampleIdeal.τ).loc Cert.InProjSampleIdeal.main_v21)),
      θ_run (Cert.InProjSampleIdeal.defs (F := Ideal)) (onTc (τ := Cert.InProjSampleIdeal.τ) (Cert.InProjSampleIdeal.main (F := Ideal))) ⟨m, fun _ => 0, g⟩ (fun r => ∀ c : Dev Cert.InProjSampleIdeal.nD,
          r.2.mem ((c.tc : Thread Cert.InProjSampleIdeal.nD Cert.InProjSampleIdeal.τ).loc Cert.InProjSampleIdeal.main_v17) = v0 c
          ∧ r.2.mem ((c.tc : Thread Cert.InProjSampleIdeal.nD Cert.InProjSampleIdeal.τ).loc Cert.InProjSampleIdeal.main_v21) = v1 c
          ∧ r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
          ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1)
          ∧ r.2.mem ((c.tc : Thread Cert.InProjSampleIdeal.nD Cert.InProjSampleIdeal.τ).loc Cert.InProjSampleIdeal.main_arg2) = m ((c.tc : Thread Cert.InProjSampleIdeal.nD Cert.InProjSampleIdeal.τ).loc Cert.InProjSampleIdeal.main_arg2)
          ∧ r.2.mem ((c.tc : Thread Cert.InProjSampleIdeal.nD Cert.InProjSampleIdeal.τ).loc Cert.InProjSampleIdeal.main_arg3) = m ((c.tc : Thread Cert.InProjSampleIdeal.nD Cert.InProjSampleIdeal.τ).loc Cert.InProjSampleIdeal.main_arg3)
          ∧ r.2.mem ((c.tc : Thread Cert.InProjSampleIdeal.nD Cert.InProjSampleIdeal.τ).loc Cert.InProjSampleIdeal.main_arg4) = m ((c.tc : Thread Cert.InProjSampleIdeal.nD Cert.InProjSampleIdeal.τ).loc Cert.InProjSampleIdeal.main_arg4))
      ∧ θ_run (Cert.InProjSampleRefIdeal.defs (F := Ideal)) (onTc (τ := Cert.InProjSampleRefIdeal.τ) (Cert.InProjSampleRefIdeal.main (F := Ideal))) ⟨m', fun _ => 0, g'⟩ (fun r => ∀ c : Dev Cert.InProjSampleRefIdeal.nD,
          r.2.mem ((c.tc : Thread Cert.InProjSampleRefIdeal.nD Cert.InProjSampleRefIdeal.τ).loc Cert.InProjSampleRefIdeal.main_v15) = v0 c
          ∧ r.2.mem ((c.tc : Thread Cert.InProjSampleRefIdeal.nD Cert.InProjSampleRefIdeal.τ).loc Cert.InProjSampleRefIdeal.main_v16) = v1 c
          ∧ r.2.mem ((c.tc : Thread Cert.InProjSampleRefIdeal.nD Cert.InProjSampleRefIdeal.τ).loc Cert.InProjSampleRefIdeal.main_arg0) = m' ((c.tc : Thread Cert.InProjSampleRefIdeal.nD Cert.InProjSampleRefIdeal.τ).loc Cert.InProjSampleRefIdeal.main_arg0)
          ∧ r.2.mem ((c.tc : Thread Cert.InProjSampleRefIdeal.nD Cert.InProjSampleRefIdeal.τ).loc Cert.InProjSampleRefIdeal.main_arg1) = m' ((c.tc : Thread Cert.InProjSampleRefIdeal.nD Cert.InProjSampleRefIdeal.τ).loc Cert.InProjSampleRefIdeal.main_arg1)
          ∧ r.2.mem ((c.tc : Thread Cert.InProjSampleRefIdeal.nD Cert.InProjSampleRefIdeal.τ).loc Cert.InProjSampleRefIdeal.main_arg2) = m' ((c.tc : Thread Cert.InProjSampleRefIdeal.nD Cert.InProjSampleRefIdeal.τ).loc Cert.InProjSampleRefIdeal.main_arg2)
          ∧ r.2.mem ((c.tc : Thread Cert.InProjSampleRefIdeal.nD Cert.InProjSampleRefIdeal.τ).loc Cert.InProjSampleRefIdeal.main_arg3) = m' ((c.tc : Thread Cert.InProjSampleRefIdeal.nD Cert.InProjSampleRefIdeal.τ).loc Cert.InProjSampleRefIdeal.main_arg3)
          ∧ r.2.mem ((c.tc : Thread Cert.InProjSampleRefIdeal.nD Cert.InProjSampleRefIdeal.τ).loc Cert.InProjSampleRefIdeal.main_arg4) = m' ((c.tc : Thread Cert.InProjSampleRefIdeal.nD Cert.InProjSampleRefIdeal.τ).loc Cert.InProjSampleRefIdeal.main_arg4))

def preserves_FfnSample_FfnSampleIdeal : Prop :=
  True

def algebraic_FfnSampleIdeal_FfnSampleRefIdeal [hFfnSampleIdeal : Cert.FfnSampleIdeal.Facts] [hFfnSampleRefIdeal : Cert.FfnSampleRefIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleRefIdeal.nD Cert.FfnSampleRefIdeal.τ Cert.FfnSampleRefIdeal.sig) → Buf (Elt Ideal) ℓ) (g' : Dev Cert.FfnSampleRefIdeal.nD → PrngReg), Pre_FfnSampleIdeal m →
    (∀ c : Dev Cert.FfnSampleIdeal.nD,
      m' ((c.tc : Thread Cert.FfnSampleRefIdeal.nD Cert.FfnSampleRefIdeal.τ).loc Cert.FfnSampleRefIdeal.main_arg0) = m ((c.tc : Thread Cert.FfnSampleIdeal.nD Cert.FfnSampleIdeal.τ).loc Cert.FfnSampleIdeal.main_arg0)
      ∧ m' ((c.tc : Thread Cert.FfnSampleRefIdeal.nD Cert.FfnSampleRefIdeal.τ).loc Cert.FfnSampleRefIdeal.main_arg1) = m ((c.tc : Thread Cert.FfnSampleIdeal.nD Cert.FfnSampleIdeal.τ).loc Cert.FfnSampleIdeal.main_arg1)
      ∧ m' ((c.tc : Thread Cert.FfnSampleRefIdeal.nD Cert.FfnSampleRefIdeal.τ).loc Cert.FfnSampleRefIdeal.main_arg2) = m ((c.tc : Thread Cert.FfnSampleIdeal.nD Cert.FfnSampleIdeal.τ).loc Cert.FfnSampleIdeal.main_arg2)
      ∧ m' ((c.tc : Thread Cert.FfnSampleRefIdeal.nD Cert.FfnSampleRefIdeal.τ).loc Cert.FfnSampleRefIdeal.main_arg3) = m ((c.tc : Thread Cert.FfnSampleIdeal.nD Cert.FfnSampleIdeal.τ).loc Cert.FfnSampleIdeal.main_arg3)
      ∧ m' ((c.tc : Thread Cert.FfnSampleRefIdeal.nD Cert.FfnSampleRefIdeal.τ).loc Cert.FfnSampleRefIdeal.main_arg4) = m ((c.tc : Thread Cert.FfnSampleIdeal.nD Cert.FfnSampleIdeal.τ).loc Cert.FfnSampleIdeal.main_arg4)
      ∧ m' ((c.tc : Thread Cert.FfnSampleRefIdeal.nD Cert.FfnSampleRefIdeal.τ).loc Cert.FfnSampleRefIdeal.main_arg5) = m ((c.tc : Thread Cert.FfnSampleIdeal.nD Cert.FfnSampleIdeal.τ).loc Cert.FfnSampleIdeal.main_arg5)
      ∧ m' ((c.tc : Thread Cert.FfnSampleRefIdeal.nD Cert.FfnSampleRefIdeal.τ).loc Cert.FfnSampleRefIdeal.main_arg6) = m ((c.tc : Thread Cert.FfnSampleIdeal.nD Cert.FfnSampleIdeal.τ).loc Cert.FfnSampleIdeal.main_arg6)
      ∧ m' ((c.tc : Thread Cert.FfnSampleRefIdeal.nD Cert.FfnSampleRefIdeal.τ).loc Cert.FfnSampleRefIdeal.main_arg7) = m ((c.tc : Thread Cert.FfnSampleIdeal.nD Cert.FfnSampleIdeal.τ).loc Cert.FfnSampleIdeal.main_arg7)) →
    ∃ (v0 : (c : Dev Cert.FfnSampleIdeal.nD) → Buf (Elt Ideal) ((c.tc : Thread Cert.FfnSampleIdeal.nD Cert.FfnSampleIdeal.τ).loc Cert.FfnSampleIdeal.main_v16)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v16) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
          ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
          ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7))
      ∧ θ_run (Cert.FfnSampleRefIdeal.defs (F := Ideal)) (onTc (τ := Cert.FfnSampleRefIdeal.τ) (Cert.FfnSampleRefIdeal.main (F := Ideal))) ⟨m', fun _ => 0, g'⟩ (fun r => ∀ c : Dev Cert.FfnSampleRefIdeal.nD,
          r.2.mem ((c.tc : Thread Cert.FfnSampleRefIdeal.nD Cert.FfnSampleRefIdeal.τ).loc Cert.FfnSampleRefIdeal.main_v40) = v0 c
          ∧ r.2.mem ((c.tc : Thread Cert.FfnSampleRefIdeal.nD Cert.FfnSampleRefIdeal.τ).loc Cert.FfnSampleRefIdeal.main_arg0) = m' ((c.tc : Thread Cert.FfnSampleRefIdeal.nD Cert.FfnSampleRefIdeal.τ).loc Cert.FfnSampleRefIdeal.main_arg0)
          ∧ r.2.mem ((c.tc : Thread Cert.FfnSampleRefIdeal.nD Cert.FfnSampleRefIdeal.τ).loc Cert.FfnSampleRefIdeal.main_arg1) = m' ((c.tc : Thread Cert.FfnSampleRefIdeal.nD Cert.FfnSampleRefIdeal.τ).loc Cert.FfnSampleRefIdeal.main_arg1)
          ∧ r.2.mem ((c.tc : Thread Cert.FfnSampleRefIdeal.nD Cert.FfnSampleRefIdeal.τ).loc Cert.FfnSampleRefIdeal.main_arg2) = m' ((c.tc : Thread Cert.FfnSampleRefIdeal.nD Cert.FfnSampleRefIdeal.τ).loc Cert.FfnSampleRefIdeal.main_arg2)
          ∧ r.2.mem ((c.tc : Thread Cert.FfnSampleRefIdeal.nD Cert.FfnSampleRefIdeal.τ).loc Cert.FfnSampleRefIdeal.main_arg3) = m' ((c.tc : Thread Cert.FfnSampleRefIdeal.nD Cert.FfnSampleRefIdeal.τ).loc Cert.FfnSampleRefIdeal.main_arg3)
          ∧ r.2.mem ((c.tc : Thread Cert.FfnSampleRefIdeal.nD Cert.FfnSampleRefIdeal.τ).loc Cert.FfnSampleRefIdeal.main_arg4) = m' ((c.tc : Thread Cert.FfnSampleRefIdeal.nD Cert.FfnSampleRefIdeal.τ).loc Cert.FfnSampleRefIdeal.main_arg4)
          ∧ r.2.mem ((c.tc : Thread Cert.FfnSampleRefIdeal.nD Cert.FfnSampleRefIdeal.τ).loc Cert.FfnSampleRefIdeal.main_arg5) = m' ((c.tc : Thread Cert.FfnSampleRefIdeal.nD Cert.FfnSampleRefIdeal.τ).loc Cert.FfnSampleRefIdeal.main_arg5)
          ∧ r.2.mem ((c.tc : Thread Cert.FfnSampleRefIdeal.nD Cert.FfnSampleRefIdeal.τ).loc Cert.FfnSampleRefIdeal.main_arg6) = m' ((c.tc : Thread Cert.FfnSampleRefIdeal.nD Cert.FfnSampleRefIdeal.τ).loc Cert.FfnSampleRefIdeal.main_arg6)
          ∧ r.2.mem ((c.tc : Thread Cert.FfnSampleRefIdeal.nD Cert.FfnSampleRefIdeal.τ).loc Cert.FfnSampleRefIdeal.main_arg7) = m' ((c.tc : Thread Cert.FfnSampleRefIdeal.nD Cert.FfnSampleRefIdeal.τ).loc Cert.FfnSampleRefIdeal.main_arg7))

def preserves_OutProjSample_OutProjSampleIdeal : Prop :=
  True

def algebraic_OutProjSampleIdeal_OutProjSampleRefIdeal [hOutProjSampleIdeal : Cert.OutProjSampleIdeal.Facts] [hOutProjSampleRefIdeal : Cert.OutProjSampleRefIdeal.Facts] : Prop :=
  ∀ (m : (ℓ : Loc Cert.OutProjSampleIdeal.nD Cert.OutProjSampleIdeal.τ Cert.OutProjSampleIdeal.sig) → Buf (Elt Ideal) ℓ) (g : Dev Cert.OutProjSampleIdeal.nD → PrngReg)
    (m' : (ℓ : Loc Cert.OutProjSampleRefIdeal.nD Cert.OutProjSampleRefIdeal.τ Cert.OutProjSampleRefIdeal.sig) → Buf (Elt Ideal) ℓ) (g' : Dev Cert.OutProjSampleRefIdeal.nD → PrngReg), Pre_OutProjSampleIdeal m →
    (∀ c : Dev Cert.OutProjSampleIdeal.nD,
      m' ((c.tc : Thread Cert.OutProjSampleRefIdeal.nD Cert.OutProjSampleRefIdeal.τ).loc Cert.OutProjSampleRefIdeal.main_arg0) = m ((c.tc : Thread Cert.OutProjSampleIdeal.nD Cert.OutProjSampleIdeal.τ).loc Cert.OutProjSampleIdeal.main_arg0)
      ∧ m' ((c.tc : Thread Cert.OutProjSampleRefIdeal.nD Cert.OutProjSampleRefIdeal.τ).loc Cert.OutProjSampleRefIdeal.main_arg1) = m ((c.tc : Thread Cert.OutProjSampleIdeal.nD Cert.OutProjSampleIdeal.τ).loc Cert.OutProjSampleIdeal.main_arg1)
      ∧ m' ((c.tc : Thread Cert.OutProjSampleRefIdeal.nD Cert.OutProjSampleRefIdeal.τ).loc Cert.OutProjSampleRefIdeal.main_arg2) = m ((c.tc : Thread Cert.OutProjSampleIdeal.nD Cert.OutProjSampleIdeal.τ).loc Cert.OutProjSampleIdeal.main_arg2)
      ∧ m' ((c.tc : Thread Cert.OutProjSampleRefIdeal.nD Cert.OutProjSampleRefIdeal.τ).loc Cert.OutProjSampleRefIdeal.main_arg3) = m ((c.tc : Thread Cert.OutProjSampleIdeal.nD Cert.OutProjSampleIdeal.τ).loc Cert.OutProjSampleIdeal.main_arg3)
      ∧ m' ((c.tc : Thread Cert.OutProjSampleRefIdeal.nD Cert.OutProjSampleRefIdeal.τ).loc Cert.OutProjSampleRefIdeal.main_arg4) = m ((c.tc : Thread Cert.OutProjSampleIdeal.nD Cert.OutProjSampleIdeal.τ).loc Cert.OutProjSampleIdeal.main_arg4)
      ∧ m' ((c.tc : Thread Cert.OutProjSampleRefIdeal.nD Cert.OutProjSampleRefIdeal.τ).loc Cert.OutProjSampleRefIdeal.main_arg5) = m ((c.tc : Thread Cert.OutProjSampleIdeal.nD Cert.OutProjSampleIdeal.τ).loc Cert.OutProjSampleIdeal.main_arg5)
      ∧ m' ((c.tc : Thread Cert.OutProjSampleRefIdeal.nD Cert.OutProjSampleRefIdeal.τ).loc Cert.OutProjSampleRefIdeal.main_arg6) = m ((c.tc : Thread Cert.OutProjSampleIdeal.nD Cert.OutProjSampleIdeal.τ).loc Cert.OutProjSampleIdeal.main_arg6)) →
    ∃ (v0 : (c : Dev Cert.OutProjSampleIdeal.nD) → Buf (Elt Ideal) ((c.tc : Thread Cert.OutProjSampleIdeal.nD Cert.OutProjSampleIdeal.τ).loc Cert.OutProjSampleIdeal.main_v7)),
      θ_run (Cert.OutProjSampleIdeal.defs (F := Ideal)) (onTc (τ := Cert.OutProjSampleIdeal.τ) (Cert.OutProjSampleIdeal.main (F := Ideal))) ⟨m, fun _ => 0, g⟩ (fun r => ∀ c : Dev Cert.OutProjSampleIdeal.nD,
          r.2.mem ((c.tc : Thread Cert.OutProjSampleIdeal.nD Cert.OutProjSampleIdeal.τ).loc Cert.OutProjSampleIdeal.main_v7) = v0 c
          ∧ r.2.mem ((c.tc : Thread Cert.OutProjSampleIdeal.nD Cert.OutProjSampleIdeal.τ).loc Cert.OutProjSampleIdeal.main_arg0) = m ((c.tc : Thread Cert.OutProjSampleIdeal.nD Cert.OutProjSampleIdeal.τ).loc Cert.OutProjSampleIdeal.main_arg0)
          ∧ r.2.mem ((c.tc : Thread Cert.OutProjSampleIdeal.nD Cert.OutProjSampleIdeal.τ).loc Cert.OutProjSampleIdeal.main_arg1) = m ((c.tc : Thread Cert.OutProjSampleIdeal.nD Cert.OutProjSampleIdeal.τ).loc Cert.OutProjSampleIdeal.main_arg1)
          ∧ r.2.mem ((c.tc : Thread Cert.OutProjSampleIdeal.nD Cert.OutProjSampleIdeal.τ).loc Cert.OutProjSampleIdeal.main_arg2) = m ((c.tc : Thread Cert.OutProjSampleIdeal.nD Cert.OutProjSampleIdeal.τ).loc Cert.OutProjSampleIdeal.main_arg2)
          ∧ r.2.mem ((c.tc : Thread Cert.OutProjSampleIdeal.nD Cert.OutProjSampleIdeal.τ).loc Cert.OutProjSampleIdeal.main_arg3) = m ((c.tc : Thread Cert.OutProjSampleIdeal.nD Cert.OutProjSampleIdeal.τ).loc Cert.OutProjSampleIdeal.main_arg3)
          ∧ r.2.mem ((c.tc : Thread Cert.OutProjSampleIdeal.nD Cert.OutProjSampleIdeal.τ).loc Cert.OutProjSampleIdeal.main_arg4) = m ((c.tc : Thread Cert.OutProjSampleIdeal.nD Cert.OutProjSampleIdeal.τ).loc Cert.OutProjSampleIdeal.main_arg4)
          ∧ r.2.mem ((c.tc : Thread Cert.OutProjSampleIdeal.nD Cert.OutProjSampleIdeal.τ).loc Cert.OutProjSampleIdeal.main_arg5) = m ((c.tc : Thread Cert.OutProjSampleIdeal.nD Cert.OutProjSampleIdeal.τ).loc Cert.OutProjSampleIdeal.main_arg5)
          ∧ r.2.mem ((c.tc : Thread Cert.OutProjSampleIdeal.nD Cert.OutProjSampleIdeal.τ).loc Cert.OutProjSampleIdeal.main_arg6) = m ((c.tc : Thread Cert.OutProjSampleIdeal.nD Cert.OutProjSampleIdeal.τ).loc Cert.OutProjSampleIdeal.main_arg6))
      ∧ θ_run (Cert.OutProjSampleRefIdeal.defs (F := Ideal)) (onTc (τ := Cert.OutProjSampleRefIdeal.τ) (Cert.OutProjSampleRefIdeal.main (F := Ideal))) ⟨m', fun _ => 0, g'⟩ (fun r => ∀ c : Dev Cert.OutProjSampleRefIdeal.nD,
          r.2.mem ((c.tc : Thread Cert.OutProjSampleRefIdeal.nD Cert.OutProjSampleRefIdeal.τ).loc Cert.OutProjSampleRefIdeal.main_v36) = v0 c
          ∧ r.2.mem ((c.tc : Thread Cert.OutProjSampleRefIdeal.nD Cert.OutProjSampleRefIdeal.τ).loc Cert.OutProjSampleRefIdeal.main_arg0) = m' ((c.tc : Thread Cert.OutProjSampleRefIdeal.nD Cert.OutProjSampleRefIdeal.τ).loc Cert.OutProjSampleRefIdeal.main_arg0)
          ∧ r.2.mem ((c.tc : Thread Cert.OutProjSampleRefIdeal.nD Cert.OutProjSampleRefIdeal.τ).loc Cert.OutProjSampleRefIdeal.main_arg1) = m' ((c.tc : Thread Cert.OutProjSampleRefIdeal.nD Cert.OutProjSampleRefIdeal.τ).loc Cert.OutProjSampleRefIdeal.main_arg1)
          ∧ r.2.mem ((c.tc : Thread Cert.OutProjSampleRefIdeal.nD Cert.OutProjSampleRefIdeal.τ).loc Cert.OutProjSampleRefIdeal.main_arg2) = m' ((c.tc : Thread Cert.OutProjSampleRefIdeal.nD Cert.OutProjSampleRefIdeal.τ).loc Cert.OutProjSampleRefIdeal.main_arg2)
          ∧ r.2.mem ((c.tc : Thread Cert.OutProjSampleRefIdeal.nD Cert.OutProjSampleRefIdeal.τ).loc Cert.OutProjSampleRefIdeal.main_arg3) = m' ((c.tc : Thread Cert.OutProjSampleRefIdeal.nD Cert.OutProjSampleRefIdeal.τ).loc Cert.OutProjSampleRefIdeal.main_arg3)
          ∧ r.2.mem ((c.tc : Thread Cert.OutProjSampleRefIdeal.nD Cert.OutProjSampleRefIdeal.τ).loc Cert.OutProjSampleRefIdeal.main_arg4) = m' ((c.tc : Thread Cert.OutProjSampleRefIdeal.nD Cert.OutProjSampleRefIdeal.τ).loc Cert.OutProjSampleRefIdeal.main_arg4)
          ∧ r.2.mem ((c.tc : Thread Cert.OutProjSampleRefIdeal.nD Cert.OutProjSampleRefIdeal.τ).loc Cert.OutProjSampleRefIdeal.main_arg5) = m' ((c.tc : Thread Cert.OutProjSampleRefIdeal.nD Cert.OutProjSampleRefIdeal.τ).loc Cert.OutProjSampleRefIdeal.main_arg5)
          ∧ r.2.mem ((c.tc : Thread Cert.OutProjSampleRefIdeal.nD Cert.OutProjSampleRefIdeal.τ).loc Cert.OutProjSampleRefIdeal.main_arg6) = m' ((c.tc : Thread Cert.OutProjSampleRefIdeal.nD Cert.OutProjSampleRefIdeal.τ).loc Cert.OutProjSampleRefIdeal.main_arg6))

def Claim : Prop :=
  ∃ (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hFfn : Cert.Ffn.Facts) (hFfnIdeal : Cert.FfnIdeal.Facts) (hFfnRefIdeal : Cert.FfnRefIdeal.Facts) (hMlstm : Cert.Mlstm.Facts) (hMlstmIdeal : Cert.MlstmIdeal.Facts) (hMlstmRefIdeal : Cert.MlstmRefIdeal.Facts) (hCompress : Cert.Compress.Facts) (hCompressIdeal : Cert.CompressIdeal.Facts) (hCompressRefIdeal : Cert.CompressRefIdeal.Facts) (hInProjSample : Cert.InProjSample.Facts) (hInProjSampleIdeal : Cert.InProjSampleIdeal.Facts) (hInProjSampleRefIdeal : Cert.InProjSampleRefIdeal.Facts) (hFfnSample : Cert.FfnSample.Facts) (hFfnSampleIdeal : Cert.FfnSampleIdeal.Facts) (hFfnSampleRefIdeal : Cert.FfnSampleRefIdeal.Facts) (hOutProjSample : Cert.OutProjSample.Facts) (hOutProjSampleIdeal : Cert.OutProjSampleIdeal.Facts) (hOutProjSampleRefIdeal : Cert.OutProjSampleRefIdeal.Facts) (hPre_finite_gates : Cert.Pre_finite_gates.Facts) (hPre_finite_weights : Cert.Pre_finite_weights.Facts),
    quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Mlstm (hMlstm := hMlstm)
    ∧ quiescent_MlstmIdeal (hMlstmIdeal := hMlstmIdeal)
    ∧ quiescent_MlstmIdeal_pre_finite_gates (hMlstmIdeal := hMlstmIdeal) (hPre_finite_gates := hPre_finite_gates)
    ∧ quiescent_MlstmRefIdeal (hMlstmRefIdeal := hMlstmRefIdeal)
    ∧ quiescent_MlstmRefIdeal_pre_finite_gates (hMlstmRefIdeal := hMlstmRefIdeal) (hPre_finite_gates := hPre_finite_gates)
    ∧ quiescent_Compress (hCompress := hCompress)
    ∧ quiescent_CompressIdeal (hCompressIdeal := hCompressIdeal)
    ∧ quiescent_CompressIdeal_pre_finite_weights (hCompressIdeal := hCompressIdeal) (hPre_finite_weights := hPre_finite_weights)
    ∧ quiescent_CompressRefIdeal (hCompressRefIdeal := hCompressRefIdeal)
    ∧ quiescent_CompressRefIdeal_pre_finite_weights (hCompressRefIdeal := hCompressRefIdeal) (hPre_finite_weights := hPre_finite_weights)
    ∧ quiescent_InProjSample (hInProjSample := hInProjSample)
    ∧ quiescent_InProjSampleIdeal (hInProjSampleIdeal := hInProjSampleIdeal)
    ∧ quiescent_InProjSampleRefIdeal (hInProjSampleRefIdeal := hInProjSampleRefIdeal)
    ∧ quiescent_FfnSample (hFfnSample := hFfnSample)
    ∧ quiescent_FfnSampleIdeal (hFfnSampleIdeal := hFfnSampleIdeal)
    ∧ quiescent_FfnSampleRefIdeal (hFfnSampleRefIdeal := hFfnSampleRefIdeal)
    ∧ quiescent_OutProjSample (hOutProjSample := hOutProjSample)
    ∧ quiescent_OutProjSampleIdeal (hOutProjSampleIdeal := hOutProjSampleIdeal)
    ∧ quiescent_OutProjSampleRefIdeal (hOutProjSampleRefIdeal := hOutProjSampleRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Ffn_FfnIdeal
    ∧ algebraic_FfnIdeal_FfnRefIdeal (hFfnIdeal := hFfnIdeal) (hFfnRefIdeal := hFfnRefIdeal)
    ∧ preserves_Mlstm_MlstmIdeal
    ∧ algebraic_MlstmIdeal_MlstmRefIdeal_pre_finite_gates (hMlstmIdeal := hMlstmIdeal) (hMlstmRefIdeal := hMlstmRefIdeal) (hPre_finite_gates := hPre_finite_gates)
    ∧ preserves_Compress_CompressIdeal
    ∧ algebraic_CompressIdeal_CompressRefIdeal_pre_finite_weights (hCompressIdeal := hCompressIdeal) (hCompressRefIdeal := hCompressRefIdeal) (hPre_finite_weights := hPre_finite_weights)
    ∧ preserves_InProjSample_InProjSampleIdeal
    ∧ algebraic_InProjSampleIdeal_InProjSampleRefIdeal (hInProjSampleIdeal := hInProjSampleIdeal) (hInProjSampleRefIdeal := hInProjSampleRefIdeal)
    ∧ preserves_FfnSample_FfnSampleIdeal
    ∧ algebraic_FfnSampleIdeal_FfnSampleRefIdeal (hFfnSampleIdeal := hFfnSampleIdeal) (hFfnSampleRefIdeal := hFfnSampleRefIdeal)
    ∧ preserves_OutProjSample_OutProjSampleIdeal
    ∧ algebraic_OutProjSampleIdeal_OutProjSampleRefIdeal (hOutProjSampleIdeal := hOutProjSampleIdeal) (hOutProjSampleRefIdeal := hOutProjSampleRefIdeal)
-- ==== Pre_finite_gates.lean ====
abbrev S128x4x3456 : Shape := ⟨3, ![128, 4, 3456]⟩
abbrev S8 : Shape := ⟨1, ![8]⟩
abbrev S512 : Shape := ⟨1, ![512]⟩
abbrev S128x4x128x128 : Shape := ⟨4, ![128, 4, 128, 128]⟩
abbrev S128x4x128 : Shape := ⟨3, ![128, 4, 128]⟩
abbrev S128x4 : Shape := ⟨2, ![128, 4]⟩
abbrev S128x4x8 : Shape := ⟨3, ![128, 4, 8]⟩
abbrev S_ : Shape := ⟨0, ![]⟩

class Facts : Prop where
  slices_S128x4x3456_S128x4x8_0_0_3328 : S128x4x3456.Slices ![0, 0, 3328] S128x4x8
  bcast_S_S128x4x8 : S_.BroadcastsInDim S128x4x8 (![] : Fin 0 → Fin S128x4x8.rank)
  bcast_S_S8 : S_.BroadcastsInDim S8 (![] : Fin 0 → Fin S8.rank)
  bcast_S_S128x4 : S_.BroadcastsInDim S128x4 (![] : Fin 0 → Fin S128x4.rank)

variable [Facts]

def fn {F : FTy → Type} [FloatOps F] (main_arg0 : FVec F S128x4x3456 .f32) (main_arg1 : FVec F S8 .f32) (main_arg2 : FVec F S512 .f32) (main_arg3 : FVec F S128x4x128x128 .f32) (main_arg4 : FVec F S128x4x128 .f32) (main_arg5 : FVec F S128x4 .f32) : IVec S128x4x8 1 × IVec S8 1 × IVec S128x4 1 :=
  let main_v0 : FVec F S128x4x8 .f32 := (extractStridedSlice S128x4x8 ![0, 0, 3328] · slices_S128x4x3456_S128x4x8_0_0_3328) main_arg0
  let main_v1 : FVec F S128x4x8 .f32 := Host.absf main_v0
  let main_cst : FVec F S_ .f32 := constant S_ .f32 0x7F7FFFFF#32
  let main_v2 : FVec F S128x4x8 .f32 := broadcastInDim S128x4x8 ![] bcast_S_S128x4x8 main_cst
  let main_v3 : IVec S128x4x8 1 := cmpf .ole main_v1 main_v2
  let main_v4 : FVec F S8 .f32 := Host.absf main_arg1
  let main_cst_0 : FVec F S_ .f32 := constant S_ .f32 0x7F7FFFFF#32
  let main_v5 : FVec F S8 .f32 := broadcastInDim S8 ![] bcast_S_S8 main_cst_0
  let main_v6 : IVec S8 1 := cmpf .ole main_v4 main_v5
  let main_v7 : FVec F S128x4 .f32 := Host.absf main_arg5
  let main_cst_1 : FVec F S_ .f32 := constant S_ .f32 0x7F7FFFFF#32
  let main_v8 : FVec F S128x4 .f32 := broadcastInDim S128x4 ![] bcast_S_S128x4 main_cst_1
  let main_v9 : IVec S128x4 1 := cmpf .ole main_v7 main_v8
  (main_v3, main_v6, main_v9)
-- ==== Pre_finite_weights.lean ====
abbrev S2x8192x3456 : Shape := ⟨3, ![2, 8192, 3456]⟩
abbrev S2x32x64 : Shape := ⟨3, ![2, 32, 64]⟩
abbrev S2x2048x256 : Shape := ⟨3, ![2, 2048, 256]⟩
abbrev S2x256x64 : Shape := ⟨3, ![2, 256, 64]⟩
abbrev S_ : Shape := ⟨0, ![]⟩

class Facts : Prop where
  bcast_S_S2x32x64 : S_.BroadcastsInDim S2x32x64 (![] : Fin 0 → Fin S2x32x64.rank)
  bcast_S_S2x2048x256 : S_.BroadcastsInDim S2x2048x256 (![] : Fin 0 → Fin S2x2048x256.rank)

variable [Facts]

def fn {F : FTy → Type} [FloatOps F] (main_arg0 : FVec F S2x8192x3456 .f32) (main_arg1 : FVec F S2x32x64 .f32) (main_arg2 : FVec F S2x2048x256 .f32) (main_arg3 : FVec F S2x256x64 .f32) : IVec S2x32x64 1 × IVec S2x2048x256 1 :=
  let main_v0 : FVec F S2x32x64 .f32 := Host.absf main_arg1
  let main_cst : FVec F S_ .f32 := constant S_ .f32 0x7F7FFFFF#32
  let main_v1 : FVec F S2x32x64 .f32 := broadcastInDim S2x32x64 ![] bcast_S_S2x32x64 main_cst
  let main_v2 : IVec S2x32x64 1 := cmpf .ole main_v0 main_v1
  let main_v3 : FVec F S2x2048x256 .f32 := Host.absf main_arg2
  let main_cst_0 : FVec F S_ .f32 := constant S_ .f32 0x7F7FFFFF#32
  let main_v4 : FVec F S2x2048x256 .f32 := broadcastInDim S2x2048x256 ![] bcast_S_S2x2048x256 main_cst_0
  let main_v5 : IVec S2x2048x256 1 := cmpf .ole main_v3 main_v4
  (main_v2, main_v5)
-- ==== InProj.lean ====
abbrev S16384x1024 : Shape := ⟨2, ![16384, 1024]⟩
abbrev S2x1x1024 : Shape := ⟨3, ![2, 1, 1024]⟩
abbrev S1024x3360 : Shape := ⟨2, ![1024, 3360]⟩
abbrev S3360 : Shape := ⟨1, ![3360]⟩
abbrev S_ : Shape := ⟨0, ![]⟩
abbrev S3360x1 : Shape := ⟨2, ![3360, 1]⟩
abbrev S1024x3456 : Shape := ⟨2, ![1024, 3456]⟩
abbrev S16384x3456 : Shape := ⟨2, ![16384, 3456]⟩
abbrev S512x1024 : Shape := ⟨2, ![512, 1024]⟩
abbrev S1x1x1024 : Shape := ⟨3, ![1, 1, 1024]⟩
abbrev S1024x1152 : Shape := ⟨2, ![1024, 1152]⟩
abbrev S512x1152 : Shape := ⟨2, ![512, 1152]⟩
abbrev S1x1024 : Shape := ⟨2, ![1, 1024]⟩

abbrev nBuf : Space → Nat
  | .hbm => 17
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S2x1x1024, .f32⟩
  | .hbm, ⟨3, _⟩ => ⟨S1024x3360, .f32⟩
  | .hbm, ⟨4, _⟩ => ⟨S3360, .i32⟩
  | .hbm, ⟨5, _⟩ => ⟨S3360, .i1⟩
  | .hbm, ⟨6, _⟩ => ⟨S_, .i32⟩
  | .hbm, ⟨7, _⟩ => ⟨S3360, .i32⟩
  | .hbm, ⟨8, _⟩ => ⟨S3360, .i32⟩
  | .hbm, ⟨9, _⟩ => ⟨S3360, .i32⟩
  | .hbm, ⟨10, _⟩ => ⟨S3360x1, .i32⟩
  | .hbm, ⟨11, _⟩ => ⟨S1024x3360, .f32⟩
  | .hbm, ⟨12, _⟩ => ⟨S_, .i32⟩
  | .hbm, ⟨13, _⟩ => ⟨S_, .f32⟩
  | .hbm, ⟨14, _⟩ => ⟨S1024x3456, .f32⟩
  | .hbm, ⟨15, _⟩ => ⟨S1024x3456, .bf16⟩
  | .hbm, ⟨16, _⟩ => ⟨S16384x3456, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1152, .bf16⟩
  | .local _ .vmem, ⟨7, _⟩ => ⟨S1024x1152, .bf16⟩
  | .local _ .vmem, ⟨8, _⟩ => ⟨S512x1152, .f32⟩
  | .local _ .vmem, ⟨9, _⟩ => ⟨S512x1152, .f32⟩
  | .local _ .vmem, ⟨10, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_2 : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S16384x1024 : Shape := ⟨2, ![16384, 1024]⟩
abbrev S2x1x1024 : Shape := ⟨3, ![2, 1, 1024]⟩
abbrev S1024x3360 : Shape := ⟨2, ![1024, 3360]⟩
abbrev S2x8192x1024 : Shape := ⟨3, ![2, 8192, 1024]⟩
abbrev S_ : Shape := ⟨0, ![]⟩
abbrev S2x8192x3360 : Shape := ⟨3, ![2, 8192, 3360]⟩
abbrev S2x8192x2048 : Shape := ⟨3, ![2, 8192, 2048]⟩
abbrev S2x8192x1280 : Shape := ⟨3, ![2, 8192, 1280]⟩
abbrev S2x8192x8 : Shape := ⟨3, ![2, 8192, 8]⟩
abbrev S2x8192x24 : Shape := ⟨3, ![2, 8192, 24]⟩
abbrev S2x8192x3456 : Shape := ⟨3, ![2, 8192, 3456]⟩
abbrev S16384x3456 : Shape := ⟨2, ![16384, 3456]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S2x1x1024, .f32⟩
  | .hbm, ⟨3, _⟩ => ⟨S1024x3360, .f32⟩
  | .hbm, ⟨4, _⟩ => ⟨S2x8192x1024, .f32⟩
  | .hbm, ⟨5, _⟩ => ⟨S_, .f32⟩
  | .hbm, ⟨6, _⟩ => ⟨S2x1x1024, .f32⟩
  | .hbm, ⟨7, _⟩ => ⟨S2x1x1024, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S2x8192x3360, .f32⟩
  | .hbm, ⟨13, _⟩ => ⟨S2x8192x2048, .f32⟩
  | .hbm, ⟨14, _⟩ => ⟨S2x8192x1280, .f32⟩
  | .hbm, ⟨15, _⟩ => ⟨S2x8192x8, .f32⟩
  | .hbm, ⟨16, _⟩ => ⟨S2x8192x24, .f32⟩
  | .hbm, ⟨17, _⟩ => ⟨S2x8192x3360, .f32⟩
  | .hbm, ⟨18, _⟩ => ⟨S_, .i32⟩
  | .hbm, ⟨19, _⟩ => ⟨S_, .f32⟩
  | .hbm, ⟨20, _⟩ => ⟨S2x8192x3456, .f32⟩
  | .hbm, ⟨21, _⟩ => ⟨S16384x3456, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== OutProj.lean ====
abbrev S16384x1024 : Shape := ⟨2, ![16384, 1024]⟩
abbrev S16384x512 : Shape := ⟨2, ![16384, 512]⟩
abbrev S1024x1024 : Shape := ⟨2, ![1024, 1024]⟩
abbrev S2x1x1024 : Shape := ⟨3, ![2, 1, 1024]⟩
abbrev S1024 : Shape := ⟨1, ![1024]⟩
abbrev S1x1024 : Shape := ⟨2, ![1, 1024]⟩
abbrev S512x1024 : Shape := ⟨2, ![512, 1024]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S2x1x1024, .f32⟩
  | .hbm, ⟨5, _⟩ => ⟨S1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutProjRefIdeal.lean ====
abbrev S16384x1024 : Shape := ⟨2, ![16384, 1024]⟩
abbrev S16384x512 : Shape := ⟨2, ![16384, 512]⟩
abbrev S1024x1024 : Shape := ⟨2, ![1024, 1024]⟩
abbrev S2x1x1024 : Shape := ⟨3, ![2, 1, 1024]⟩
abbrev S1024 : Shape := ⟨1, ![1024]⟩
abbrev S2x8192x1024 : Shape := ⟨3, ![2, 8192, 1024]⟩
abbrev S2x8192x512 : Shape := ⟨3, ![2, 8192, 512]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S2x1x1024, .f32⟩
  | .hbm, ⟨5, _⟩ => ⟨S1024, .f32⟩
  | .hbm, ⟨6, _⟩ => ⟨S1024, .f32⟩
  | .hbm, ⟨7, _⟩ => ⟨S2x8192x1024, .f32⟩
  | .hbm, ⟨8, _⟩ => ⟨S2x8192x512, .bf16⟩
  | .hbm, ⟨9, _⟩ => ⟨S2x8192x512, .f32⟩
  | .hbm, ⟨10, _⟩ => ⟨S2x8192x512, .bf16⟩
  | .hbm, ⟨11, _⟩ => ⟨S2x8192x512, .f32⟩
  | .hbm, ⟨12, _⟩ => ⟨S2x8192x1024, .f32⟩
  | .hbm, ⟨13, _⟩ => ⟨S2x8192x1024, .f32⟩
  | .hbm, ⟨14, _⟩ => ⟨S_, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S2x8192x1024, .f32⟩
  | .hbm, ⟨20, _⟩ => ⟨S_, .f32⟩
  | .hbm, ⟨21, _⟩ => ⟨S2x8192, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S_, .f32⟩
  | .hbm, ⟨30, _⟩ => ⟨S2x8192, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S2x8192x1024, .f32⟩
  | .hbm, ⟨36, _⟩ => ⟨S2x8192x1024, .f32⟩
  | .hbm, ⟨37, _⟩ => ⟨S_, .f32⟩
  | .hbm, ⟨38, _⟩ => ⟨S2x8192x1, .f32⟩
  | .hbm, ⟨39, _⟩ => ⟨S2x8192x1, .f32⟩
  | .hbm, ⟨40, _⟩ => ⟨S2x8192x1, .f32⟩
  | .hbm, ⟨41, _⟩ => ⟨S2x8192x1024, .f32⟩
  | .hbm, ⟨42, _⟩ => ⟨S2x8192x1024, .f32⟩
  | .hbm, ⟨43, _⟩ => ⟨S1x1x1024, .f32⟩
  | .hbm, ⟨44, _⟩ => ⟨S2x8192x1024, .f32⟩
  | .hbm, ⟨45, _⟩ => ⟨S2x8192x1024, .f32⟩
  | .hbm, ⟨46, _⟩ => ⟨S1x1x1024, .f32⟩
  | .hbm, ⟨47, _⟩ => ⟨S2x8192x1024, .f32⟩
  | .hbm, ⟨48, _⟩ => ⟨S2x8192x1024, .f32⟩
  | .hbm, ⟨49, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Ffn.lean ====
abbrev S16384x1024 : Shape := ⟨2, ![16384, 1024]⟩
abbrev S2x1x1024 : Shape := ⟨3, ![2, 1, 1024]⟩
abbrev S1024x4096 : Shape := ⟨2, ![1024, 4096]⟩
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S1x1x1024 : Shape := ⟨3, ![1, 1, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S1024x4096, .bf16⟩
  | .hbm, ⟨9, _⟩ => ⟨S4096x1024, .bf16⟩
  | .hbm, ⟨10, _⟩ => ⟨S1x1024, .f32⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x512, .bf16⟩
  | .local _ .vmem, ⟨9, _⟩ => ⟨S1024x512, .bf16⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnRefIdeal.lean ====
abbrev S16384x1024 : Shape := ⟨2, ![16384, 1024]⟩
abbrev S2x1x1024 : Shape := ⟨3, ![2, 1, 1024]⟩
abbrev S1024x4096 : Shape := ⟨2, ![1024, 4096]⟩
abbrev S4096x1024 : Shape := ⟨2, ![4096, 1024]⟩
abbrev S1024 : Shape := ⟨1, ![1024]⟩
abbrev S2x8192x1024 : Shape := ⟨3, ![2, 8192, 1024]⟩
abbrev S_ : Shape := ⟨0, ![]⟩
abbrev S2x8192x4096 : Shape := ⟨3, ![2, 8192, 4096]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S2x8192x1024, .f32⟩
  | .hbm, ⟨9, _⟩ => ⟨S_, .f32⟩
  | .hbm, ⟨10, _⟩ => ⟨S2x1x1024, .f32⟩
  | .hbm, ⟨11, _⟩ => ⟨S2x1x1024, .f32⟩
  | .hbm, ⟨12, _⟩ => ⟨S2x8192x1024, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S2x8192x4096, .f32⟩
  | .hbm, ⟨17, _⟩ => ⟨S_, .f32⟩
  | .hbm, ⟨18, _⟩ => ⟨S2x8192x4096, .f32⟩
  | .hbm, ⟨19, _⟩ => ⟨S2x8192x4096, .f32⟩
  | .hbm, ⟨20, _⟩ => ⟨S2x8192x4096, .f32⟩
  | .hbm, ⟨21, _⟩ => ⟨S2x8192x1024, .f32⟩
  | .hbm, ⟨22, _⟩ => ⟨S_, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S_, .f32⟩
  | .hbm, ⟨29, _⟩ => ⟨S2x8192, .f32⟩
  | .hbm, ⟨30, _⟩ => ⟨S2x8192x1, .f32⟩
  | .hbm, ⟨31, _⟩ => ⟨S_, .f32⟩
  | .hbm, ⟨32, _⟩ => ⟨S2x8192x1, .f32⟩
  | .hbm, ⟨33, _⟩ => ⟨S2x8192x1, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S_, .f32⟩
  | .hbm, ⟨38, _⟩ => ⟨S2x8192, .f32⟩
  | .hbm, ⟨39, _⟩ => ⟨S2x8192x1, .f32⟩
  | .hbm, ⟨40, _⟩ => ⟨S_, .f32⟩
  | .hbm, ⟨41, _⟩ => ⟨S2x8192x1, .f32⟩
  | .hbm, ⟨42, _⟩ => ⟨S2x8192x1, .f32⟩
  | .hbm, ⟨43, _⟩ => ⟨S2x8192x1024, .f32⟩
  | .hbm, ⟨44, _⟩ => ⟨S2x8192x1024, .f32⟩
  | .hbm, ⟨45, _⟩ => ⟨S_, .f32⟩
  | .hbm, ⟨46, _⟩ => ⟨S2x8192x1, .f32⟩
  | .hbm, ⟨47, _⟩ => ⟨S2x8192x1, .f32⟩
  | .hbm, ⟨48, _⟩ => ⟨S2x8192x1, .f32⟩
  | .hbm, ⟨49, _⟩ => ⟨S2x8192x1024, .f32⟩
  | .hbm, ⟨50, _⟩ => ⟨S2x8192x1024, .f32⟩
  | .hbm, ⟨51, _⟩ => ⟨S1x1x1024, .f32⟩
  | .hbm, ⟨52, _⟩ => ⟨S2x8192x1024, .f32⟩
  | .hbm, ⟨53, _⟩ => ⟨S2x8192x1024, .f32⟩
  | .hbm, ⟨54, _⟩ => ⟨S1x1x1024, .f32⟩
  | .hbm, ⟨55, _⟩ => ⟨S2x8192x1024, .f32⟩
  | .hbm, ⟨56, _⟩ => ⟨S2x8192x1024, .f32⟩
  | .hbm, ⟨57, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== Mlstm.lean ====
abbrev S128x4x3456 : Shape := ⟨3, ![128, 4, 3456]⟩
abbrev S8 : Shape := ⟨1, ![8]⟩
abbrev S512 : Shape := ⟨1, ![512]⟩
abbrev S128x4x128x128 : Shape := ⟨4, ![128, 4, 128, 128]⟩
abbrev S128x4x128 : Shape := ⟨3, ![128, 4, 128]⟩
abbrev S128x4 : Shape := ⟨2, ![128, 4]⟩
abbrev S_ : Shape := ⟨0, ![]⟩
abbrev S128x16x3456 : Shape := ⟨3, ![128, 16, 3456]⟩
abbrev S1x512 : Shape := ⟨2, ![1, 512]⟩
abbrev S128x4x1x128 : Shape := ⟨4, ![128, 4, 1, 128]⟩
abbrev S128x4x1x1 : Shape := ⟨4, ![128, 4, 1, 1]⟩
abbrev S128x16x512 : Shape := ⟨3, ![128, 16, 512]⟩
abbrev S8x16x512 : Shape := ⟨3, ![8, 16, 512]⟩
abbrev S8x16x128 : Shape := ⟨3, ![8, 16, 128]⟩
abbrev S8x4x128x128 : Shape := ⟨4, ![8, 4, 128, 128]⟩
abbrev S8x4x1x128 : Shape := ⟨4, ![8, 4, 1, 128]⟩
abbrev S8x4x1x1 : Shape := ⟨4, ![8, 4, 1, 1]⟩
abbrev S16x16 : Shape := ⟨2, ![16, 16]⟩
abbrev S16x1 : Shape := ⟨2, ![16, 1]⟩
abbrev S1x16x128 : Shape := ⟨3, ![1, 16, 128]⟩
abbrev S16x128 : Shape := ⟨2, ![16, 128]⟩
abbrev S1 : Shape := ⟨1, ![1]⟩
abbrev S16 : Shape := ⟨1, ![16]⟩
abbrev S1x16 : Shape := ⟨2, ![1, 16]⟩
abbrev S1x1x1x1 : Shape := ⟨4, ![1, 1, 1, 1]⟩
abbrev S1x1 : Shape := ⟨2, ![1, 1]⟩
abbrev S1x16x512 : Shape := ⟨3, ![1, 16, 512]⟩
abbrev S16x512 : Shape := ⟨2, ![16, 512]⟩
abbrev S1x1x128x128 : Shape := ⟨4, ![1, 1, 128, 128]⟩
abbrev S128x128 : Shape := ⟨2, ![128, 128]⟩
abbrev S1x1x1x128 : Shape := ⟨4, ![1, 1, 1, 128]⟩
abbrev S1x128 : Shape := ⟨2, ![1, 128]⟩
abbrev S128 : Shape := ⟨1, ![128]⟩

abbrev nBuf : Space → Nat
  | .hbm => 16
  | .vmem => 28
  | .smem => 1
  | _ => 0

abbrev bufTy : (tb : Table) → Fin (tcTables nBuf tb) → BufTy
  | .hbm, ⟨0, _⟩ => ⟨S128x4x3456, .f32⟩
  | .hbm, ⟨1, _⟩ => ⟨S8, .f32⟩
  | .hbm, ⟨2, _⟩ => ⟨S512, .f32⟩
  | .hbm, ⟨3, _⟩ => ⟨S128x4x128x128, .f32⟩
  | .hbm, ⟨4, _⟩ => ⟨S128x4x128, .f32⟩
  | .hbm, ⟨5, _⟩ => ⟨S128x4, .f32⟩
  | .hbm, ⟨6, _⟩ => ⟨S_, .i32⟩
  | .hbm, ⟨7, _⟩ => ⟨S_, .f32⟩
  | .hbm, ⟨8, _⟩ => ⟨S128x16x3456, .f32⟩
  | .hbm, ⟨9, _⟩ => ⟨S1x512, .f32⟩
  | .hbm, ⟨10, _⟩ => ⟨S128x4x1x128, .f32⟩
  | .hbm, ⟨11, _⟩ => ⟨S128x4x1x1, .f32⟩
  | .hbm, ⟨12, _⟩ => ⟨S128x16x512, .bf16⟩
  | .hbm, ⟨13, _⟩ => ⟨S128x4x128x128, .f32⟩
  | .hbm, ⟨14, _⟩ => ⟨S128x4x1x128, .f32⟩
  | .hbm, ⟨15, _⟩ => ⟨S128x4x1x1, .f32⟩
  | .local _ .vmem, ⟨0, _⟩ => ⟨S8x16x512, .f32⟩
  | .local _ .vmem, ⟨1, _⟩ => ⟨S8x16x512, .f32⟩
  | .local _ .vmem, ⟨2, _⟩ => ⟨S8x16x512, .f32⟩
  | .local _ .vmem, ⟨3, _⟩ => ⟨S8x16x512, .f32⟩
  | .local _ .vmem, ⟨4, _⟩ => ⟨S8x16x512, .f32⟩
  | .local _ .vmem, ⟨5, _⟩ => ⟨S8x16x512, .f32⟩
  | .local _ .vmem, ⟨6, _⟩ => ⟨S8x16x512, .f32⟩
  | .local _ .vmem, ⟨7, _⟩ => ⟨S8x16x512, .f32⟩
  | .local _ .vmem, ⟨8, _⟩ => ⟨S8x16x128, .f32⟩
  | .local _ .vmem, ⟨9, _⟩ => ⟨S8x16x128, .f32⟩
  | .local _ .vmem, ⟨10, _⟩ => ⟨S1x512, .f32⟩
  | .local _ .vmem, ⟨11, _⟩ => ⟨S8x4x128x128, .f32⟩
  | .local _ .vmem, ⟨12, _⟩ => ⟨S8x4x128x128, .f32⟩
  | .local _ .vmem, ⟨13, _⟩ => ⟨S8x4x1x128, .f32⟩
  | .local _ .vmem, ⟨14, _⟩ => ⟨S8x4x1x128, .f32⟩
  | .local _ .vmem, ⟨15, _⟩ => ⟨S8x4x1x1, .f32⟩
  | .local _ .vmem, ⟨16, _⟩ => ⟨S8x4x1x1, .f32⟩
  | .local _ .vmem, ⟨17, _⟩ => ⟨S8x16x512, .bf16⟩
  | .local _ .vmem, ⟨18, _⟩ => ⟨S8x16x512, .bf16⟩
  | .local _ .vmem, ⟨19, _⟩ => ⟨S8x4x128x128, .f32⟩
  | .local _ .vmem, ⟨20, _⟩ => ⟨S8x4x128x128, .f32⟩
  | .local _ .vmem, ⟨21, _⟩ => ⟨S8x4x1x128, .f32⟩
  | .local _ .vmem, ⟨22, _⟩ => ⟨S8x4x1x128, .f32⟩
  | .local _ .vmem, ⟨23, _⟩ => ⟨S8x4x1x1, .f32⟩
  | .local _ .vmem, ⟨24, _⟩ => ⟨S8x4x1x1, .f32⟩
  | .local _ .vmem, ⟨25, _⟩ => ⟨S8x4x128x128, .f32⟩
  | .local _ .vmem, ⟨26, _⟩ => ⟨S8x4x1x128, .f32⟩
  | .local _ .vmem, ⟨27, _⟩ => ⟨S8x4x1x1, .f32⟩
  | .local _ .smem, ⟨0, _⟩ => ⟨S8, .f32⟩
  | _, _ => ⟨S128x4x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_2540 : BitVec 32 := 0#32
  let v5753 : BitVec 1 := Scalar.cmpi .eq arg1 c0_i32_2540
  let v5754 : BitVec 32 := Scalar.extui v5753
  let c0_i32_2541 : BitVec 32 := 0#32
  let v5755 : BitVec 1 := Scalar.cmpi .ne v5754 c0_i32_2541
  v5755

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_5 (i : grid0.Coords) : Fin 3 → Nat :=
  let arg0 : BitVec 32 := BitVec.ofNat 32 (i 0).val
  let arg1 : BitVec 32 := BitVec.ofNat 32 (i 1).val
  let c26_i32 : BitVec 32 := 26#32
  let c0_i32 : BitVec 32 := 0#32
  ![arg0.toNat, arg1.toNat, c26_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S8x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x4x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x4x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x16x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S8x4x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S8x4x1x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== MlstmIdeal.lean ====
variable {F : FTy → Type} [FloatOps F] [Named F]
def κ : String → Option EReal := fun
  | "mask" => some ⊥
  | _ => none
-- ==== MlstmRefIdeal.lean ====
abbrev S128x4x3456 : Shape := ⟨3, ![128, 4, 3456]⟩
abbrev S8 : Shape := ⟨1, ![8]⟩
abbrev S512 : Shape := ⟨1, ![512]⟩
abbrev S128x4x128x128 : Shape := ⟨4, ![128, 4, 128, 128]⟩
abbrev S128x4x128 : Shape := ⟨3, ![128, 4, 128]⟩
abbrev S128x4 : Shape := ⟨2, ![128, 4]⟩
abbrev S128x4x512 : Shape := ⟨3, ![128, 4, 512]⟩
abbrev S128x4x4 : Shape := ⟨3, ![128, 4, 4]⟩
abbrev S128x4x4x128 : Shape := ⟨4, ![128, 4, 4, 128]⟩
abbrev S_ : Shape := ⟨0, ![]⟩
abbrev S4 : Shape := ⟨1, ![4]⟩
abbrev S1x1x4 : Shape := ⟨3, ![1, 1, 4]⟩
abbrev S128x1x4 : Shape := ⟨3, ![128, 1, 4]⟩
abbrev S4x1 : Shape := ⟨2, ![4, 1]⟩
abbrev S1x4 : Shape := ⟨2, ![1, 4]⟩
abbrev S4x4 : Shape := ⟨2, ![4, 4]⟩
abbrev S1x4x4x1 : Shape := ⟨4, ![1, 4, 4, 1]⟩
abbrev S128x4x1x4 : Shape := ⟨4, ![128, 4, 1, 4]⟩
abbrev S128x1x4x4 : Shape := ⟨4, ![128, 1, 4, 4]⟩
abbrev S128x4x4x4 : Shape := ⟨4, ![128, 4, 4, 4]⟩
abbrev S128x4x128x4 : Shape := ⟨4, ![128, 4, 128, 4]⟩
abbrev S128x4x4x1 : Shape := ⟨4, ![128, 4, 4, 1]⟩
abbrev S128x4x1x1 : Shape := ⟨4, ![128, 4, 1, 1]⟩
abbrev S128x4x1 : Shape := ⟨3, ![128, 4, 1]⟩
abbrev S4x128 : Shape := ⟨2, ![4, 128]⟩
abbrev S1x1x4x128 : Shape := ⟨4, ![1, 1, 4, 128]⟩
abbrev S128x16x512 : Shape := ⟨3, ![128, 16, 512]⟩
abbrev S128x4x1x128 : Shape := ⟨4, ![128, 4, 1, 128]⟩

abbrev nBuf : Space → Nat
  | .hbm => 179
  | .vmem => 0
  | .smem => 0
  | _ => 0

abbrev hbmTy0_0 (i : Nat) : BufTy := match i % 128 with
  | 0 => ⟨S128x4x3456, .f32⟩
  | 1 => ⟨S8, .f32⟩
  | 2 => ⟨S512, .f32⟩
  | 3 => ⟨S128x4x128x128, .f32⟩
  | 4 => ⟨S128x4x128, .f32⟩
  | 5 => ⟨S128x4, .f32⟩
  | 6 => ⟨S128x4x512, .f32⟩
  | 7 => ⟨S128x4x512, .f32⟩
  | 8 => ⟨S128x4x512, .f32⟩
  | 9 => ⟨S128x4x512, .f32⟩
  | 10 => ⟨S128x4x4, .f32⟩
  | 11 => ⟨S128x4x4, .f32⟩
  | 12 => ⟨S128x4x4x128, .f32⟩
  | 13 => ⟨S128x4x4x128, .f32⟩
  | 14 => ⟨S_, .f32⟩
  | 15 => ⟨S128x4x4x128, .f32⟩
  | 16 => ⟨S128x4x4x128, .f32⟩
  | 17 => ⟨S128x4x4x128, .f32⟩
  | 18 => ⟨S4, .f32⟩
  | 19 => ⟨S1x1x4, .f32⟩
  | 20 => ⟨S128x4x4, .f32⟩
  | 21 => ⟨S128x4x4, .f32⟩
  | 22 => ⟨S4, .f32⟩
  | 23 => ⟨S1x1x4, .f32⟩
  | 24 => ⟨S128x4x4, .f32⟩
  | 25 => ⟨S128x4x4, .f32⟩
  | 26 => ⟨S128x4x4, .f32⟩
  | 27 => ⟨S_, .f32⟩
  | 28 => ⟨S128x4x4, .f32⟩
  | 29 => ⟨S128x4x4, .f32⟩
  | 30 => ⟨S128x4x4, .f32⟩
  | 31 => ⟨S128x4x4, .f32⟩
  | 32 => ⟨S128x4x4, .i1⟩
  | 33 => ⟨S128x4x4, .f32⟩
  | 34 => ⟨S128x4x4, .f32⟩
  | 35 => ⟨S128x4x4, .f32⟩
  | 36 => ⟨S128x4x4, .f32⟩
  | 37 => ⟨S128x4x4, .f32⟩
  | 38 => ⟨S128x4x4, .f32⟩
  | 39 => ⟨S128x4x4, .f32⟩
  | 40 => ⟨S128x4x4, .f32⟩
  | 41 => ⟨S128x4x4, .f32⟩
  | 42 => ⟨S_, .f32⟩
  | 43 => ⟨S_, .f32⟩
  | 44 => ⟨S128x4x4, .f32⟩
  | 45 => ⟨S128x1x4, .f32⟩
  | 46 => ⟨S128x4x4, .f32⟩
  | 47 => ⟨S_, .f32⟩
  | 48 => ⟨S_, .f32⟩
  | 49 => ⟨S128x4x4, .f32⟩
  | 50 => ⟨S128x4x4, .f32⟩
  | 51 => ⟨S128x4x4, .f32⟩
  | 52 => ⟨S128x4x4, .f32⟩
  | 53 => ⟨S4, .i32⟩
  | 54 => ⟨S4x1, .i32⟩
  | 55 => ⟨S4, .i32⟩
  | 56 => ⟨S1x4, .i32⟩
  | 57 => ⟨S4x4, .i32⟩
  | 58 => ⟨S4x4, .i32⟩
  | 59 => ⟨S4x4, .i1⟩
  | 60 => ⟨S1x4x4x1, .i1⟩
  | 61 => ⟨S128x4x1x4, .f32⟩
  | 62 => ⟨S128x1x4x4, .f32⟩
  | 63 => ⟨S128x4x4x4, .f32⟩
  | 64 => ⟨S128x4x4x4, .f32⟩
  | 65 => ⟨S128x4x4x4, .f32⟩
  | 66 => ⟨S128x1x4x4, .f32⟩
  | 67 => ⟨S128x4x4x4, .f32⟩
  | 68 => ⟨S128x4x4x4, .f32⟩
  | 69 => ⟨S128x4x1x4, .f32⟩
  | 70 => ⟨S128x4x4x4, .f32⟩
  | 71 => ⟨S128x4x4x4, .f32⟩
  | 72 => ⟨S_, .f32⟩
  | 73 => ⟨S_, .f32⟩
  | 74 => ⟨S128x4x4x4, .i1⟩
  | 75 => ⟨S128x4x4x4, .f32⟩
  | 76 => ⟨S128x4x4x4, .f32⟩
  | 77 => ⟨S128x4x4x4, .f32⟩
  | 78 => ⟨S128x4x4x4, .f32⟩
  | 79 => ⟨S128x4x4x4, .f32⟩
  | 80 => ⟨S128x4x4x4, .f32⟩
  | 81 => ⟨S128x1x4, .f32⟩
  | 82 => ⟨S128x4x4, .f32⟩
  | 83 => ⟨S128x4x4, .f32⟩
  | 84 => ⟨S128x4x4, .f32⟩
  | 85 => ⟨S128x4x4, .f32⟩
  | 86 => ⟨S128x4x128x4, .f32⟩
  | 87 => ⟨S128x4x4x128, .f32⟩
  | 88 => ⟨S128x4x128x4, .f32⟩
  | 89 => ⟨S128x4x4x128, .f32⟩
  | 90 => ⟨S128x4x4x1, .f32⟩
  | 91 => ⟨S128x4x4x128, .f32⟩
  | 92 => ⟨S128x4x4x128, .f32⟩
  | 93 => ⟨S128x4x4x128, .f32⟩
  | 94 => ⟨S_, .f32⟩
  | 95 => ⟨S128x4x4, .f32⟩
  | 96 => ⟨S128x4x4, .f32⟩
  | 97 => ⟨S128x4x4, .f32⟩
  | 98 => ⟨S128x4x4, .f32⟩
  | 99 => ⟨S128x4x4, .f32⟩
  | 100 => ⟨S128x4x4, .f32⟩
  | 101 => ⟨S128x4x4, .f32⟩
  | 102 => ⟨S128x4x4, .f32⟩
  | 103 => ⟨S128x4x4, .f32⟩
  | 104 => ⟨S128x4x4x1, .f32⟩
  | 105 => ⟨S128x4x4x128, .f32⟩
  | 106 => ⟨S128x4x4x128, .f32⟩
  | 107 => ⟨S128x1x4, .f32⟩
  | 108 => ⟨S128x4, .f32⟩
  | 109 => ⟨S128x1x4, .f32⟩
  | 110 => ⟨S128x4, .f32⟩
  | 111 => ⟨S128x1x4, .f32⟩
  | 112 => ⟨S128x4x4, .f32⟩
  | 113 => ⟨S128x4x4, .f32⟩
  | 114 => ⟨S128x4x4, .f32⟩
  | 115 => ⟨S128x1x4, .f32⟩
  | 116 => ⟨S128x4x4, .f32⟩
  | 117 => ⟨S128x4x4, .f32⟩
  | 118 => ⟨S128x4x4, .f32⟩
  | 119 => ⟨S128x4, .f32⟩
  | 120 => ⟨S128x4, .f32⟩
  | 121 => ⟨S128x4, .f32⟩
  | 122 => ⟨S128x4x1x1, .f32⟩
  | 123 => ⟨S128x4x128x128, .f32⟩
  | 124 => ⟨S128x4x128x128, .f32⟩
  | 125 => ⟨S128x4x4x1, .f32⟩
  | 126 => ⟨S128x4x4x128, .f32⟩
  | 127 => ⟨S128x4x4x128, .f32⟩
  | _ => ⟨S128x4x3456, .f32⟩

abbrev hbmTy0_1 (i : Nat) : BufTy := match i % 128 with
  | 0 => ⟨S128x4x128x128, .f32⟩
  | 1 => ⟨S128x4x128x128, .f32⟩
  | 2 => ⟨S128x4x1, .f32⟩
  | 3 => ⟨S128x4x128, .f32⟩
  | 4 => ⟨S128x4x128, .f32⟩
  | 5 => ⟨S128x4x128, .f32⟩
  | 6 => ⟨S128x4x128, .f32⟩
  | 7 => ⟨S_, .f32⟩
  | 8 => ⟨S128x4x4, .f32⟩
  | 9 => ⟨S128x4x4x1, .f32⟩
  | 10 => ⟨S_, .f32⟩
  | 11 => ⟨S128x4x4x1, .f32⟩
  | 12 => ⟨S128x4x4x1, .f32⟩
  | 13 => ⟨S128x4x4x128, .f32⟩
  | 14 => ⟨S128x4x4x128, .f32⟩
  | 15 => ⟨S128x4x4x128, .f32⟩
  | 16 => ⟨S_, .f32⟩
  | 17 => ⟨S128x4x4, .f32⟩
  | 18 => ⟨S128x4x4x1, .f32⟩
  | 19 => ⟨S_, .f32⟩
  | 20 => ⟨S128x4x4x1, .f32⟩
  | 21 => ⟨S128x4x4x1, .f32⟩
  | 22 => ⟨S128x4x4x128, .f32⟩
  | 23 => ⟨S128x4x4x128, .f32⟩
  | 24 => ⟨S_, .f32⟩
  | 25 => ⟨S128x4x4x1, .f32⟩
  | 26 => ⟨S128x4x4x1, .f32⟩
  | 27 => ⟨S128x4x4x1, .f32⟩
  | 28 => ⟨S128x4x4x128, .f32⟩
  | 29 => ⟨S128x4x4x128, .f32⟩
  | 30 => ⟨S4x128, .f32⟩
  | 31 => ⟨S1x1x4x128, .f32⟩
  | 32 => ⟨S128x4x4x128, .f32⟩
  | 33 => ⟨S128x4x4x128, .f32⟩
  | 34 => ⟨S128x4x4x128, .f32⟩
  | 35 => ⟨S128x4x4x128, .f32⟩
  | 36 => ⟨S128x4x4x128, .f32⟩
  | 37 => ⟨S_, .f32⟩
  | 38 => ⟨S128x4x4x128, .f32⟩
  | 39 => ⟨S128x4x4x128, .f32⟩
  | 40 => ⟨S_, .f32⟩
  | 41 => ⟨S128x4x4x128, .f32⟩
  | 42 => ⟨S128x4x4x128, .f32⟩
  | 43 => ⟨S128x4x4x128, .f32⟩
  | 44 => ⟨S128x4x512, .f32⟩
  | 45 => ⟨S128x4x512, .bf16⟩
  | 46 => ⟨S_, .i32⟩
  | 47 => ⟨S_, .bf16⟩
  | 48 => ⟨S128x16x512, .bf16⟩
  | 49 => ⟨S128x4x1x128, .f32⟩
  | 50 => ⟨S128x4x1x1, .f32⟩
  | _ => ⟨S128x4x3456, .f32⟩

abbrev hbmTy (i : Nat) : BufTy := match i / 128 with
  | 0 => hbmTy0_0 i
  | 1 => hbmTy0_1 i
  | _ => ⟨S128x4x3456, .f32⟩

abbrev bufTy : (tb : Table) → Fin (tcTables nBuf tb) → BufTy
  | .hbm, ⟨i, _⟩ => hbmTy i
  | _, _ => ⟨S128x4x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v19 : Ref sig .tc := ⟨.hbm, 41, rfl⟩
abbrev main_call1_call0_cst : Ref sig .tc := ⟨.hbm, 42, rfl⟩
abbrev main_call1_call0_v0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_call2_cst : Ref sig .tc := ⟨.hbm, 47, rfl⟩
abbrev main_call2_v0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_0 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_1 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_2 : Ref sig .tc := ⟨.hbm, 135, rfl⟩
abbrev main_v104 : Ref sig .tc := ⟨.hbm, 136, rfl⟩
abbrev main_v105 : Ref sig .tc := ⟨.hbm, 137, rfl⟩
abbrev main_cst_3 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_cst_4 : Ref sig .tc := ⟨.hbm, 144, rfl⟩
abbrev main_v111 : Ref sig .tc := ⟨.hbm, 145, rfl⟩
abbrev main_v112 : Ref sig .tc := ⟨.hbm, 146, rfl⟩
abbrev main_cst_5 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_cst_6 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_cst_7 : Ref sig .tc := ⟨.hbm, 165, rfl⟩
abbrev main_v129 : Ref sig .tc := ⟨.hbm, 166, rfl⟩
abbrev main_v130 : Ref sig .tc := ⟨.hbm, 167, rfl⟩
abbrev main_cst_8 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_c : Ref sig .tc := ⟨.hbm, 174, rfl⟩
abbrev main_call4_v0 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩

abbrev nD : Nat := 1
abbrev τ : Topo := Topo.v7x

variable {F : FTy → Type} [FloatOps F]
-- ==== Compress.lean ====
abbrev S2x8192x3456 : Shape := ⟨3, ![2, 8192, 3456]⟩
abbrev S2x32x64 : Shape := ⟨3, ![2, 32, 64]⟩
abbrev S2x2048x256 : Shape := ⟨3, ![2, 2048, 256]⟩
abbrev S2x256x64 : Shape := ⟨3, ![2, 256, 64]⟩
abbrev S2x32x64x256 : Shape := ⟨4, ![2, 32, 64, 256]⟩
abbrev S2x16x64x256 : Shape := ⟨4, ![2, 16, 64, 256]⟩
abbrev S2x4x256x256 : Shape := ⟨4, ![2, 4, 256, 256]⟩
abbrev S2x4x256x512 : Shape := ⟨4, ![2, 4, 256, 512]⟩
abbrev S2x16x64 : Shape := ⟨3, ![2, 16, 64]⟩
abbrev S2x4x1x256 : Shape := ⟨4, ![2, 4, 1, 256]⟩
abbrev S_ : Shape := ⟨0, ![]⟩
abbrev S2x4x14x256 : Shape := ⟨4, ![2, 4, 14, 256]⟩
abbrev S2x4x16x256 : Shape := ⟨4, ![2, 4, 16, 256]⟩
abbrev S2x2x256x2x2x64 : Shape := ⟨6, ![2, 2, 256, 2, 2, 64]⟩
abbrev S1x256x64 : Shape := ⟨3, ![1, 256, 64]⟩
abbrev S256x64 : Shape := ⟨2, ![256, 64]⟩
abbrev S1 : Shape := ⟨1, ![1]⟩
abbrev S4 : Shape := ⟨1, ![4]⟩
abbrev S4x256x256 : Shape := ⟨3, ![4, 256, 256]⟩
abbrev S2x512x256 : Shape := ⟨3, ![2, 512, 256]⟩
abbrev S1x8192x128 : Shape := ⟨3, ![1, 8192, 128]⟩
abbrev S1x512x256 : Shape := ⟨3, ![1, 512, 256]⟩
abbrev S512x128 : Shape := ⟨2, ![512, 128]⟩
abbrev S512x256 : Shape := ⟨2, ![512, 256]⟩
abbrev S512x512 : Shape := ⟨2, ![512, 512]⟩
abbrev S1x512x128 : Shape := ⟨3, ![1, 512, 128]⟩
abbrev S1x1x256x512 : Shape := ⟨4, ![1, 1, 256, 512]⟩
abbrev S256x512 : Shape := ⟨2, ![256, 512]⟩
abbrev S16x512 : Shape := ⟨2, ![16, 512]⟩
abbrev S1x1x16x256 : Shape := ⟨4, ![1, 1, 16, 256]⟩
abbrev S16x256 : Shape := ⟨2, ![16, 256]⟩
abbrev S1x256 : Shape := ⟨2, ![1, 256]⟩
abbrev S1x256x256 : Shape := ⟨3, ![1, 256, 256]⟩
abbrev S256x256 : Shape := ⟨2, ![256, 256]⟩
abbrev S2x511x256 : Shape := ⟨3, ![2, 511, 256]⟩

abbrev nBuf : Space → Nat
  | .hbm => 73
  | .vmem => 9
  | .smem => 0
  | _ => 0

abbrev bufTy : (tb : Table) → Fin (tcTables nBuf tb) → BufTy
  | .hbm, ⟨0, _⟩ => ⟨S2x8192x3456, .f32⟩
  | .hbm, ⟨1, _⟩ => ⟨S2x32x64, .f32⟩
  | .hbm, ⟨2, _⟩ => ⟨S2x2048x256, .f32⟩
  | .hbm, ⟨3, _⟩ => ⟨S2x256x64, .f32⟩
  | .hbm, ⟨4, _⟩ => ⟨S2x32x64x256, .f32⟩
  | .hbm, ⟨5, _⟩ => ⟨S2x16x64x256, .f32⟩
  | .hbm, ⟨6, _⟩ => ⟨S2x4x256x256, .f32⟩
  | .hbm, ⟨7, _⟩ => ⟨S2x16x64x256, .f32⟩
  | .hbm, ⟨8, _⟩ => ⟨S2x4x256x256, .f32⟩
  | .hbm, ⟨9, _⟩ => ⟨S2x4x256x512, .f32⟩
  | .hbm, ⟨10, _⟩ => ⟨S2x4x256x512, .bf16⟩
  | .hbm, ⟨11, _⟩ => ⟨S2x16x64, .f32⟩
  | .hbm, ⟨12, _⟩ => ⟨S2x4x1x256, .f32⟩
  | .hbm, ⟨13, _⟩ => ⟨S2x16x64, .f32⟩
  | .hbm, ⟨14, _⟩ => ⟨S2x4x1x256, .f32⟩
  | .hbm, ⟨15, _⟩ => ⟨S_, .f32⟩
  | .hbm, ⟨16, _⟩ => ⟨S2x4x14x256, .f32⟩
  | .hbm, ⟨17, _⟩ => ⟨S2x4x16x256, .f32⟩
  | .hbm, ⟨18, _⟩ => ⟨S2x4x16x256, .bf16⟩
  | .hbm, ⟨19, _⟩ => ⟨S_, .f32⟩
  | .hbm, ⟨20, _⟩ => ⟨S2x2x256x2x2x64, .f32⟩
  | .hbm, ⟨21, _⟩ => ⟨S1x256x64, .f32⟩
  | .hbm, ⟨22, _⟩ => ⟨S256x64, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S4, .i32⟩
  | .hbm, ⟨32, _⟩ => ⟨S2x2x256x2x2x64, .f32⟩
  | .hbm, ⟨33, _⟩ => ⟨S1x256x64, .f32⟩
  | .hbm, ⟨34, _⟩ => ⟨S256x64, .f32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S4, .i32⟩
  | .hbm, ⟨44, _⟩ => ⟨S2x2x256x2x2x64, .f32⟩
  | .hbm, ⟨45, _⟩ => ⟨S1x256x64, .f32⟩
  | .hbm, ⟨46, _⟩ => ⟨S256x64, .f32⟩
  | .hbm, ⟨47, _⟩ => ⟨S_, .i32⟩
  | .hbm, ⟨48, _⟩ => ⟨S1, .i32⟩
  | .hbm, ⟨49, _⟩ => ⟨S_, .i32⟩
  | .hbm, ⟨50, _⟩ => ⟨S1, .i32⟩
  | .hbm, ⟨51, _⟩ => ⟨S_, .i32⟩
  | .hbm, ⟨52, _⟩ => ⟨S1, .i32⟩
  | .hbm, ⟨53, _⟩ => ⟨S_, .i32⟩
  | .hbm, ⟨54, _⟩ => ⟨S1, .i32⟩
  | .hbm, ⟨55, _⟩ => ⟨S4, .i32⟩
  | .hbm, ⟨56, _⟩ => ⟨S2x2x256x2x2x64, .f32⟩
  | .hbm, ⟨57, _⟩ => ⟨S1x256x64, .f32⟩
  | .hbm, ⟨58, _⟩ => ⟨S256x64, .f32⟩
  | .hbm, ⟨59, _⟩ => ⟨S_, .i32⟩
  | .hbm, ⟨60, _⟩ => ⟨S1, .i32⟩
  | .hbm, ⟨61, _⟩ => ⟨S_, .i32⟩
  | .hbm, ⟨62, _⟩ => ⟨S1, .i32⟩
  | .hbm, ⟨63, _⟩ => ⟨S_, .i32⟩
  | .hbm, ⟨64, _⟩ => ⟨S1, .i32⟩
  | .hbm, ⟨65, _⟩ => ⟨S_, .i32⟩
  | .hbm, ⟨66, _⟩ => ⟨S1, .i32⟩
  | .hbm, ⟨67, _⟩ => ⟨S4, .i32⟩
  | .hbm, ⟨68, _⟩ => ⟨S2x2x256x2x2x64, .f32⟩
  | .hbm, ⟨69, _⟩ => ⟨S4x256x256, .f32⟩
  | .hbm, ⟨70, _⟩ => ⟨S4x256x256, .bf16⟩
  | .hbm, ⟨71, _⟩ => ⟨S2x512x256, .f32⟩
  | .hbm, ⟨72, _⟩ => ⟨S2x511x256, .f32⟩
  | .local _ .vmem, ⟨0, _⟩ => ⟨S1x8192x128, .f32⟩
  | .local _ .vmem, ⟨1, _⟩ => ⟨S1x8192x128, .f32⟩
  | .local _ .vmem, ⟨2, _⟩ => ⟨S1x8192x128, .f32⟩
  | .local _ .vmem, ⟨3, _⟩ => ⟨S1x8192x128, .f32⟩
  | .local _ .vmem, ⟨4, _⟩ => ⟨S2x4x16x256, .bf16⟩
  | .local _ .vmem, ⟨5, _⟩ => ⟨S2x4x256x512, .bf16⟩
  | .local _ .vmem, ⟨6, _⟩ => ⟨S4x256x256, .bf16⟩
  | .local _ .vmem, ⟨7, _⟩ => ⟨S1x512x256, .f32⟩
  | .local _ .vmem, ⟨8, _⟩ => ⟨S1x512x256, .f32⟩
  | _, _ => ⟨S2x8192x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_c_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_c_9 : Ref sig .tc := ⟨.hbm, 49, rfl⟩
abbrev main_v34 : Ref sig .tc := ⟨.hbm, 50, rfl⟩
abbrev main_c_10 : Ref sig .tc := ⟨.hbm, 51, rfl⟩
abbrev main_v35 : Ref sig .tc := ⟨.hbm, 52, rfl⟩
abbrev main_c_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_12 : Ref sig .tc := ⟨.hbm, 59, rfl⟩
abbrev main_v41 : Ref sig .tc := ⟨.hbm, 60, rfl⟩
abbrev main_c_13 : Ref sig .tc := ⟨.hbm, 61, rfl⟩
abbrev main_v42 : Ref sig .tc := ⟨.hbm, 62, rfl⟩
abbrev main_c_14 : Ref sig .tc := ⟨.hbm, 63, rfl⟩
abbrev main_v43 : Ref sig .tc := ⟨.hbm, 64, rfl⟩
abbrev main_c_15 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c20_i32 : BitVec 32 := 20#32
  let c0_i32_0 : BitVec 32 := 0#32
  ![arg0.toNat, c0_i32.toNat, c20_i32.toNat]

def cc0_transform_1 (i : grid0.Coords) : Fin 3 → Nat :=
  let arg0 : BitVec 32 := BitVec.ofNat 32 (i 0).val
  let c0_i32 : BitVec 32 := 0#32
  let c21_i32 : BitVec 32 := 21#32
  let c0_i32_0 : BitVec 32 := 0#32
  ![arg0.toNat, c0_i32.toNat, c21_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x4x16x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CompressRefIdeal.lean ====
abbrev S2x8192x3456 : Shape := ⟨3, ![2, 8192, 3456]⟩
abbrev S2x32x64 : Shape := ⟨3, ![2, 32, 64]⟩
abbrev S2x2048x256 : Shape := ⟨3, ![2, 2048, 256]⟩
abbrev S2x256x64 : Shape := ⟨3, ![2, 256, 64]⟩
abbrev S2x8192x256 : Shape := ⟨3, ![2, 8192, 256]⟩
abbrev S2x8192x2x2x64 : Shape := ⟨5, ![2, 8192, 2, 2, 64]⟩
abbrev S511 : Shape := ⟨1, ![511]⟩
abbrev S_ : Shape := ⟨0, ![]⟩
abbrev S511x1 : Shape := ⟨2, ![511, 1]⟩
abbrev S32 : Shape := ⟨1, ![32]⟩
abbrev S1x32 : Shape := ⟨2, ![1, 32]⟩
abbrev S511x32 : Shape := ⟨2, ![511, 32]⟩
abbrev S511x32x1 : Shape := ⟨3, ![511, 32, 1]⟩
abbrev S2x511x32x2x2x64 : Shape := ⟨6, ![2, 511, 32, 2, 2, 64]⟩
abbrev S32x2x64 : Shape := ⟨3, ![32, 2, 64]⟩
abbrev S32x2x1x64 : Shape := ⟨4, ![32, 2, 1, 64]⟩
abbrev S1x1x32x2x1x64 : Shape := ⟨6, ![1, 1, 32, 2, 1, 64]⟩
abbrev S2x32x64x256 : Shape := ⟨4, ![2, 32, 64, 256]⟩
abbrev S2x256x2x511x2 : Shape := ⟨5, ![2, 256, 2, 511, 2]⟩
abbrev S2x511x2x2x256 : Shape := ⟨5, ![2, 511, 2, 2, 256]⟩
abbrev S2x64x2x511x2 : Shape := ⟨5, ![2, 64, 2, 511, 2]⟩
abbrev S2x511x2x2x64 : Shape := ⟨5, ![2, 511, 2, 2, 64]⟩
abbrev S2x511x256 : Shape := ⟨3, ![2, 511, 256]⟩

abbrev nBuf : Space → Nat
  | .hbm => 53
  | .vmem => 0
  | .smem => 0
  | _ => 0

abbrev bufTy : (tb : Table) → Fin (tcTables nBuf tb) → BufTy
  | .hbm, ⟨0, _⟩ => ⟨S2x8192x3456, .f32⟩
  | .hbm, ⟨1, _⟩ => ⟨S2x32x64, .f32⟩
  | .hbm, ⟨2, _⟩ => ⟨S2x2048x256, .f32⟩
  | .hbm, ⟨3, _⟩ => ⟨S2x256x64, .f32⟩
  | .hbm, ⟨4, _⟩ => ⟨S2x8192x256, .f32⟩
  | .hbm, ⟨5, _⟩ => ⟨S2x8192x2x2x64, .f32⟩
  | .hbm, ⟨6, _⟩ => ⟨S511, .i32⟩
  | .hbm, ⟨7, _⟩ => ⟨S_, .i32⟩
  | .hbm, ⟨8, _⟩ => ⟨S511, .i32⟩
  | .hbm, ⟨9, _⟩ => ⟨S511, .i32⟩
  | .hbm, ⟨10, _⟩ => ⟨S511x1, .i32⟩
  | .hbm, ⟨11, _⟩ => ⟨S32, .i32⟩
  | .hbm, ⟨12, _⟩ => ⟨S1x32, .i32⟩
  | .hbm, ⟨13, _⟩ => ⟨S511x32, .i32⟩
  | .hbm, ⟨14, _⟩ => ⟨S511x32, .i32⟩
  | .hbm, ⟨15, _⟩ => ⟨S511x32, .i32⟩
  | .hbm, ⟨16, _⟩ => ⟨S_, .i32⟩
  | .hbm, ⟨17, _⟩ => ⟨S511x32, .i32⟩
  | .hbm, ⟨18, _⟩ => ⟨S511x32, .i1⟩
  | .hbm, ⟨19, _⟩ => ⟨S_, .i32⟩
  | .hbm, ⟨20, _⟩ => ⟨S511x32, .i32⟩
  | .hbm, ⟨21, _⟩ => ⟨S511x32, .i32⟩
  | .hbm, ⟨22, _⟩ => ⟨S511x32, .i32⟩
  | .hbm, ⟨23, _⟩ => ⟨S511x32x1, .i32⟩
  | .hbm, ⟨24, _⟩ => ⟨S2x511x32x2x2x64, .f32⟩
  | .hbm, ⟨25, _⟩ => ⟨S32x2x64, .f32⟩
  | .hbm, ⟨26, _⟩ => ⟨S32x2x1x64, .f32⟩
  | .hbm, ⟨27, _⟩ => ⟨S1x1x32x2x1x64, .f32⟩
  | .hbm, ⟨28, _⟩ => ⟨S2x511x32x2x2x64, .f32⟩
  | .hbm, ⟨29, _⟩ => ⟨S2x511x32x2x2x64, .f32⟩
  | .hbm, ⟨30, _⟩ => ⟨S2x32x64x256, .f32⟩
  | .hbm, ⟨31, _⟩ => ⟨S2x256x2x511x2, .f32⟩
  | .hbm, ⟨32, _⟩ => ⟨S2x511x2x2x256, .f32⟩
  | .hbm, ⟨33, _⟩ => ⟨S2x511x2x2x256, .f32⟩
  | .hbm, ⟨34, _⟩ => ⟨S2x511x2x2x256, .f32⟩
  | .hbm, ⟨35, _⟩ => ⟨S_, .f32⟩
  | .hbm, ⟨36, _⟩ => ⟨S2x511x2x2x256, .f32⟩
  | .hbm, ⟨37, _⟩ => ⟨S2x511x2x2x256, .f32⟩
  | .hbm, ⟨38, _⟩ => ⟨S2x511x2x2x256, .f32⟩
  | .hbm, ⟨39, _⟩ => ⟨S_, .f32⟩
  | .hbm, ⟨40, _⟩ => ⟨S2x511x2x2x256, .f32⟩
  | .hbm, ⟨41, _⟩ => ⟨S2x511x2x2x256, .f32⟩
  | .hbm, ⟨42, _⟩ => ⟨S2x511x2x2x256, .f32⟩
  | .hbm, ⟨43, _⟩ => ⟨S_, .f32⟩
  | .hbm, ⟨44, _⟩ => ⟨S2x511x2x2x256, .f32⟩
  | .hbm, ⟨45, _⟩ => ⟨S2x511x2x2x256, .f32⟩
  | .hbm, ⟨46, _⟩ => ⟨S_, .f32⟩
  | .hbm, ⟨47, _⟩ => ⟨S2x511x2x2x256, .f32⟩
  | .hbm, ⟨48, _⟩ => ⟨S2x511x2x2x256, .f32⟩
  | .hbm, ⟨49, _⟩ => ⟨S2x511x2x2x256, .f32⟩
  | .hbm, ⟨50, _⟩ => ⟨S2x64x2x511x2, .f32⟩
  | .hbm, ⟨51, _⟩ => ⟨S2x511x2x2x64, .f32⟩
  | .hbm, ⟨52, _⟩ => ⟨S2x511x256, .f32⟩
  | _, _ => ⟨S2x8192x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== InProjSample.lean ====
abbrev S128x4x1024 : Shape := ⟨3, ![128, 4, 1024]⟩
abbrev S128x1x1024 : Shape := ⟨3, ![128, 1, 1024]⟩
abbrev S1024x3360 : Shape := ⟨2, ![1024, 3360]⟩
abbrev S128x512x2x2x64 : Shape := ⟨5, ![128, 512, 2, 2, 64]⟩
abbrev S3360 : Shape := ⟨1, ![3360]⟩
abbrev S_ : Shape := ⟨0, ![]⟩
abbrev S3360x1 : Shape := ⟨2, ![3360, 1]⟩
abbrev S1024x3456 : Shape := ⟨2, ![1024, 3456]⟩
abbrev S512x1024 : Shape := ⟨2, ![512, 1024]⟩
abbrev S128x1024 : Shape := ⟨2, ![128, 1024]⟩
abbrev S1x512x1024 : Shape := ⟨3, ![1, 512, 1024]⟩
abbrev S512x3456 : Shape := ⟨2, ![512, 3456]⟩
abbrev S1024x1152 : Shape := ⟨2, ![1024, 1152]⟩
abbrev S512x1152 : Shape := ⟨2, ![512, 1152]⟩
abbrev S128x4x3456 : Shape := ⟨3, ![128, 4, 3456]⟩
abbrev S128x4x256 : Shape := ⟨3, ![128, 4, 256]⟩
abbrev S128x4x2x2x64 : Shape := ⟨5, ![128, 4, 2, 2, 64]⟩
abbrev S128x516x2x2x64 : Shape := ⟨5, ![128, 516, 2, 2, 64]⟩

abbrev nBuf : Space → Nat
  | .hbm => 32
  | .vmem => 8
  | .smem => 0
  | _ => 0

abbrev bufTy : (tb : Table) → Fin (tcTables nBuf tb) → BufTy
  | .hbm, ⟨0, _⟩ => ⟨S128x4x1024, .f32⟩
  | .hbm, ⟨1, _⟩ => ⟨S128x1x1024, .f32⟩
  | .hbm, ⟨2, _⟩ => ⟨S128x1x1024, .f32⟩
  | .hbm, ⟨3, _⟩ => ⟨S1024x3360, .f32⟩
  | .hbm, ⟨4, _⟩ => ⟨S128x512x2x2x64, .f32⟩
  | .hbm, ⟨5, _⟩ => ⟨S3360, .i32⟩
  | .hbm, ⟨6, _⟩ => ⟨S3360, .i1⟩
  | .hbm, ⟨7, _⟩ => ⟨S_, .i32⟩
  | .hbm, ⟨8, _⟩ => ⟨S3360, .i32⟩
  | .hbm, ⟨9, _⟩ => ⟨S3360, .i32⟩
  | .hbm, ⟨10, _⟩ => ⟨S3360, .i32⟩
  | .hbm, ⟨11, _⟩ => ⟨S3360x1, .i32⟩
  | .hbm, ⟨12, _⟩ => ⟨S1024x3360, .f32⟩
  | .hbm, ⟨13, _⟩ => ⟨S_, .i32⟩
  | .hbm, ⟨14, _⟩ => ⟨S_, .f32⟩
  | .hbm, ⟨15, _⟩ => ⟨S1024x3456, .f32⟩
  | .hbm, ⟨16, _⟩ => ⟨S1024x3456, .bf16⟩
  | .hbm, ⟨17, _⟩ => ⟨S512x1024, .f32⟩
  | .hbm, ⟨18, _⟩ => ⟨S128x1024, .f32⟩
  | .hbm, ⟨19, _⟩ => ⟨S128x4x1024, .f32⟩
  | .hbm, ⟨20, _⟩ => ⟨S512x1024, .f32⟩
  | .hbm, ⟨21, _⟩ => ⟨S1x512x1024, .f32⟩
  | .hbm, ⟨22, _⟩ => ⟨S128x1024, .f32⟩
  | .hbm, ⟨23, _⟩ => ⟨S128x4x1024, .f32⟩
  | .hbm, ⟨24, _⟩ => ⟨S512x1024, .f32⟩
  | .hbm, ⟨25, _⟩ => ⟨S1x512x1024, .f32⟩
  | .hbm, ⟨26, _⟩ => ⟨S512x3456, .f32⟩
  | .hbm, ⟨27, _⟩ => ⟨S128x4x3456, .f32⟩
  | .hbm, ⟨28, _⟩ => ⟨S128x4x256, .f32⟩
  | .hbm, ⟨29, _⟩ => ⟨S128x4x2x2x64, .f32⟩
  | .hbm, ⟨30, _⟩ => ⟨S128x516x2x2x64, .f32⟩
  | .hbm, ⟨31, _⟩ => ⟨S128x512x2x2x64, .f32⟩
  | .local _ .vmem, ⟨0, _⟩ => ⟨S512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1024x1152, .bf16⟩
  | .local _ .vmem, ⟨4, _⟩ => ⟨S1024x1152, .bf16⟩
  | .local _ .vmem, ⟨5, _⟩ => ⟨S512x1152, .f32⟩
  | .local _ .vmem, ⟨6, _⟩ => ⟨S512x1152, .f32⟩
  | .local _ .vmem, ⟨7, _⟩ => ⟨S512x1024, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_2 : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjSampleRefIdeal.lean ====
abbrev S128x4x1024 : Shape := ⟨3, ![128, 4, 1024]⟩
abbrev S128x1x1024 : Shape := ⟨3, ![128, 1, 1024]⟩
abbrev S1024x3360 : Shape := ⟨2, ![1024, 3360]⟩
abbrev S128x512x2x2x64 : Shape := ⟨5, ![128, 512, 2, 2, 64]⟩
abbrev S_ : Shape := ⟨0, ![]⟩
abbrev S128x4x3360 : Shape := ⟨3, ![128, 4, 3360]⟩
abbrev S128x4x256 : Shape := ⟨3, ![128, 4, 256]⟩
abbrev S128x4x2x2x64 : Shape := ⟨5, ![128, 4, 2, 2, 64]⟩
abbrev S128x516x2x2x64 : Shape := ⟨5, ![128, 516, 2, 2, 64]⟩
abbrev S128x4x2048 : Shape := ⟨3, ![128, 4, 2048]⟩
abbrev S128x4x1280 : Shape := ⟨3, ![128, 4, 1280]⟩
abbrev S128x4x8 : Shape := ⟨3, ![128, 4, 8]⟩
abbrev S128x4x24 : Shape := ⟨3, ![128, 4, 24]⟩
abbrev S128x4x3456 : Shape := ⟨3, ![128, 4, 3456]⟩

abbrev nBuf : Space → Nat
  | .hbm => 25
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x1x1024, .f32⟩
  | .hbm, ⟨2, _⟩ => ⟨S128x1x1024, .f32⟩
  | .hbm, ⟨3, _⟩ => ⟨S1024x3360, .f32⟩
  | .hbm, ⟨4, _⟩ => ⟨S128x512x2x2x64, .f32⟩
  | .hbm, ⟨5, _⟩ => ⟨S_, .f32⟩
  | .hbm, ⟨6, _⟩ => ⟨S128x1x1024, .f32⟩
  | .hbm, ⟨7, _⟩ => ⟨S128x1x1024, .f32⟩
  | .hbm, ⟨8, _⟩ => ⟨S128x4x1024, .f32⟩
  | .hbm, ⟨9, _⟩ => ⟨S128x4x1024, .f32⟩
  | .hbm, ⟨10, _⟩ => ⟨S128x4x1024, .f32⟩
  | .hbm, ⟨11, _⟩ => ⟨S128x4x1024, .f32⟩
  | .hbm, ⟨12, _⟩ => ⟨S128x4x3360, .f32⟩
  | .hbm, ⟨13, _⟩ => ⟨S128x4x256, .f32⟩
  | .hbm, ⟨14, _⟩ => ⟨S128x4x2x2x64, .f32⟩
  | .hbm, ⟨15, _⟩ => ⟨S128x516x2x2x64, .f32⟩
  | .hbm, ⟨16, _⟩ => ⟨S128x4x2048, .f32⟩
  | .hbm, ⟨17, _⟩ => ⟨S128x4x1280, .f32⟩
  | .hbm, ⟨18, _⟩ => ⟨S128x4x8, .f32⟩
  | .hbm, ⟨19, _⟩ => ⟨S128x4x24, .f32⟩
  | .hbm, ⟨20, _⟩ => ⟨S128x4x3360, .f32⟩
  | .hbm, ⟨21, _⟩ => ⟨S_, .i32⟩
  | .hbm, ⟨22, _⟩ => ⟨S_, .f32⟩
  | .hbm, ⟨23, _⟩ => ⟨S128x4x3456, .f32⟩
  | .hbm, ⟨24, _⟩ => ⟨S128x512x2x2x64, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== FfnSample.lean ====
abbrev S512x1024 : Shape := ⟨2, ![512, 1024]⟩
abbrev S128x1x1024 : Shape := ⟨3, ![128, 1, 1024]⟩
abbrev S1024x4096 : Shape := ⟨2, ![1024, 4096]⟩
abbrev S4096x1024 : Shape := ⟨2, ![4096, 1024]⟩
abbrev S1024 : Shape := ⟨1, ![1024]⟩
abbrev S128x1024 : Shape := ⟨2, ![128, 1024]⟩
abbrev S128x4x1024 : Shape := ⟨3, ![128, 4, 1024]⟩
abbrev S1x512x1024 : Shape := ⟨3, ![1, 512, 1024]⟩
abbrev S1x1024 : Shape := ⟨2, ![1, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 25
  | .vmem => 13
  | .smem => 0
  | _ => 0

abbrev bufTy : (tb : Table) → Fin (tcTables nBuf tb) → BufTy
  | .hbm, ⟨0, _⟩ => ⟨S512x1024, .f32⟩
  | .hbm, ⟨1, _⟩ => ⟨S128x1x1024, .f32⟩
  | .hbm, ⟨2, _⟩ => ⟨S128x1x1024, .f32⟩
  | .hbm, ⟨3, _⟩ => ⟨S128x1x1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S128x1024, .f32⟩
  | .hbm, ⟨9, _⟩ => ⟨S128x4x1024, .f32⟩
  | .hbm, ⟨10, _⟩ => ⟨S512x1024, .f32⟩
  | .hbm, ⟨11, _⟩ => ⟨S1x512x1024, .f32⟩
  | .hbm, ⟨12, _⟩ => ⟨S128x1024, .f32⟩
  | .hbm, ⟨13, _⟩ => ⟨S128x4x1024, .f32⟩
  | .hbm, ⟨14, _⟩ => ⟨S512x1024, .f32⟩
  | .hbm, ⟨15, _⟩ => ⟨S1x512x1024, .f32⟩
  | .hbm, ⟨16, _⟩ => ⟨S128x1024, .f32⟩
  | .hbm, ⟨17, _⟩ => ⟨S128x4x1024, .f32⟩
  | .hbm, ⟨18, _⟩ => ⟨S512x1024, .f32⟩
  | .hbm, ⟨19, _⟩ => ⟨S1x512x1024, .f32⟩
  | .hbm, ⟨20, _⟩ => ⟨S1024x4096, .bf16⟩
  | .hbm, ⟨21, _⟩ => ⟨S4096x1024, .bf16⟩
  | .hbm, ⟨22, _⟩ => ⟨S1x1024, .f32⟩
  | .hbm, ⟨23, _⟩ => ⟨S1x1024, .f32⟩
  | .hbm, ⟨24, _⟩ => ⟨S512x1024, .f32⟩
  | .local _ .vmem, ⟨0, _⟩ => ⟨S512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== FfnSampleRefIdeal.lean ====
abbrev S512x1024 : Shape := ⟨2, ![512, 1024]⟩
abbrev S128x1x1024 : Shape := ⟨3, ![128, 1, 1024]⟩
abbrev S1024x4096 : Shape := ⟨2, ![1024, 4096]⟩
abbrev S4096x1024 : Shape := ⟨2, ![4096, 1024]⟩
abbrev S1024 : Shape := ⟨1, ![1024]⟩
abbrev S128x4x1024 : Shape := ⟨3, ![128, 4, 1024]⟩
abbrev S_ : Shape := ⟨0, ![]⟩
abbrev S128x4x4096 : Shape := ⟨3, ![128, 4, 4096]⟩
abbrev S128x4 : Shape := ⟨2, ![128, 4]⟩
abbrev S128x4x1 : Shape := ⟨3, ![128, 4, 1]⟩
abbrev S1x1x1024 : Shape := ⟨3, ![1, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S128x1x1024, .f32⟩
  | .hbm, ⟨2, _⟩ => ⟨S128x1x1024, .f32⟩
  | .hbm, ⟨3, _⟩ => ⟨S128x1x1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S128x4x1024, .f32⟩
  | .hbm, ⟨9, _⟩ => ⟨S_, .f32⟩
  | .hbm, ⟨10, _⟩ => ⟨S128x1x1024, .f32⟩
  | .hbm, ⟨11, _⟩ => ⟨S128x1x1024, .f32⟩
  | .hbm, ⟨12, _⟩ => ⟨S128x4x1024, .f32⟩
  | .hbm, ⟨13, _⟩ => ⟨S128x4x1024, .f32⟩
  | .hbm, ⟨14, _⟩ => ⟨S128x4x1024, .f32⟩
  | .hbm, ⟨15, _⟩ => ⟨S128x4x1024, .f32⟩
  | .hbm, ⟨16, _⟩ => ⟨S128x4x4096, .f32⟩
  | .hbm, ⟨17, _⟩ => ⟨S_, .f32⟩
  | .hbm, ⟨18, _⟩ => ⟨S128x4x4096, .f32⟩
  | .hbm, ⟨19, _⟩ => ⟨S128x4x4096, .f32⟩
  | .hbm, ⟨20, _⟩ => ⟨S128x4x4096, .f32⟩
  | .hbm, ⟨21, _⟩ => ⟨S128x4x1024, .f32⟩
  | .hbm, ⟨22, _⟩ => ⟨S_, .f32⟩
  | .hbm, ⟨23, _⟩ => ⟨S128x4x1024, .f32⟩
  | .hbm, ⟨24, _⟩ => ⟨S128x4x1024, .f32⟩
  | .hbm, ⟨25, _⟩ => ⟨S128x4x1024, .f32⟩
  | .hbm, ⟨26, _⟩ => ⟨S128x4x1024, .f32⟩
  | .hbm, ⟨27, _⟩ => ⟨S128x4x1024, .f32⟩
  | .hbm, ⟨28, _⟩ => ⟨S_, .f32⟩
  | .hbm, ⟨29, _⟩ => ⟨S128x4, .f32⟩
  | .hbm, ⟨30, _⟩ => ⟨S128x4x1, .f32⟩
  | .hbm, ⟨31, _⟩ => ⟨S_, .f32⟩
  | .hbm, ⟨32, _⟩ => ⟨S128x4x1, .f32⟩
  | .hbm, ⟨33, _⟩ => ⟨S128x4x1, .f32⟩
  | .hbm, ⟨34, _⟩ => ⟨S128x4x1024, .f32⟩
  | .hbm, ⟨35, _⟩ => ⟨S128x4x1024, .f32⟩
  | .hbm, ⟨36, _⟩ => ⟨S128x4x1024, .f32⟩
  | .hbm, ⟨37, _⟩ => ⟨S_, .f32⟩
  | .hbm, ⟨38, _⟩ => ⟨S128x4, .f32⟩
  | .hbm, ⟨39, _⟩ => ⟨S128x4x1, .f32⟩
  | .hbm, ⟨40, _⟩ => ⟨S_, .f32⟩
  | .hbm, ⟨41, _⟩ => ⟨S128x4x1, .f32⟩
  | .hbm, ⟨42, _⟩ => ⟨S128x4x1, .f32⟩
  | .hbm, ⟨43, _⟩ => ⟨S128x4x1024, .f32⟩
  | .hbm, ⟨44, _⟩ => ⟨S128x4x1024, .f32⟩
  | .hbm, ⟨45, _⟩ => ⟨S_, .f32⟩
  | .hbm, ⟨46, _⟩ => ⟨S128x4x1, .f32⟩
  | .hbm, ⟨47, _⟩ => ⟨S128x4x1, .f32⟩
  | .hbm, ⟨48, _⟩ => ⟨S128x4x1, .f32⟩
  | .hbm, ⟨49, _⟩ => ⟨S128x4x1024, .f32⟩
  | .hbm, ⟨50, _⟩ => ⟨S128x4x1024, .f32⟩
  | .hbm, ⟨51, _⟩ => ⟨S1x1x1024, .f32⟩
  | .hbm, ⟨52, _⟩ => ⟨S128x4x1024, .f32⟩
  | .hbm, ⟨53, _⟩ => ⟨S128x4x1024, .f32⟩
  | .hbm, ⟨54, _⟩ => ⟨S1x1x1024, .f32⟩
  | .hbm, ⟨55, _⟩ => ⟨S128x4x1024, .f32⟩
  | .hbm, ⟨56, _⟩ => ⟨S128x4x1024, .f32⟩
  | .hbm, ⟨57, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== OutProjSample.lean ====
abbrev S512x1024 : Shape := ⟨2, ![512, 1024]⟩
abbrev S512x512 : Shape := ⟨2, ![512, 512]⟩
abbrev S1024x1024 : Shape := ⟨2, ![1024, 1024]⟩
abbrev S128x1x1024 : Shape := ⟨3, ![128, 1, 1024]⟩
abbrev S1024 : Shape := ⟨1, ![1024]⟩
abbrev S128x1024 : Shape := ⟨2, ![128, 1024]⟩
abbrev S128x4x1024 : Shape := ⟨3, ![128, 4, 1024]⟩
abbrev S1x512x1024 : Shape := ⟨3, ![1, 512, 1024]⟩
abbrev S1x1024 : Shape := ⟨2, ![1, 1024]⟩
abbrev S512 : Shape := ⟨1, ![512]⟩
abbrev S512x1 : Shape := ⟨2, ![512, 1]⟩

abbrev nBuf : Space → Nat
  | .hbm => 15
  | .vmem => 9
  | .smem => 0
  | _ => 0

abbrev bufTy : (tb : Table) → Fin (tcTables nBuf tb) → BufTy
  | .hbm, ⟨0, _⟩ => ⟨S512x1024, .f32⟩
  | .hbm, ⟨1, _⟩ => ⟨S512x512, .bf16⟩
  | .hbm, ⟨2, _⟩ => ⟨S512x512, .bf16⟩
  | .hbm, ⟨3, _⟩ => ⟨S1024x1024, .f32⟩
  | .hbm, ⟨4, _⟩ => ⟨S128x1x1024, .f32⟩
  | .hbm, ⟨5, _⟩ => ⟨S1024, .f32⟩
  | .hbm, ⟨6, _⟩ => ⟨S1024, .f32⟩
  | .hbm, ⟨7, _⟩ => ⟨S1024x1024, .bf16⟩
  | .hbm, ⟨8, _⟩ => ⟨S128x1024, .f32⟩
  | .hbm, ⟨9, _⟩ => ⟨S128x4x1024, .f32⟩
  | .hbm, ⟨10, _⟩ => ⟨S512x1024, .f32⟩
  | .hbm, ⟨11, _⟩ => ⟨S1x512x1024, .f32⟩
  | .hbm, ⟨12, _⟩ => ⟨S1x1024, .f32⟩
  | .hbm, ⟨13, _⟩ => ⟨S1x1024, .f32⟩
  | .hbm, ⟨14, _⟩ => ⟨S512x1024, .f32⟩
  | .local _ .vmem, ⟨0, _⟩ => ⟨S512x1024, .f32⟩
  | .local _ .vmem, ⟨1, _⟩ => ⟨S512x512, .bf16⟩
  | .local _ .vmem, ⟨2, _⟩ => ⟨S512x512, .bf16⟩
  | .local _ .vmem, ⟨3, _⟩ => ⟨S512x1024, .bf16⟩
  | .local _ .vmem, ⟨4, _⟩ => ⟨S512x1024, .bf16⟩
  | .local _ .vmem, ⟨5, _⟩ => ⟨S1x512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== OutProjSampleRefIdeal.lean ====
abbrev S512x1024 : Shape := ⟨2, ![512, 1024]⟩
abbrev S512x512 : Shape := ⟨2, ![512, 512]⟩
abbrev S1024x1024 : Shape := ⟨2, ![1024, 1024]⟩
abbrev S128x1x1024 : Shape := ⟨3, ![128, 1, 1024]⟩
abbrev S1024 : Shape := ⟨1, ![1024]⟩
abbrev S128x4x1024 : Shape := ⟨3, ![128, 4, 1024]⟩
abbrev S128x4x512 : Shape := ⟨3, ![128, 4, 512]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x512, .bf16⟩
  | .hbm, ⟨2, _⟩ => ⟨S512x512, .bf16⟩
  | .hbm, ⟨3, _⟩ => ⟨S1024x1024, .f32⟩
  | .hbm, ⟨4, _⟩ => ⟨S128x1x1024, .f32⟩
  | .hbm, ⟨5, _⟩ => ⟨S1024, .f32⟩
  | .hbm, ⟨6, _⟩ => ⟨S1024, .f32⟩
  | .hbm, ⟨7, _⟩ => ⟨S128x4x1024, .f32⟩
  | .hbm, ⟨8, _⟩ => ⟨S128x4x512, .bf16⟩
  | .hbm, ⟨9, _⟩ => ⟨S128x4x512, .f32⟩
  | .hbm, ⟨10, _⟩ => ⟨S128x4x512, .bf16⟩
  | .hbm, ⟨11, _⟩ => ⟨S128x4x512, .f32⟩
  | .hbm, ⟨12, _⟩ => ⟨S128x4x1024, .f32⟩
  | .hbm, ⟨13, _⟩ => ⟨S128x4x1024, .f32⟩
  | .hbm, ⟨14, _⟩ => ⟨S_, .f32⟩
  | .hbm, ⟨15, _⟩ => ⟨S128x4x1024, .f32⟩
  | .hbm, ⟨16, _⟩ => ⟨S128x4x1024, .f32⟩
  | .hbm, ⟨17, _⟩ => ⟨S128x4x1024, .f32⟩
  | .hbm, ⟨18, _⟩ => ⟨S128x4x1024, .f32⟩
  | .hbm, ⟨19, _⟩ => ⟨S128x4x1024, .f32⟩
  | .hbm, ⟨20, _⟩ => ⟨S_, .f32⟩
  | .hbm, ⟨21, _⟩ => ⟨S128x4, .f32⟩
  | .hbm, ⟨22, _⟩ => ⟨S128x4x1, .f32⟩
  | .hbm, ⟨23, _⟩ => ⟨S_, .f32⟩
  | .hbm, ⟨24, _⟩ => ⟨S128x4x1, .f32⟩
  | .hbm, ⟨25, _⟩ => ⟨S128x4x1, .f32⟩
  | .hbm, ⟨26, _⟩ => ⟨S128x4x1024, .f32⟩
  | .hbm, ⟨27, _⟩ => ⟨S128x4x1024, .f32⟩
  | .hbm, ⟨28, _⟩ => ⟨S128x4x1024, .f32⟩
  | .hbm, ⟨29, _⟩ => ⟨S_, .f32⟩
  | .hbm, ⟨30, _⟩ => ⟨S128x4, .f32⟩
  | .hbm, ⟨31, _⟩ => ⟨S128x4x1, .f32⟩
  | .hbm, ⟨32, _⟩ => ⟨S_, .f32⟩
  | .hbm, ⟨33, _⟩ => ⟨S128x4x1, .f32⟩
  | .hbm, ⟨34, _⟩ => ⟨S128x4x1, .f32⟩
  | .hbm, ⟨35, _⟩ => ⟨S128x4x1024, .f32⟩
  | .hbm, ⟨36, _⟩ => ⟨S128x4x1024, .f32⟩
  | .hbm, ⟨37, _⟩ => ⟨S_, .f32⟩
  | .hbm, ⟨38, _⟩ => ⟨S128x4x1, .f32⟩
  | .hbm, ⟨39, _⟩ => ⟨S128x4x1, .f32⟩
  | .hbm, ⟨40, _⟩ => ⟨S128x4x1, .f32⟩
  | .hbm, ⟨41, _⟩ => ⟨S128x4x1024, .f32⟩
  | .hbm, ⟨42, _⟩ => ⟨S128x4x1024, .f32⟩
  | .hbm, ⟨43, _⟩ => ⟨S1x1x1024, .f32⟩
  | .hbm, ⟨44, _⟩ => ⟨S128x4x1024, .f32⟩
  | .hbm, ⟨45, _⟩ => ⟨S128x4x1024, .f32⟩
  | .hbm, ⟨46, _⟩ => ⟨S1x1x1024, .f32⟩
  | .hbm, ⟨47, _⟩ => ⟨S128x4x1024, .f32⟩
  | .hbm, ⟨48, _⟩ => ⟨S128x4x1024, .f32⟩
  | .hbm, ⟨49, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Proof.InProjSum.lean ====
/- The input projection: each point multiplies the modulated rows of its row block by its block of weight columns. -/
module

public import proofs.«01_k».proof.Proof.Gen.InProjIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Tactic.CleanTypes

@[expose] public section

set_option maxRecDepth 16384

noncomputable section

namespace Cert.Proof.InProj

open Idealize.ShloMosaic Idealize.ShloMosaic.TcCoe
open Cert.InProjIdeal Cert.InProjIdeal.Gen
open scoped BigOperators

section Spec

variable (X : S16384x1024.Idx → Elt Ideal .f32) (SC SH : S2x1x1024.Idx → Elt Ideal .f32) (W : S1024x3360.Idx → Elt Ideal .f32)

/-- The group (of 8192 rows) that row `r` belongs to. -/
abbrev grp (r : Fin 16384) : Fin 2 := ⟨r.val / 8192, by omega⟩

/-- Row `r` of the input, scaled and shifted by its group's modulation. -/
def modIn (r : Fin 16384) (k : Fin 1024) : EReal :=
  X (ix2 r k) * (1 + SC (ix3 (grp r) 0 k)) + SH (ix3 (grp r) 0 k)

/-- The weight column that column `l` of the projection is taken from: the mLSTM columns first, then the attention's, the
    mLSTM gates and the attention gates. -/
abbrev from' (l : ℕ) : ℕ := if l < 2048 then l else if l < 3328 then l + 8 else if l < 3336 then l - 1280 else l

/-- The weights as the call takes them: columns in that order, the last 96 zero. -/
def wgt (k : Fin 1024) (l : Fin 3456) : EReal :=
  if h : l.val < 3360 then W (ix2 k ⟨from' l.val, by unfold from'; split_ifs <;> omega⟩) else 0

/-- The projection at column `l` of row `r`. -/
def projAt (r : Fin 16384) (l : Fin 3456) : EReal := ∑ k : Fin 1024, modIn X SC SH r k * wgt W k l

end Spec

variable (m : (ℓ : Loc nD τ sig) → Buf (Elt Ideal) ℓ) (c : Dev nD)

theorem in_A (t : Fin cfg0.N) (h0 : t.val % 3 = 0) :
    (outsAt0 m c t.val t.isLt).2 = k0_pay1 (iblk m c 0 t) (iblk m c 1 t) (iblk m c 2 t) := by
  rw [outsAt0_A m c t h0]
  frame_out

theorem in_B (t : Fin cfg0.N) (h0 : ¬t.val % 3 = 0) :
    (outsAt0 m c t.val t.isLt).2 = (outsAt0 m c (t.val - 1) (Nat.lt_of_le_of_lt (Nat.sub_le _ _) t.isLt)).2 := by
  rw [outsAt0_B m c t h0]; rfl

theorem out_eq (t : Fin cfg0.N) :
    (outsAt0 m c t.val t.isLt).1 = k0_pay2 (outsAt0 m c t.val t.isLt).2 (iblk m c 3 t) := by
  by_cases h0 : t.val % 3 = 0
  · rw [in_A m c t h0, outsAt0_A m c t h0]
    frame_out
  · rw [in_B m c t h0, outsAt0_B m c t h0]
    frame_out
    simp only [read_unread_whole]

/-- The block indices of the input windows at a point. -/
theorem idx : ∀ t : Fin cfg0.N, win0_0.index t = ![t.val / 3, 0] ∧ win0_1.index t = ![t.val / 48, 0, 0]
    ∧ win0_2.index t = ![t.val / 48, 0, 0] ∧ win0_3.index t = ![0, t.val % 3] :=
  (by decide +kernel : ∀ t : Fin grid0.N, _)

theorem lt_N (t : Fin cfg0.N) : t.val < 96 := lt_of_lt_of_eq t.isLt N_0

/-- The row of the array that row `p` of point `t`'s block is. -/
abbrev row (t : Fin cfg0.N) (p : Fin 512) : Fin 16384 := ⟨t.val / 3 * 512 + p.val, by have := lt_N t; omega⟩

theorem pay1_apply (t : Fin cfg0.N) (p : Fin 512) (k : Fin 1024) :
    k0_pay1 (iblk m c 0 t) (iblk m c 1 t) (iblk m c 2 t) (ix2 p k)
      = modIn (m ((c : Thread nD τ).loc main_arg0)) (m ((c : Thread nD τ).loc main_arg1)) (m ((c : Thread nD τ).loc main_arg2)) (row t p) k := by
  have hN := lt_N t
  unfold modIn
  pointwise [k0_pay1]
  blk_point [iblk, V, idx t]

/-- The input scratch after a point holds the modulated rows of the point's row block. -/
theorem in_eq (t : Fin cfg0.N) (p : Fin 512) (k : Fin 1024) :
    (outsAt0 m c t.val t.isLt).2 (ix2 p k)
      = modIn (m ((c : Thread nD τ).loc main_arg0)) (m ((c : Thread nD τ).loc main_arg1)) (m ((c : Thread nD τ).loc main_arg2)) (row t p) k := by
  have h := congrFun (Pipeline.eq_of_write_hold (fun n h => (outsAt0 m c n h).2) 3
    (fun t => k0_pay1 (iblk m c 0 t) (iblk m c 1 t) (iblk m c 2 t)) (fun t h0 => in_A m c t h0) (fun t h0 => in_B m c t h0) t) (ix2 p k)
  refine h.trans ((pay1_apply m c _ p k).trans ?_)
  congr 1
  apply Fin.ext
  show 3 * (t.val / 3) / 3 * 512 + p.val = t.val / 3 * 512 + p.val
  omega

/-- The integer zero as a float. -/
theorem zero_word : (FloatOps.sitofp (F := Ideal) FTy.f32 0#32) = (0 : EReal) := by
  show (((0#32 : BitVec 32).toInt : ℝ) : EReal) = 0
  norm_num

/-- The table of weight columns, entry by entry. -/
theorem lit_eq : ∀ l : Fin 3360, lit0 l = BitVec.ofNat 32 (from' l.val) := by decide +kernel

/-- The gather of weight columns, read at an index: entry `l` of the table picks the column. -/
theorem gather_eq (W : S1024x3360.Idx → EReal) (T : IVec S3360x1 32) (k : Fin 1024) (l : Fin 3360) (d : Fin 3360)
    (hT : T (ix2 l 0) = BitVec.ofNat 32 d.val) :
    Host.gather gather_S1024x3360_S3360x1_S1024x3360_0_1_n_n_1_1_10241 W T (ix2 k l) = W (ix2 k d) := by
  have hd := d.isLt
  unfold Host.gather
  refine congrArg W (funext fun a => Fin.ext ?_)
  show GatherDims.start _ (ix2 k l) T a + GatherDims.batchCoord _ (ix2 k l) a + GatherDims.offCoord _ (ix2 k l) a = _
  rw [GatherDims.batchCoord_eq_zero _ _ _ List.not_mem_nil]
  match a with
  | ⟨0, _⟩ =>
    have h1 : GatherDims.start gather_S1024x3360_S3360x1_S1024x3360_0_1_n_n_1_1_10241 (ix2 k l) T ⟨0, by decide⟩ = 0 := by
      unfold GatherDims.start
      exact dif_neg (by decide)
    have h2 : GatherDims.offCoord gather_S1024x3360_S3360x1_S1024x3360_0_1_n_n_1_1_10241 (ix2 k l) ⟨0, by decide⟩ = k.val := rfl
    exact (congrArg₂ (fun x y => x + 0 + y) h1 h2).trans (by show 0 + 0 + k.val = k.val; omega)
  | ⟨1, _⟩ =>
    have h2 : GatherDims.offCoord gather_S1024x3360_S3360x1_S1024x3360_0_1_n_n_1_1_10241 (ix2 k l) ⟨1, by decide⟩ = 0 :=
      GatherDims.offCoord_eq_zero _ _ _ (fun h => ((GatherDims.mem_sKept _ _).mp h).1 (List.mem_singleton.mpr rfl))
    have h1 : GatherDims.start gather_S1024x3360_S3360x1_S1024x3360_0_1_n_n_1_1_10241 (ix2 k l) T ⟨1, by decide⟩
        = min (T (ix2 l 0)).toInt.toNat (3360 - 1) := by
      unfold GatherDims.start
      rw [dif_pos (by decide)]
      have hsi : ∀ p, GatherDims.siIdx gather_S1024x3360_S3360x1_S1024x3360_0_1_n_n_1_1_10241 (ix2 k l) ⟨0, p⟩ = ix2 l 0 := by
        intro p
        funext b; refine Fin.ext ?_
        match b with
        | ⟨0, _⟩ => rfl
        | ⟨1, _⟩ => rfl
      exact congrArg (fun i => min (T i).toInt.toNat (3360 - 1)) (hsi _)
    have h3 : (T (ix2 l 0)).toInt.toNat = d.val := by
      rw [hT, BitVec.toInt_eq_toNat_of_lt (by rw [BitVec.toNat_ofNat]; omega), BitVec.toNat_ofNat]
      omega
    exact (congrArg₂ (fun x y => x + 0 + y) h1 h2).trans (by rw [h3]; show min d.val (3360 - 1) + 0 + 0 = d.val; omega)

theorem V_wgt' : V m c main_v6 = fun i => wgt (m ((c : Thread nD τ).loc main_arg3)) (i 0) (i 1) := by
  unfold_abbrev_sides
  simp only [hostOps0, hostOps0_1, hostOps0_2, List.flatten_cons, List.flatten_nil, List.cons_append, List.nil_append, List.append_nil, StableHlo.TRef.binary, StableHlo.TRef.unary, StableHlo.TRef.toBuf, StableHlo.TRef.ofBuf, cast_eq]
  after_results
  funext i
  obtain ⟨k, l, rfl⟩ : ∃ (k : Fin 1024) (l : Fin 3456), i = ix2 k l := ⟨i 0, i 1, eq_ix2 i⟩
  clean_types
  pointwise
  unfold wgt
  refine dite_congr rfl (fun h => ?_) (fun h => zero_word)
  refine gather_eq _ _ _ _ ⟨from' l.val, by unfold from'; split_ifs <;> omega⟩ ?_
  refine Eq.trans ?_ (lit_eq ⟨l.val, h⟩)
  pointwise
  exact congrArg lit0 (Fin.ext (Shape.rowMajor_val_one _))

theorem V_wgt (k : Fin 1024) (l : Fin 3456) : V m c main_v6 (ix2 k l) = wgt (m ((c : Thread nD τ).loc main_arg3)) k l := by
  rw [V_wgt']
  rfl

theorem pay2_apply (t : Fin cfg0.N) (A : Vec Ideal S512x1024 .bf16) (p : Fin 512) (l : Fin 1152) :
    k0_pay2 A (iblk m c 3 t) (ix2 p l)
      = ∑ k : Fin 1024, A (ix2 p k) * wgt (m ((c : Thread nD τ).loc main_arg3)) k ⟨t.val % 3 * 1152 + l.val, by omega⟩ := by
  have hN := lt_N t
  simp only [← V_wgt]
  pointwise [k0_pay2]
  blk_point [iblk, idx t]

/-- What the result array ends holding. -/
theorem G4_eq (r : Fin 16384) (l : Fin 3456) :
    Cert.InProjIdeal.Value.G4 m c (ix2 r l)
      = projAt (m ((c : Thread nD τ).loc main_arg0)) (m ((c : Thread nD τ).loc main_arg1)) (m ((c : Thread nD τ).loc main_arg2))
          (m ((c : Thread nD τ).loc main_arg3)) r l := by
  have hr := r.isLt
  have hl := l.isLt
  have hN : cfg0.N = 96 := N_0
  have hp : Cert.InProjIdeal.Value.pt4Of (ix2 r l) = 3 * (r.val / 512) + l.val / 1152 := by
    show 3 * (r.val / 512 - 0) + 1 * (l.val / 1152 - 0) = _
    omega
  have hlt : 3 * (r.val / 512) + l.val / 1152 < cfg0.N := by omega
  have hloc : Cert.InProjIdeal.Value.loc4Of (ix2 r l) = ix2 ⟨r.val % 512, by omega⟩ ⟨l.val % 1152, by omega⟩ := by
    funext a; apply Fin.ext
    match a with
    | ⟨0, _⟩ => rfl
    | ⟨1, _⟩ => rfl
  unfold Cert.InProjIdeal.Value.G4
  rw [dif_pos (by rw [hp]; exact hlt), hloc,
    Cert.InProjIdeal.Value.fold0_congr m c _ _ (3 * (r.val / 512) + l.val / 1152) (by omega) hp,
    ← Cert.InProjIdeal.Value.outsAt0_sweep m c _ hlt]
  refine (congrFun (out_eq m c ⟨_, hlt⟩) _).trans ((pay2_apply m c ⟨_, hlt⟩ _ _ _).trans ?_)
  unfold projAt
  refine Finset.sum_congr rfl fun k _ => ?_
  rw [in_eq]
  have e1 : row ⟨3 * (r.val / 512) + l.val / 1152, hlt⟩ ⟨r.val % 512, by omega⟩ = r := by
    apply Fin.ext
    show (3 * (r.val / 512) + l.val / 1152) / 3 * 512 + r.val % 512 = r.val
    omega
  rw [e1]
  congr 2
  apply Fin.ext
  show (3 * (r.val / 512) + l.val / 1152) % 3 * 1152 + l.val % 1152 = l.val
  omega

end Cert.Proof.InProj

end
-- ==== Proof.InProjRef.lean ====
/- The reference of the input projection, read at an index. -/
module

public import proofs.«01_k».proof.Proof.InProjSum
public import proofs.«01_k».proof.Proof.Gen.InProjRefIdeal.Run
public import Idealize.ShloMosaic.Lib.Tactic.CleanTypes

@[expose] public section

set_option maxRecDepth 16384

noncomputable section

namespace Cert.Proof.InProj

open Idealize.ShloMosaic Idealize.ShloMosaic.TcCoe Idealize.SL.Sem
open Cert.InProjRefIdeal Cert.InProjRefIdeal.Gen
open scoped BigOperators

/-- What the reference leaves. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = (fun i => projAt (m ((c.tc : Thread nD τ).loc main_arg0)) (m ((c.tc : Thread nD τ).loc main_arg1))
        (m ((c.tc : Thread nD τ).loc main_arg2)) (m ((c.tc : Thread nD τ).loc main_arg3)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩) (Cert.InProjRefIdeal.Value.run (F := Ideal) m ρ)
  funext i
  obtain ⟨r, l, rfl⟩ : ∃ (r : Fin 16384) (l : Fin 3456), i = ix2 r l := ⟨i 0, i 1, eq_ix2 i⟩
  clean_types
  pointwise
  have hr := r.isLt
  have hl := l.isLt
  unfold projAt wgt modIn
  by_cases h : l.val < 3360
  · rw [dif_pos ⟨by omega, by omega, h⟩]
    simp only [dif_pos h]
    split_ifs with h1 h2 h3
    all_goals
      refine Finset.sum_congr rfl fun k _ => congrArg (fun i => _ * m (c.tc.loc main_arg3) (ix2 k i)) (Fin.ext ?_)
      unfold from'
      (dsimp only) <;> split_ifs <;> omega
  · rw [dif_neg (fun h' => h h'.2.2)]
    simp only [dif_neg h, mul_zero, Finset.sum_const_zero]
    exact zero_word

end Cert.Proof.InProj

end
-- ==== Proof.OutProjBlock.lean ====
/- The output projection: each point joins the two halves of its row block to the residual and normalises the rows. -/
module

public import proofs.«01_k».proof.Proof.Gen.OutProjIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.Proof.OutProj

open Idealize.ShloMosaic Idealize.ShloMosaic.TcCoe
open Cert.OutProjIdeal Cert.OutProjIdeal.Gen
open scoped BigOperators

section Spec

variable (X : S16384x1024.Idx → Elt Ideal .f32) (A B : S16384x512.Idx → Elt Ideal .bf16) (W : S1024x1024.Idx → Elt Ideal .f32)
  (G : S2x1x1024.Idx → Elt Ideal .f32) (LG LB : S1024.Idx → Elt Ideal .f32)

/-- The group (of 8192 rows) that row `r` belongs to. -/
abbrev grp (r : Fin 16384) : Fin 2 := ⟨r.val / 8192, by omega⟩

/-- Column `l` of the row `y` normalised to mean 0 and variance 1, then scaled by `g` and shifted by `b`. -/
def normAt (y : Fin 1024 → EReal) (g b : EReal) (l : Fin 1024) : EReal :=
  (y l - Ideal.div (∑ k, y k) (Ideal.ofBits .f32 0x44800000#32))
    * Ideal.rsqrt (Ideal.div (∑ k, (y k - Ideal.div (∑ k, y k) (Ideal.ofBits .f32 0x44800000#32))
        * (y k - Ideal.div (∑ k, y k) (Ideal.ofBits .f32 0x44800000#32))) (Ideal.ofBits .f32 0x44800000#32)
      + Ideal.ofBits .f32 0x3727C5AC#32) * g + b

/-- The two halves of row `r` against the two halves of weight column `l`. -/
def mixAt (r : Fin 16384) (l : Fin 1024) : EReal :=
  (∑ k : Fin 512, A (ix2 r k) * W (ix2 ⟨k.val, by omega⟩ l)) + ∑ k : Fin 512, B (ix2 r k) * W (ix2 ⟨512 + k.val, by omega⟩ l)

/-- The layer's joining step at column `l` of row `r`. -/
def joinAt (r : Fin 16384) (l : Fin 1024) : EReal :=
  normAt (fun k => Ideal.ofBits .f32 0x3FB504F3#32 * X (ix2 r k) + G (ix3 (grp r) 0 k) * mixAt A B W r k) (LG (ix1 l)) (LB (ix1 l)) l

end Spec

variable (m : (ℓ : Loc nD τ sig) → Buf (Elt Ideal) ℓ) (c : Dev nD)

/-- The block indices of the windows at a point. -/
theorem idx : ∀ t : Fin cfg0.N, win0_0.index t = ![t.val, 0] ∧ win0_1.index t = ![t.val, 0]
    ∧ win0_2.index t = ![t.val, 0] ∧ win0_3.index t = ![0, 0] ∧ win0_4.index t = ![1, 0]
    ∧ win0_5.index t = ![t.val / 16, 0, 0] ∧ win0_6.index t = ![0, 0] ∧ win0_7.index t = ![0, 0] ∧ win0_8.index t = ![t.val, 0] :=
  (by decide +kernel : ∀ t : Fin grid0.N, _)

theorem lt_N (t : Fin cfg0.N) : t.val < 32 := lt_of_lt_of_eq t.isLt N_0

/-- The row of the array that row `p` of point `t`'s block is. -/
abbrev row (t : Fin cfg0.N) (p : Fin 512) : Fin 16384 := ⟨t.val * 512 + p.val, by have := lt_N t; omega⟩

/-- What point `t` leaves in the output block. -/
theorem out_apply (t : Fin cfg0.N) (p : Fin 512) (l : Fin 1024) :
    k0_pay1 (k0_pay2 (iblk m c 6 t)) (k0_pay3 (iblk m c 7 t))
        (k0_pay4 (iblk m c 1 t) (iblk m c 3 t) (iblk m c 2 t) (iblk m c 4 t) (iblk m c 0 t) (iblk m c 5 t))
        (k0_pay5 (iblk m c 1 t) (iblk m c 3 t) (iblk m c 2 t) (iblk m c 4 t) (iblk m c 0 t) (iblk m c 5 t)) (ix2 p l)
      = joinAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (row t p) l := by
  have hN := lt_N t
  unfold joinAt normAt mixAt
  pointwise [k0_pay1, k0_pay2, k0_pay3, k0_pay4, k0_pay5]
  blk_point [iblk, V, idx t]

/-- The result array after the run. -/
def resAt : S16384x1024.Idx → EReal := fun i =>
  joinAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1)

theorem arr_eq : (dats m 0 c).arrAt 8 cfg0.N = resAt m c := by
  refine (dats m 0 c).arrAt_eq_of_covers 8 (resAt m c) (by decide +kernel) fun t hf y => ?_
  blk_simp
  rw [after0_8]
  frame_out
  obtain ⟨p, l, rfl⟩ : ∃ (p : Fin 512) (l : Fin 1024), y = ix2 p l := ⟨y 0, y 1, eq_ix2 y⟩
  rw [out_apply]
  refine congrArg₂ (joinAt _ _ _ _ _ _ _) (Fin.ext ?_) (Fin.ext ?_)
  all_goals blk_simp [idx t]

end Cert.Proof.OutProj

end
-- ==== Proof.OutProjRef.lean ====
/- The reference of the output projection, read at an index. -/
module

public import proofs.«01_k».proof.Proof.OutProjBlock
public import proofs.«01_k».proof.Proof.Gen.OutProjRefIdeal.Run
public import Idealize.ShloMosaic.Lib.Tactic.CleanTypes

@[expose] public section

set_option maxRecDepth 16384

noncomputable section

namespace Cert.Proof.OutProj

open Idealize.ShloMosaic Idealize.ShloMosaic.TcCoe
open Cert.OutProjRefIdeal Cert.OutProjRefIdeal.Gen
open scoped BigOperators

variable (m : (ℓ : Loc nD τ sig) → Buf (Elt Ideal) ℓ) (c : Dev nD)

/-- What the reference leaves, at an index. -/
theorem ref_apply (r : Fin 16384) (l : Fin 1024) : Cert.OutProjRefIdeal.Value.res_out0 m c (ix2 r l)
      = joinAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) r l := by
  unfold Cert.OutProjRefIdeal.Value.res_out0 Cert.OutProjRefIdeal.Value.res_main_v36
  clean_types
  pointwise
  rfl

end Cert.Proof.OutProj

end
-- ==== Proof.FfnBlock.lean ====
/- The feed-forward call, one grid point at a time: what each case of the body leaves in its two scratch buffers and in its
   output block, over the blocks the point reads. -/
module

public import proofs.«01_k».proof.Proof.Gen.FfnIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.Proof.Ffn

open Idealize.ShloMosaic Idealize.ShloMosaic.TcCoe
open Cert.FfnIdeal Cert.FfnIdeal.Gen

variable (m : (ℓ : Loc nD τ sig) → Buf (Elt Ideal) ℓ) (c : Dev nD)

theorem in_A (t : Fin cfg0.N) (h0 : t.val % 8 = 0) :
    (outsAt0 m c t.val t.isLt).2.1 = k0_pay1 (iblk m c 0 t) (iblk m c 1 t) (iblk m c 2 t) := by
  rw [outsAt0_A m c t h0 (by omega)]
  frame_out

theorem acc_A (t : Fin cfg0.N) (h0 : t.val % 8 = 0) :
    (outsAt0 m c t.val t.isLt).2.2
      = k0_pay3 (outsAt0 m c t.val t.isLt).2.1 (iblk m c 4 t) (k0_pay2 (F := Ideal)) (iblk m c 5 t) := by
  rw [in_A m c t h0, outsAt0_A m c t h0 (by omega)]
  frame_out

theorem in_B (t : Fin cfg0.N) (h0 : ¬t.val % 8 = 0) :
    (outsAt0 m c t.val t.isLt).2.1 = (outsAt0 m c (t.val - 1) (Nat.lt_of_le_of_lt (Nat.sub_le _ _) t.isLt)).2.1 := by
  by_cases h1 : t.val % 8 = 7
  · rw [outsAt0_C m c t h0 h1]; rfl
  · rw [outsAt0_B m c t h0 h1]; rfl

theorem acc_B (t : Fin cfg0.N) (h0 : ¬t.val % 8 = 0) :
    (outsAt0 m c t.val t.isLt).2.2
      = k0_pay3 (outsAt0 m c t.val t.isLt).2.1 (iblk m c 4 t)
          (outsAt0 m c (t.val - 1) (Nat.lt_of_le_of_lt (Nat.sub_le _ _) t.isLt)).2.2 (iblk m c 5 t) := by
  rw [in_B m c t h0]
  by_cases h1 : t.val % 8 = 7
  · rw [outsAt0_C m c t h0 h1]; frame_out; simp only [read_unread_whole]
  · rw [outsAt0_B m c t h0 h1]; frame_out; simp only [read_unread_whole]

theorem out_C (t : Fin cfg0.N) (h1 : t.val % 8 = 7) :
    (outsAt0 m c t.val t.isLt).1
      = k0_pay4 (iblk m c 0 t) (iblk m c 3 t) (outsAt0 m c t.val t.isLt).2.2 (iblk m c 6 t) (iblk m c 7 t) := by
  rw [acc_B m c t (by omega), in_B m c t (by omega), outsAt0_C m c t (by omega) h1]
  frame_out
  simp only [read_unread_whole]

end Cert.Proof.Ffn

end
-- ==== Proof.FfnSum.lean ====
/- The feed-forward call over its eight column blocks: the input scratch holds the modulated rows, the accumulator the partial
   sums, and the last point of a run writes the normalised rows. -/
module

public import proofs.«01_k».proof.Proof.FfnBlock

@[expose] public section

set_option maxRecDepth 16384

noncomputable section

namespace Cert.Proof.Ffn

open Idealize.ShloMosaic Idealize.ShloMosaic.TcCoe
open Cert.FfnIdeal Cert.FfnIdeal.Gen
open scoped BigOperators

section Spec

variable (X : S16384x1024.Idx → Elt Ideal .f32) (SC SH G : S2x1x1024.Idx → Elt Ideal .f32)
  (WU : S1024x4096.Idx → Elt Ideal .f32) (WD : S4096x1024.Idx → Elt Ideal .f32) (LG LB : S1024.Idx → Elt Ideal .f32)

/-- The group (of 8192 rows) that row `r` belongs to. -/
abbrev grp (r : Fin 16384) : Fin 2 := ⟨r.val / 8192, by omega⟩

/-- Row `r` of the input, scaled and shifted by its group's modulation. -/
def modIn (r : Fin 16384) (k : Fin 1024) : EReal :=
  X (ix2 r k) * (1 + SC (ix3 (grp r) 0 k)) + SH (ix3 (grp r) 0 k)

/-- The hidden unit `f` of row `r` before its square. -/
def hid (r : Fin 16384) (f : Fin 4096) : EReal := max (∑ k : Fin 1024, modIn X SC SH r k * WU (ix2 k f)) 0

/-- What hidden unit `f` adds to column `l` of row `r`. -/
def part (r : Fin 16384) (l : Fin 1024) (f : Fin 4096) : EReal :=
  hid X SC SH WU r f * hid X SC SH WU r f * WD (ix2 f l)

/-- Column `l` of the row `y` normalised to mean 0 and variance 1, then scaled by `g` and shifted by `b`. -/
def normAt (y : Fin 1024 → EReal) (g b : EReal) (l : Fin 1024) : EReal :=
  (y l - Ideal.div (∑ k, y k) (Ideal.ofBits .f32 0x44800000#32))
    * Ideal.rsqrt (Ideal.div (∑ k, (y k - Ideal.div (∑ k, y k) (Ideal.ofBits .f32 0x44800000#32))
        * (y k - Ideal.div (∑ k, y k) (Ideal.ofBits .f32 0x44800000#32))) (Ideal.ofBits .f32 0x44800000#32)
      + Ideal.ofBits .f32 0x3727C5AC#32) * g + b

/-- Row `r` of the residual sum with the gated update `u`, normalised, at column `l`. -/
def joinAt (r : Fin 16384) (u : Fin 1024 → EReal) (l : Fin 1024) : EReal :=
  normAt (fun k => Ideal.ofBits .f32 0x3FB504F3#32 * X (ix2 r k)
    + G (ix3 (grp r) 0 k) * u k) (LG (ix1 l)) (LB (ix1 l)) l

/-- The layer's feed-forward step at column `l` of row `r`. -/
def ffnAt (r : Fin 16384) (l : Fin 1024) : EReal :=
  joinAt X G LG LB r (fun k => ∑ f : Fin 4096, part X SC SH WU WD r k f) l

end Spec

variable (m : (ℓ : Loc nD τ sig) → Buf (Elt Ideal) ℓ) (c : Dev nD)

/-- The block indices of the eight input windows at a point. -/
theorem idx : ∀ t : Fin cfg0.N, win0_0.index t = ![t.val / 8, 0] ∧ win0_1.index t = ![t.val / 128, 0, 0]
    ∧ win0_2.index t = ![t.val / 128, 0, 0] ∧ win0_3.index t = ![t.val / 128, 0, 0]
    ∧ win0_4.index t = ![0, t.val % 8] ∧ win0_5.index t = ![t.val % 8, 0]
    ∧ win0_6.index t = ![0, 0] ∧ win0_7.index t = ![0, 0] :=
  (by decide +kernel : ∀ t : Fin grid0.N, _)

theorem lt_N (t : Fin cfg0.N) : t.val < 256 := lt_of_lt_of_eq t.isLt N_0

/-- The row of the array that row `p` of point `t`'s block is. -/
abbrev row (t : Fin cfg0.N) (p : Fin 512) : Fin 16384 := ⟨t.val / 8 * 512 + p.val, by have := lt_N t; omega⟩

theorem pay1_apply (t : Fin cfg0.N) (p : Fin 512) (k : Fin 1024) :
    k0_pay1 (iblk m c 0 t) (iblk m c 1 t) (iblk m c 2 t) (ix2 p k)
      = modIn (m ((c : Thread nD τ).loc main_arg0)) (m ((c : Thread nD τ).loc main_arg1)) (m ((c : Thread nD τ).loc main_arg2)) (row t p) k := by
  have hN := lt_N t
  unfold modIn
  pointwise [k0_pay1]
  blk_point [iblk, V, idx t]

theorem pay3_apply (t : Fin cfg0.N) (W : Vec Ideal S512x1024 .bf16) (A : Vec Ideal S512x1024 .f32) (p : Fin 512) (l : Fin 1024) :
    k0_pay3 W (iblk m c 4 t) A (iblk m c 5 t) (ix2 p l)
      = A (ix2 p l) + ∑ j : Fin 512,
          max (∑ k : Fin 1024, W (ix2 p k) * (m ((c : Thread nD τ).loc main_arg4)) (ix2 k ⟨t.val % 8 * 512 + j.val, by omega⟩)) 0
          * max (∑ k : Fin 1024, W (ix2 p k) * (m ((c : Thread nD τ).loc main_arg4)) (ix2 k ⟨t.val % 8 * 512 + j.val, by omega⟩)) 0
          * (m ((c : Thread nD τ).loc main_arg5)) (ix2 ⟨t.val % 8 * 512 + j.val, by omega⟩ l) := by
  have hN := lt_N t
  pointwise [k0_pay3]
  blk_point [iblk, V, idx t]

/-- The input scratch after a point holds the modulated rows of the point's row block. -/
theorem in_eq (t : Fin cfg0.N) (p : Fin 512) (k : Fin 1024) :
    (outsAt0 m c t.val t.isLt).2.1 (ix2 p k)
      = modIn (m ((c : Thread nD τ).loc main_arg0)) (m ((c : Thread nD τ).loc main_arg1)) (m ((c : Thread nD τ).loc main_arg2)) (row t p) k := by
  have h := congrFun (Pipeline.eq_of_write_hold (fun n h => (outsAt0 m c n h).2.1) 8
    (fun t => k0_pay1 (iblk m c 0 t) (iblk m c 1 t) (iblk m c 2 t)) (fun t h0 => in_A m c t h0) (fun t h0 => in_B m c t h0) t) (ix2 p k)
  refine h.trans ((pay1_apply m c _ p k).trans ?_)
  congr 1
  apply Fin.ext
  show 8 * (t.val / 8) / 8 * 512 + p.val = t.val / 8 * 512 + p.val
  omega

/-- The accumulator at the last point of a run: the whole contraction over the hidden units. -/
theorem acc_eq (t : Fin cfg0.N) (ht : t.val % 8 = 7) (p : Fin 512) (l : Fin 1024) :
    (outsAt0 m c t.val t.isLt).2.2 (ix2 p l)
      = ∑ f : Fin 4096, part (m ((c : Thread nD τ).loc main_arg0)) (m ((c : Thread nD τ).loc main_arg1)) (m ((c : Thread nD τ).loc main_arg2))
          (m ((c : Thread nD τ).loc main_arg4)) (m ((c : Thread nD τ).loc main_arg5)) (row t p) l f := by
  have key := Pipeline.eq_sum_fin_of_reset_step_apply_of_flush (fun n h => (outsAt0 m c n h).2.2) 8 (fun _ => (0 : EReal))
    (fun t i => ∑ j : Fin 512, part (m ((c : Thread nD τ).loc main_arg0)) (m ((c : Thread nD τ).loc main_arg1)) (m ((c : Thread nD τ).loc main_arg2))
          (m ((c : Thread nD τ).loc main_arg4)) (m ((c : Thread nD τ).loc main_arg5)) (row t (i 0)) (i 1) ⟨t.val % 8 * 512 + j.val, by omega⟩)
    (fun t h0 i => by
      obtain ⟨p, l, rfl⟩ : ∃ (p : Fin 512) (l : Fin 1024), i = ix2 p l := ⟨i 0, i 1, eq_ix2 i⟩
      show (outsAt0 m c t.val t.isLt).2.2 (ix2 p l) = _
      rw [acc_A m c t h0, pay3_apply]
      simp only [in_eq]
      have hz : k0_pay2 (F := Ideal) (ix2 p l) = 0 := by pointwise [k0_pay2]
      rw [hz]
      rfl)
    (fun t h0 i => by
      obtain ⟨p, l, rfl⟩ : ∃ (p : Fin 512) (l : Fin 1024), i = ix2 p l := ⟨i 0, i 1, eq_ix2 i⟩
      show (outsAt0 m c t.val t.isLt).2.2 (ix2 p l) = _
      rw [acc_B m c t h0, pay3_apply]
      simp only [in_eq]
      rfl) t ht (ix2 p l)
  refine key.trans ?_
  rw [zero_add, Fin.sum_univ_tiles 8 512 rfl]
  refine Finset.sum_congr rfl fun s _ => Finset.sum_congr rfl fun j _ => ?_
  have hs := s.isLt
  have e1 : row ⟨8 * (t.val / 8) + s.val, Pipeline.run_point_lt_of_flush t ht s⟩ p = row t p := by
    apply Fin.ext
    show (8 * (t.val / 8) + s.val) / 8 * 512 + p.val = t.val / 8 * 512 + p.val
    omega
  show part _ _ _ _ _ (row ⟨8 * (t.val / 8) + s.val, _⟩ p) l _ = _
  rw [e1]
  congr 1
  apply Fin.ext
  show (8 * (t.val / 8) + s.val) % 8 * 512 + j.val = s.val * 512 + j.val
  omega

/-- The last point's stored block over the accumulator: the residual sum, normalised. -/
theorem pay4_apply (t : Fin cfg0.N) (A : Vec Ideal S512x1024 .f32) (p : Fin 512) (l : Fin 1024) :
    k0_pay4 (iblk m c 0 t) (iblk m c 3 t) A (iblk m c 6 t) (iblk m c 7 t) (ix2 p l)
      = joinAt (m ((c : Thread nD τ).loc main_arg0)) (m ((c : Thread nD τ).loc main_arg3))
          (m ((c : Thread nD τ).loc main_arg6)) (m ((c : Thread nD τ).loc main_arg7)) (row t p) (fun k => A (ix2 p k)) l := by
  have hN := lt_N t
  unfold joinAt normAt
  pointwise [k0_pay4]
  blk_point [iblk, V, idx t]

/-- What the result array ends holding. -/
theorem G8_eq (r : Fin 16384) (l : Fin 1024) :
    Cert.FfnIdeal.Value.G8 m c (ix2 r l)
      = ffnAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) r l := by
  have hr := r.isLt
  have hl := l.isLt
  have hp : Cert.FfnIdeal.Value.pt8Of (ix2 r l) = 8 * (r.val / 512) + 7 := by
    show 8 * (1 * (r.val / 512 - 0) + 1 * (l.val / 1024 - 0)) + 7 = _
    omega
  have hN : cfg0.N = 256 := N_0
  have hlt : 8 * (r.val / 512) + 7 < cfg0.N := by omega
  have hloc : Cert.FfnIdeal.Value.loc8Of (ix2 r l) = ix2 ⟨r.val % 512, by omega⟩ l := by
    funext a; apply Fin.ext
    match a with
    | ⟨0, _⟩ => rfl
    | ⟨1, _⟩ => exact Nat.mod_eq_of_lt hl
  unfold Cert.FfnIdeal.Value.G8
  rw [dif_pos (by rw [hp]; exact hlt), hloc,
    Cert.FfnIdeal.Value.fold0_congr m c _ _ (8 * (r.val / 512) + 7) (by omega) hp, ← Cert.FfnIdeal.Value.outsAt0_sweep m c _ hlt]
  have h7 : (⟨8 * (r.val / 512) + 7, hlt⟩ : Fin cfg0.N).val % 8 = 7 := by show (8 * (r.val / 512) + 7) % 8 = 7; omega
  have hrow : row ⟨8 * (r.val / 512) + 7, hlt⟩ ⟨r.val % 512, by omega⟩ = r := by
    apply Fin.ext
    show (8 * (r.val / 512) + 7) / 8 * 512 + r.val % 512 = r.val
    omega
  refine (congrFun (out_C m c ⟨_, hlt⟩ h7) _).trans ((pay4_apply m c ⟨_, hlt⟩ _ _ l).trans ?_)
  simp only [acc_eq m c ⟨_, hlt⟩ h7, hrow]
  rfl

end Cert.Proof.Ffn

end
-- ==== Proof.FfnRef.lean ====
/- The reference of the feed-forward call, read at an index. -/
module

public import proofs.«01_k».proof.Proof.FfnSum
public import proofs.«01_k».proof.Proof.Gen.FfnRefIdeal.Run
public import Idealize.ShloMosaic.Lib.Tactic.CleanTypes

@[expose] public section

set_option maxRecDepth 16384

noncomputable section

namespace Cert.Proof.Ffn

open Idealize.ShloMosaic Idealize.ShloMosaic.TcCoe
open Cert.FfnRefIdeal Cert.FfnRefIdeal.Gen
open scoped BigOperators

variable (m : (ℓ : Loc nD τ sig) → Buf (Elt Ideal) ℓ) (c : Dev nD)

/-- What the reference leaves, at an index. -/
theorem ref_apply (r : Fin 16384) (l : Fin 1024) : Cert.FfnRefIdeal.Value.res_out0 m c (ix2 r l)
      = ffnAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) r l := by
  unfold Cert.FfnRefIdeal.Value.res_out0 Cert.FfnRefIdeal.Value.res_main_v40
  clean_types
  pointwise
  rfl

end Cert.Proof.Ffn

end
-- ==== Proof.MlstmScan.lean ====
/- Running sums and running maxima over the four rows. -/
module

public import proofs.«01_k».proof.Proof.Gen.MlstmRefIdeal.Run
public import Idealize.ShloMosaic.Lib.Pointwise
public import Idealize.ShloMosaic.Lib.Tactic.CleanTypes

@[expose] public section

set_option maxRecDepth 16384

noncomputable section

namespace Cert.Proof.Mlstm

open Idealize.ShloMosaic Idealize.ShloMosaic.TcCoe
open Cert.MlstmRefIdeal Cert.MlstmRefIdeal.Gen Cert.MlstmRefIdeal.Value
open scoped BigOperators

variable (V0 : Valuation τ sig (Elt Ideal))

/-- A fold of a two-argument step over positions below `N`, each entry a function of the position's number alone. -/
theorem fold_range (f : EReal → EReal → EReal) (v : EReal) {N : Nat} (B : Fin N → EReal) (g : Nat → EReal) (hg : ∀ n, B n = g n.val) :
    (List.finRange N).foldl (fun r n => f r (B n)) v = (List.range N).foldl (fun r n => f r (g n)) v := by
  rw [← List.map_coe_finRange_eq_range, List.foldl_map]
  exact congrArg (fun F => List.foldl F v (List.finRange N)) (funext₂ fun r n => by rw [hg n])

/-- The running fold along the middle axis: four positions, those before the first row holding the starting value. -/
theorem win_eq (f : EReal → EReal → EReal) (x : S128x4x4.Idx → EReal) (v : S_.Idx → EReal) (b : Fin 128) (t h : Fin 4) :
    Host.reduceWindow f ![1, 4, 1] ![1, 1, 1] ![0, 3, 0] ![0, 0, 0] x v reduceWindows_S128x4x4_S128x4x4_w1s1p0_0_w4s1p3_0_w1s1p0_0 h_S_ (ix3 b t h)
      = (List.range 4).foldl (fun r n => f r (if hn : 3 ≤ t.val + n ∧ t.val + n - 3 < 4 then x (ix3 b ⟨t.val + n - 3, hn.2⟩ h) else v (Shape.Idx.first h_S_))) (v (Shape.Idx.first h_S_)) := by
  have hb := b.isLt
  have hh := h.isLt
  unfold Host.reduceWindow
  dsimp only
  refine (fold_range f _ _ (fun n => if hn : 3 ≤ t.val + n ∧ t.val + n - 3 < 4 then x (ix3 b ⟨t.val + n - 3, hn.2⟩ h) else v (Shape.Idx.first h_S_)) fun n => ?_).trans ?_
  · have hn : (((⟨3, ![1, 4, 1]⟩ : Shape).rowMajor ((⟨3, ![1, 4, 1]⟩ : Shape).rowMajor.symm n) : Fin _) : Nat) = n.val :=
      congrArg Fin.val (Equiv.apply_symm_apply _ n)
    have h0 : ((⟨3, ![1, 4, 1]⟩ : Shape).rowMajor.symm n 0).val < 1 := ((⟨3, ![1, 4, 1]⟩ : Shape).rowMajor.symm n 0).isLt
    have h1 : ((⟨3, ![1, 4, 1]⟩ : Shape).rowMajor.symm n 1).val < 4 := ((⟨3, ![1, 4, 1]⟩ : Shape).rowMajor.symm n 1).isLt
    have h2 : ((⟨3, ![1, 4, 1]⟩ : Shape).rowMajor.symm n 2).val < 1 := ((⟨3, ![1, 4, 1]⟩ : Shape).rowMajor.symm n 2).isLt
    have hv' : n.val = ((⟨3, ![1, 4, 1]⟩ : Shape).rowMajor.symm n 1).val := by
      refine (hn.symm.trans (Shape.rowMajor_val_three _)).trans ?_
      show (((⟨3, ![1, 4, 1]⟩ : Shape).rowMajor.symm n 0).val * 4 + ((⟨3, ![1, 4, 1]⟩ : Shape).rowMajor.symm n 1).val) * 1 + ((⟨3, ![1, 4, 1]⟩ : Shape).rowMajor.symm n 2).val = ((⟨3, ![1, 4, 1]⟩ : Shape).rowMajor.symm n 1).val
      omega
    simp only [hv']
    split
    next hin =>
      have h4 : 3 ≤ t.val * 1 + ((⟨3, ![1, 4, 1]⟩ : Shape).rowMajor.symm n 1).val ∧ t.val * 1 + ((⟨3, ![1, 4, 1]⟩ : Shape).rowMajor.symm n 1).val - 3 < 4 := hin 1
      rw [dif_pos ⟨by omega, by omega⟩]
      refine congrArg x (funext fun a => Fin.ext ?_)
      match a with
      | ⟨0, _⟩ => show b.val * 1 + ((⟨3, ![1, 4, 1]⟩ : Shape).rowMajor.symm n 0).val - 0 = b.val; omega
      | ⟨1, _⟩ => show t.val * 1 + ((⟨3, ![1, 4, 1]⟩ : Shape).rowMajor.symm n 1).val - 3 = t.val + ((⟨3, ![1, 4, 1]⟩ : Shape).rowMajor.symm n 1).val - 3; omega
      | ⟨2, _⟩ => show h.val * 1 + ((⟨3, ![1, 4, 1]⟩ : Shape).rowMajor.symm n 2).val - 0 = h.val; omega
    next hin =>
      rw [dif_neg fun hle => hin fun a => ?_]
      match a with
      | ⟨0, _⟩ => show 0 ≤ b.val * 1 + ((⟨3, ![1, 4, 1]⟩ : Shape).rowMajor.symm n 0).val ∧ b.val * 1 + ((⟨3, ![1, 4, 1]⟩ : Shape).rowMajor.symm n 0).val - 0 < 128; omega
      | ⟨1, _⟩ => show 3 ≤ t.val * 1 + ((⟨3, ![1, 4, 1]⟩ : Shape).rowMajor.symm n 1).val ∧ t.val * 1 + ((⟨3, ![1, 4, 1]⟩ : Shape).rowMajor.symm n 1).val - 3 < 4; omega
      | ⟨2, _⟩ => show 0 ≤ h.val * 1 + ((⟨3, ![1, 4, 1]⟩ : Shape).rowMajor.symm n 2).val ∧ h.val * 1 + ((⟨3, ![1, 4, 1]⟩ : Shape).rowMajor.symm n 2).val - 0 < 4; omega
  · rfl

/-- The running sum: the entries up to and including `t`. -/
theorem scan_add (x : S128x4x4.Idx → EReal) (v : S_.Idx → EReal) (hv : ∀ i, v i = 0) (b : Fin 128) (t h : Fin 4) :
    Host.reduceWindow (· + ·) ![1, 4, 1] ![1, 1, 1] ![0, 3, 0] ![0, 0, 0] x v reduceWindows_S128x4x4_S128x4x4_w1s1p0_0_w4s1p3_0_w1s1p0_0 h_S_ (ix3 b t h)
      = ∑ s : Fin 4, if s ≤ t then x (ix3 b s h) else 0 := by
  rw [win_eq, Fin.sum_univ_four]
  simp only [hv]
  fin_cases t <;> simp [List.range_succ, add_assoc]

/-- The running maximum: the entries up to and including `t`. -/
theorem scan_max (x : S128x4x4.Idx → EReal) (v : S_.Idx → EReal) (hv : ∀ i, v i = ⊥) (b : Fin 128) (t h : Fin 4) :
    Host.reduceWindow max ![1, 4, 1] ![1, 1, 1] ![0, 3, 0] ![0, 0, 0] x v reduceWindows_S128x4x4_S128x4x4_w1s1p0_0_w4s1p3_0_w1s1p0_0 h_S_ (ix3 b t h)
      = Finset.univ.sup fun s : Fin 4 => if s ≤ t then x (ix3 b s h) else ⊥ := by
  rw [win_eq, show (Finset.univ : Finset (Fin 4)) = {0, 1, 2, 3} from rfl]
  simp only [hv]
  fin_cases t <;> simp [List.range_succ, max_assoc]

end Cert.Proof.Mlstm

end
-- ==== Proof.MlstmSpec.lean ====
/- The recurrence's formulas over a chunk of rows. -/
module

public import Idealize.ShloMosaic.PureOps.Ideal
public import Idealize.ShloMosaic.Lib.Pointwise

@[expose] public section

noncomputable section

namespace Cert.Proof.Mlstm

open Idealize.ShloMosaic
open scoped BigOperators

variable {n : Nat} (i l : Fin n → EReal) (m : EReal)

/-- Running sum of the forget gates' logarithms. -/
def fS (t : Fin n) : EReal := ∑ s, if s ≤ t then l s else 0
/-- Input gate against the forgetting since the start. -/
def aS (s : Fin n) : EReal := i s - fS l s
/-- Stabiliser of row `t`, against the forgetting since the start. -/
def gS (t : Fin n) : EReal := max m (Finset.univ.sup fun s => if s ≤ t then aS i l s else ⊥)
/-- Weight of row `s` for row `t`; zero for a later row. -/
def dS (t s : Fin n) : EReal := Ideal.exp (if s ≤ t then aS i l s - gS i l m t else ⊥)
/-- Weight of the carried state for row `t`. -/
def decS (t : Fin n) : EReal := Ideal.exp (m - gS i l m t)
/-- Stabiliser after the last row, against the forgetting since the start. -/
def gE : EReal := max m (Finset.univ.sup (aS i l))
/-- Weight of row `s` in the new state. -/
def wE (s : Fin n) : EReal := Ideal.exp (aS i l s - gE i l m)
/-- Weight of the carried state in the new state. -/
def cE : EReal := Ideal.exp (m - gE i l m)
/-- The new stabiliser. -/
def mNew : EReal := (∑ s, l s) + gE i l m

variable (q k v o : Fin n → Fin 128 → EReal) (C : Fin 128 → Fin 128 → EReal) (N g : Fin 128 → EReal)

/-- The new matrix state. -/
def cNew (e d : Fin 128) : EReal := cE i l m * C e d + ∑ s, k s e * wE i l m s * v s d
/-- The new normaliser. -/
def nNew (d : Fin 128) : EReal := cE i l m * N d + ∑ s, k s d * wE i l m s

/-- Score of row `s` for row `t`. -/
def scoreS (t s : Fin n) : EReal := (∑ d, q t d * k s d) * dS i l m t s
def numS (t : Fin n) (d : Fin 128) : EReal := (∑ s, scoreS i l m q k t s * v s d) + (∑ e, q t e * C e d) * decS i l m t
def denS (t : Fin n) : EReal := (∑ s, scoreS i l m q k t s) + (∑ d, q t d * N d) * decS i l m t
/-- A head's output before its normalisation. -/
def hS (t : Fin n) (d : Fin 128) : EReal :=
  Ideal.div (numS i l m q k v C t d) (max (FloatOps.absf (F := Ideal) (φ := .f32) (denS i l m q k N t)) (Ideal.exp (0 - (fS l t + gS i l m t))))

/-- A row less its mean. -/
def devS (h : Fin n → Fin 128 → EReal) (t : Fin n) (d : Fin 128) : EReal := h t d - Ideal.div (∑ e, h t e) (Ideal.ofBits .f32 0x43000000#32)
/-- A head's rows normalised, scaled and gated. -/
def outS (h : Fin n → Fin 128 → EReal) (t : Fin n) (d : Fin 128) : EReal :=
  devS h t d * Ideal.rsqrt (Ideal.div (∑ e, devS h t e * devS h t e) (Ideal.ofBits .f32 0x43000000#32) + Ideal.ofBits .f32 0x3727C5AC#32) * g d
    * Ideal.div 1 (1 + Ideal.exp (0 - o t d))

end Cert.Proof.Mlstm

end
-- ==== Proof.MlstmHead.lean ====
/- What the kernel computes for a head: its vectors and its stores. -/
module

public import proofs.«01_k».proof.Proof.Gen.MlstmIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise
public import proofs.«01_k».proof.Proof.MlstmSpec

@[expose] public section

set_option maxRecDepth 16384

noncomputable section

namespace Cert.Proof.Mlstm

open Idealize.ShloMosaic Idealize.ShloMosaic.TcCoe
open Cert.MlstmIdeal Cert.MlstmIdeal.Gen
open scoped BigOperators

/-- Input gate of a head down the sixteen rows; the rows past the fourth hold the mask. -/
def igCol (x : FVec Ideal S16x1 .f32) (w : EReal) : FVec Ideal S16x1 .f32 :=
  select (cmpi .slt (iota .tc S16x1 32 [0] iota_S16x1_d0_w32) (broadcast S16x1 4#32)) (addf x (broadcast S16x1 w))
    (broadcast S16x1 (Named.named (F := Ideal) κ "mask" 0xF149F2CA#32))

/-- Logarithm of the forget gate down the sixteen rows; the rows past the fourth hold zero. -/
def lfCol (x : FVec Ideal S16x1 .f32) (w : EReal) : FVec Ideal S16x1 .f32 :=
  select (cmpi .slt (iota .tc S16x1 32 [0] iota_S16x1_d0_w32) (broadcast S16x1 4#32))
    (subf (minimumf (addf x (broadcast S16x1 w)) (broadcast S16x1 (Scalar.ofBits .f32 0#32)))
      (log1p (exp (subf (broadcast S16x1 (Scalar.ofBits .f32 0#32)) (absf (addf x (broadcast S16x1 w)))))))
    (broadcast S16x1 (Scalar.ofBits .f32 0#32))

/-- A column laid along a row. -/
def rowOf (l : FVec Ideal S16x1 .f32) : FVec Ideal S1x16 .f32 :=
  shapeCast S1x16 (multiReduction .add [0] S16
    (select k0_pay6 (broadcastTo S16x16 (shapeCast S16x1 l shapeCasts_S16x1_S16x1) broadcasts_S16x1_S16x16)
      (broadcast S16x16 (Scalar.ofBits .f32 0#32))) 0x00000000#32 reduces_S16x16_S16 (.inl rfl) rfl) shapeCasts_S16_S1x16

def fCol (l : FVec Ideal S16x1 .f32) : FVec Ideal S16x1 .f32 := k0_pay11 k0_pay4 (rowOf l)
def aRow (i l : FVec Ideal S16x1 .f32) : FVec Ideal S1x16 .f32 := k0_pay12 k0_pay5 k0_pay6 i l (Scalar.ofBits .f32 0#32)
def gCol (i l : FVec Ideal S16x1 .f32) (m : Vec Ideal S1x1x1x1 .f32) : FVec Ideal S16x1 .f32 :=
  k0_pay15 k0_pay4 k0_pay5 k0_pay6 i l (Scalar.ofBits .f32 0#32) m

def dMat (i l : FVec Ideal S16x1 .f32) (m : Vec Ideal S1x1x1x1 .f32) : FVec Ideal S16x16 .f32 :=
  k0_pay16 k0_pay4 k0_pay5 k0_pay6 i l (Scalar.ofBits .f32 0#32) m
def decCol (i l : FVec Ideal S16x1 .f32) (m : Vec Ideal S1x1x1x1 .f32) : FVec Ideal S16x1 .f32 :=
  k0_pay17 k0_pay4 k0_pay5 k0_pay6 i l (Scalar.ofBits .f32 0#32) m
def gEnd (i l : FVec Ideal S16x1 .f32) (m : Vec Ideal S1x1x1x1 .f32) : FVec Ideal S1x1 .f32 :=
  k0_pay19 k0_pay5 k0_pay6 i l (Scalar.ofBits .f32 0#32) m
def wEnd (i l : FVec Ideal S16x1 .f32) (m : Vec Ideal S1x1x1x1 .f32) : FVec Ideal S16x1 .f32 :=
  k0_pay22 (subf i (fCol l)) (broadcastTo S16x1 (gEnd i l m) broadcasts_S1x1_S16x1)
def cEnd (i l : FVec Ideal S16x1 .f32) (m : Vec Ideal S1x1x1x1 .f32) : FVec Ideal S1x1 .f32 :=
  k0_pay23 (k0_pay14 m) (gEnd i l m)
/-- The stabiliser a head leaves. -/
def mPiece (i l : FVec Ideal S16x1 .f32) (m : Vec Ideal S1x1x1x1 .f32) : FVec Ideal S1x1x1x1 .f32 :=
  k0_pay39 (gEnd i l m) (k0_pay20 (rowOf l))
/-- Keys times the scale. -/
def kScaled (k : FVec Ideal S16x128 .f32) : FVec Ideal S16x128 .f32 := mulf k (broadcast S16x128 (Scalar.ofBits .f32 0x3DB504F3#32))
/-- The matrix state a head leaves. -/
def cPiece (i l : FVec Ideal S16x1 .f32) (m : Vec Ideal S1x1x1x1 .f32) (k v : FVec Ideal S16x128 .f32) (C : Vec Ideal S1x1x128x128 .f32) :
    FVec Ideal S1x1x128x128 .f32 :=
  k0_pay37 (wEnd i l m) (cEnd i l m) (kScaled k) (truncf .bf16 v bitsLt_bf16_f32) (k0_pay28 C)
/-- The normaliser a head leaves. -/
def nPiece (i l : FVec Ideal S16x1 .f32) (m : Vec Ideal S1x1x1x1 .f32) (k : FVec Ideal S16x128 .f32) (N : Vec Ideal S1x1x1x128 .f32) :
    FVec Ideal S1x1x1x128 .f32 :=
  k0_pay38 (wEnd i l m) (cEnd i l m) (kScaled k) (k0_pay29 N)

def score (i l : FVec Ideal S16x1 .f32) (m : Vec Ideal S1x1x1x1 .f32) (q k : FVec Ideal S16x128 .f32) : FVec Ideal S16x16 .f32 :=
  mulf (matmul dot_S16x128_S16x128_S16x16_1_1_0_0_n_n none (truncf .bf16 q bitsLt_bf16_f32) (truncf .bf16 (kScaled k) bitsLt_bf16_f32)
    (constant S16x16 .f32 0x00000000#32)) (dMat i l m)
def num (i l : FVec Ideal S16x1 .f32) (m : Vec Ideal S1x1x1x1 .f32) (q k v : FVec Ideal S16x128 .f32) (C : Vec Ideal S1x1x128x128 .f32) :
    FVec Ideal S16x128 .f32 :=
  addf (matmul dot_S16x16_S16x128_S16x128_1_0_0_1_n_n none (truncf .bf16 (score i l m q k) bitsLt_bf16_f32) (truncf .bf16 v bitsLt_bf16_f32)
      (constant S16x128 .f32 0x00000000#32))
    (mulf (matmul dot_S16x128_S128x128_S16x128_1_0_0_1_n_n none (truncf .bf16 q bitsLt_bf16_f32) (truncf .bf16 (k0_pay28 C) bitsLt_bf16_f32)
      (constant S16x128 .f32 0x00000000#32)) (broadcastTo S16x128 (decCol i l m) broadcasts_S16x1_S16x128))
def den (i l : FVec Ideal S16x1 .f32) (m : Vec Ideal S1x1x1x1 .f32) (q k : FVec Ideal S16x128 .f32) (N : Vec Ideal S1x1x1x128 .f32) :
    FVec Ideal S16x1 .f32 :=
  addf (shapeCast S16x1 (multiReduction .add [1] S16 (score i l m q k) 0x00000000#32 reduces_S16x16_S16_2 (.inl rfl) rfl) shapeCasts_S16_S16x1)
    (mulf (shapeCast S16x1 (multiReduction .add [1] S16 (mulf q (broadcastTo S16x128 (k0_pay29 N) broadcasts_S1x128_S16x128)) 0x00000000#32
      reduces_S16x128_S16 (.inl rfl) rfl) shapeCasts_S16_S16x1) (decCol i l m))
def hRaw (i l : FVec Ideal S16x1 .f32) (m : Vec Ideal S1x1x1x1 .f32) (q k v : FVec Ideal S16x128 .f32) (C : Vec Ideal S1x1x128x128 .f32)
    (N : Vec Ideal S1x1x1x128 .f32) : FVec Ideal S16x128 .f32 :=
  divf (num i l m q k v C) (broadcastTo S16x128 (maximumf (absf (den i l m q k N))
    (exp (subf (broadcast S16x1 (Scalar.ofBits .f32 0#32)) (addf (fCol l) (gCol i l m))))) broadcasts_S16x1_S16x128)
/-- A head's rows less their means. -/
def centred (h : FVec Ideal S16x128 .f32) : FVec Ideal S16x128 .f32 :=
  subf h (broadcastTo S16x128 (divf (shapeCast S16x1 (multiReduction .add [1] S16 h 0x00000000#32 reduces_S16x128_S16 (.inl rfl) rfl)
    shapeCasts_S16_S16x1) (broadcast S16x1 (Scalar.ofBits .f32 0x43000000#32))) broadcasts_S16x1_S16x128)
/-- A head's rows normalised, scaled and gated. -/
def finish (d o : FVec Ideal S16x128 .f32) (g : Vec Ideal S1x128 .f32) : FVec Ideal S1x16x128 .bf16 :=
  shapeCast S1x16x128 (truncf .bf16 (mulf (mulf (mulf d (broadcastTo S16x128 (rsqrt (addf (divf (shapeCast S16x1
      (multiReduction .add [1] S16 (mulf d d) 0x00000000#32 reduces_S16x128_S16 (.inl rfl) rfl) shapeCasts_S16_S16x1)
      (broadcast S16x1 (Scalar.ofBits .f32 0x43000000#32))) (broadcast S16x1 (Scalar.ofBits .f32 0x3727C5AC#32)))) broadcasts_S16x1_S16x128))
      (broadcastTo S16x128 (shapeCast S1x128 g shapeCasts_S1x128_S1x128) broadcasts_S1x128_S16x128))
    (divf (broadcast S16x128 (Scalar.ofBits .f32 0x3F800000#32)) (addf (broadcast S16x128 (Scalar.ofBits .f32 0x3F800000#32))
      (exp (subf (broadcast S16x128 (Scalar.ofBits .f32 0#32)) o))))) bitsLt_bf16_f32) shapeCasts_S16x128_S1x16x128
/-- The rows a head writes. -/
def hPiece (i l : FVec Ideal S16x1 .f32) (m : Vec Ideal S1x1x1x1 .f32) (q k v o : FVec Ideal S16x128 .f32) (C : Vec Ideal S1x1x128x128 .f32)
    (N : Vec Ideal S1x1x1x128 .f32) (g : Vec Ideal S1x128 .f32) : FVec Ideal S1x16x128 .bf16 :=
  finish (centred (hRaw i l m q k v C N)) o g

end Cert.Proof.Mlstm

end
-- ==== Proof.MlstmRead.lean ====
/- Reads of a head's vectors at an index. -/
module

public import proofs.«01_k».proof.Proof.MlstmHead

@[expose] public section

set_option maxRecDepth 16384

noncomputable section

namespace Cert.Proof.Mlstm

open Idealize.ShloMosaic Idealize.ShloMosaic.TcCoe
open Cert.MlstmIdeal Cert.MlstmIdeal.Gen
open scoped BigOperators

theorem sel_iff {p : Prop} [Decidable p] {w : BitVec 1} (h : w = 1#1 ↔ p) (a b : EReal) : Scalar.select w a b = if p then a else b := by
  unfold Scalar.select
  by_cases hp : p
  · simp [hp, h.mpr hp]
  · rw [if_neg hp]
    simp [show ¬ w = 1#1 from fun hw => hp (h.mp hw)]

theorem le_word (s t : Fin 16) : IntOp.cmpi CmpIPredicate.sle (BitVec.ofNat 32 s.val) (BitVec.ofNat 32 t.val) = 1#1 ↔ s ≤ t := by
  revert s t; decide +kernel
theorem eq_word (s t : Fin 16) : IntOp.cmpi CmpIPredicate.eq (BitVec.ofNat 32 s.val) (BitVec.ofNat 32 t.val) = 1#1 ↔ s = t := by
  revert s t; decide +kernel
theorem lt_word (t : Fin 16) : IntOp.cmpi CmpIPredicate.slt (BitVec.ofNat 32 t.val) 4#32 = 1#1 ↔ t.val < 4 := by
  revert t; decide +kernel
theorem mask_word : Named.named (F := Ideal) (φ := .f32) κ "mask" 4048155338#32 = (⊥ : EReal) := by
  rfl

theorem fold_max (f : Fin 16 → EReal) : Finset.fold max (Ideal.ofBits FTy.f32 4286578688#32) f Finset.univ = Finset.univ.sup f := by
  rw [show Ideal.ofBits FTy.f32 4286578688#32 = ⊥ by simp [Ideal.ofBits, Ideal.ieee]]
  rfl

theorem igCol_at (x : FVec Ideal S16x1 .f32) (w : EReal) (t : Fin 16) : igCol x w (ix2 t 0) = if t.val < 4 then x (ix2 t 0) + w else ⊥ := by
  unfold igCol
  pointwise
  rw [sel_iff (lt_word t), mask_word]

theorem lfCol_at (x : FVec Ideal S16x1 .f32) (w : EReal) (t : Fin 16) :
    lfCol x w (ix2 t 0) = if t.val < 4 then min (x (ix2 t 0) + w) 0 - Ideal.log1p (Ideal.exp (0 - FloatOps.absf (F := Ideal) (φ := .f32) (x (ix2 t 0) + w))) else 0 := by
  unfold lfCol
  pointwise
  rw [sel_iff (lt_word t)]

theorem rowOf_at (l : FVec Ideal S16x1 .f32) (t : Fin 16) : rowOf l (ix2 0 t) = l (ix2 t 0) := by
  unfold rowOf k0_pay6
  pointwise
  simp only [sel_iff (eq_word _ t)]
  simp

variable (i l : FVec Ideal S16x1 .f32) (m : Vec Ideal S1x1x1x1 .f32) (q k v o : FVec Ideal S16x128 .f32) (C : Vec Ideal S1x1x128x128 .f32)
  (N : Vec Ideal S1x1x1x128 .f32) (g : Vec Ideal S1x128 .f32)

/-- A column of the kernel as a function of the row. -/
abbrev col (l : FVec Ideal S16x1 .f32) : Fin 16 → EReal := fun t => l (ix2 t 0)
abbrev mat (q : FVec Ideal S16x128 .f32) : Fin 16 → Fin 128 → EReal := fun t d => q (ix2 t d)
abbrev stM (m : Vec Ideal S1x1x1x1 .f32) : EReal := m (ix4 0 0 0 0)
abbrev stC (C : Vec Ideal S1x1x128x128 .f32) : Fin 128 → Fin 128 → EReal := fun e d => C (ix4 0 0 e d)
abbrev stN (N : Vec Ideal S1x1x1x128 .f32) : Fin 128 → EReal := fun d => N (ix4 0 0 0 d)

theorem fCol_at (t : Fin 16) : fCol l (ix2 t 0) = fS (col l) t := by
  unfold fCol k0_pay11 k0_pay4
  pointwise
  simp only [sel_iff (le_word _ t), rowOf_at]
  rfl

theorem aRow_at (t : Fin 16) : aRow i l (ix2 0 t) = aS (col i) (col l) t := by
  unfold aRow k0_pay12 k0_pay5 k0_pay6
  pointwise
  simp only [sel_iff (eq_word _ t), sel_iff (le_word _ t)]
  simp [aS, fS]

theorem gCol_at (t : Fin 16) : gCol i l m (ix2 t 0) = gS (col i) (col l) (stM m) t := by
  unfold gCol k0_pay15 k0_pay14 k0_pay4
  rw [show k0_pay12 k0_pay5 k0_pay6 i l (Scalar.ofBits .f32 0#32) = aRow i l from rfl]
  pointwise
  simp only [sel_iff (le_word _ t), aRow_at, mask_word]
  rw [fold_max]
  rfl

theorem dMat_at (t s : Fin 16) : dMat i l m (ix2 t s) = dS (col i) (col l) (stM m) t s := by
  unfold dMat k0_pay16 k0_pay4
  rw [show k0_pay12 k0_pay5 k0_pay6 i l (Scalar.ofBits .f32 0#32) = aRow i l from rfl]
  rw [show k0_pay15 (cmpi .sle (iota .tc S16x16 32 [1] iota_S16x16_d1_w32) (iota .tc S16x16 32 [0] iota_S16x16_d0_w32)) k0_pay5 k0_pay6 i l (Scalar.ofBits .f32 0#32) m = gCol i l m from rfl]
  pointwise
  simp only [sel_iff (le_word s t), aRow_at, gCol_at, mask_word]
  rfl

theorem decCol_at (t : Fin 16) : decCol i l m (ix2 t 0) = decS (col i) (col l) (stM m) t := by
  unfold decCol k0_pay17 k0_pay14
  rw [show k0_pay15 k0_pay4 k0_pay5 k0_pay6 i l (Scalar.ofBits .f32 0#32) m = gCol i l m from rfl]
  pointwise
  rw [gCol_at]
  rfl

theorem gEnd_at : gEnd i l m (ix2 0 0) = gE (col i) (col l) (stM m) := by
  unfold gEnd k0_pay19 k0_pay14
  rw [show k0_pay12 k0_pay5 k0_pay6 i l (Scalar.ofBits .f32 0#32) = aRow i l from rfl]
  pointwise
  simp only [aRow_at]
  rw [fold_max]
  rfl

theorem wEnd_at (s : Fin 16) : wEnd i l m (ix2 s 0) = wE (col i) (col l) (stM m) s := by
  unfold wEnd k0_pay22
  pointwise
  rw [fCol_at, gEnd_at]
  rfl

theorem cEnd_at : cEnd i l m (ix2 0 0) = cE (col i) (col l) (stM m) := by
  unfold cEnd k0_pay23 k0_pay14
  pointwise
  rw [gEnd_at]
  rfl

theorem mPiece_at : mPiece i l m (ix4 0 0 0 0) = mNew (col i) (col l) (stM m) := by
  unfold mPiece k0_pay39 k0_pay20
  pointwise
  simp only [rowOf_at, gEnd_at]
  rfl

/-- Keys times the scale, as a function of row and lane. -/
abbrev sc (k : FVec Ideal S16x128 .f32) : Fin 16 → Fin 128 → EReal := fun t d => k (ix2 t d) * Ideal.ofBits .f32 0x3DB504F3#32

theorem cPiece_at (e d : Fin 128) : cPiece i l m k v C (ix4 0 0 e d) = cNew (col i) (col l) (stM m) (sc k) (mat v) (stC C) e d := by
  unfold cPiece k0_pay37 k0_pay36 kScaled k0_pay28
  pointwise
  simp only [wEnd_at, cEnd_at]
  rfl

theorem nPiece_at (d : Fin 128) : nPiece i l m k N (ix4 0 0 0 d) = nNew (col i) (col l) (stM m) (sc k) (stN N) d := by
  unfold nPiece k0_pay38 k0_pay36 kScaled k0_pay29
  pointwise
  simp only [wEnd_at, cEnd_at]
  rfl

theorem score_at (t s : Fin 16) : score i l m q k (ix2 t s) = scoreS (col i) (col l) (stM m) (mat q) (sc k) t s := by
  unfold score kScaled
  pointwise
  simp only [dMat_at]
  rfl

theorem num_at (t : Fin 16) (d : Fin 128) : num i l m q k v C (ix2 t d) = numS (col i) (col l) (stM m) (mat q) (sc k) (mat v) (stC C) t d := by
  unfold num k0_pay28
  pointwise
  simp only [score_at, decCol_at]
  rfl

theorem den_at (t : Fin 16) : den i l m q k N (ix2 t 0) = denS (col i) (col l) (stM m) (mat q) (sc k) (stN N) t := by
  unfold den k0_pay29
  pointwise
  simp only [score_at, decCol_at]
  rfl

theorem hRaw_at (t : Fin 16) (d : Fin 128) :
    hRaw i l m q k v C N (ix2 t d) = hS (col i) (col l) (stM m) (mat q) (sc k) (mat v) (stC C) (stN N) t d := by
  unfold hRaw
  pointwise
  rw [num_at, den_at, fCol_at, gCol_at]
  rfl

theorem centred_at (h : FVec Ideal S16x128 .f32) (t : Fin 16) (d : Fin 128) : centred h (ix2 t d) = devS (mat h) t d := by
  unfold centred
  pointwise
  rfl

theorem finish_at (d : FVec Ideal S16x128 .f32) (t : Fin 16) (e : Fin 128) :
    finish d o g (ix3 0 t e) = d (ix2 t e) * Ideal.rsqrt (Ideal.div (∑ e, d (ix2 t e) * d (ix2 t e)) (Ideal.ofBits .f32 0x43000000#32) + Ideal.ofBits .f32 0x3727C5AC#32)
      * g (ix2 0 e) * Ideal.div 1 (1 + Ideal.exp (0 - o (ix2 t e))) := by
  unfold finish
  pointwise

theorem hPiece_at (t : Fin 16) (d : Fin 128) :
    hPiece i l m q k v o C N g (ix3 0 t d)
      = outS (mat o) (fun e => g (ix2 0 e)) (hS (col i) (col l) (stM m) (mat q) (sc k) (mat v) (stC C) (stN N)) t d := by
  unfold hPiece
  rw [finish_at]
  simp only [centred_at]
  rw [show mat (hRaw i l m q k v C N) = hS (col i) (col l) (stM m) (mat q) (sc k) (mat v) (stC C) (stN N) from
    funext₂ fun t d => hRaw_at i l m q k v C N t d]
  rfl

end Cert.Proof.Mlstm

end
-- ==== Proof.MlstmBlock.lean ====
/- The kernel's chunk of one sequence and head, piece by piece, as the recurrence's formulas. -/
module

public import proofs.«01_k».proof.Proof.MlstmRead

@[expose] public section

set_option maxRecDepth 16384

noncomputable section

namespace Cert.Proof.Mlstm

open Idealize.ShloMosaic Idealize.ShloMosaic.TcCoe
open Cert.MlstmIdeal Cert.MlstmIdeal.Gen
open scoped BigOperators

/-- Dropping an earlier fill: the stores listed first already cover the index. -/
theorem canon_take {s : Shape} {e : EltTy} (y : s.Idx) :
    ∀ (L : List (View.Piece (Elt Ideal) s e)) (k : Nat), (∃ p ∈ L.take k, y ∈ p.1.set) → View.canon L y = View.canon (L.take k) y
  | [], _, _ => by rw [List.take_nil]
  | _ :: _, 0, h => by obtain ⟨p, hp, _⟩ := h; exact absurd hp List.not_mem_nil
  | p :: L, k + 1, h => by
    rw [List.take_succ_cons]
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      obtain ⟨q, hq, hyq⟩ := h
      rw [List.take_succ_cons] at hq
      rcases List.mem_cons.mp hq with rfl | hq'
      · exact absurd hyq hm
      · exact canon_take y L k ⟨q, hq', hyq⟩

/-- Input gates of a head, as the block of gates and the biases give them. -/
def iB (G : S8x16x128.Idx → EReal) (B : S8.Idx → EReal) (b : Fin 8) (h : Fin 4) (t : Fin 16) : EReal :=
  if t.val < 4 then G (ix3 b t ⟨h.val, by have := h.isLt; omega⟩) + B (ix1 ⟨h.val, by have := h.isLt; omega⟩) else ⊥
/-- Logarithms of a head's forget gates. -/
def lB (G : S8x16x128.Idx → EReal) (B : S8.Idx → EReal) (b : Fin 8) (h : Fin 4) (t : Fin 16) : EReal :=
  if t.val < 4 then
    min (G (ix3 b t ⟨4 + h.val, by have := h.isLt; omega⟩) + B (ix1 ⟨4 + h.val, by have := h.isLt; omega⟩)) 0
      - Ideal.log1p (Ideal.exp (0 - FloatOps.absf (F := Ideal) (φ := .f32) (G (ix3 b t ⟨4 + h.val, by have := h.isLt; omega⟩) + B (ix1 ⟨4 + h.val, by have := h.isLt; omega⟩))))
  else 0

theorem slice_gate (X : Vec Ideal S1x16x128 .f32) {a : Nat} {hs : S1x16x128.ShapeCasts S16x128} {hsl} (a' : Fin 128) (ha : a = a'.val) (t : Fin 16) :
    extractStridedSlice S16x1 ![0, a] (shapeCast S16x128 X hs) hsl (ix2 t 0) = X (ix3 0 t a') := by
  subst ha
  pointwise

theorem slice_lane (X : Vec Ideal S1x16x512 .f32) {a : Nat} {hs : S1x16x512.ShapeCasts S16x512} {hsl} (h : Fin 4) (ha : a = 128 * h.val) (t : Fin 16) (d : Fin 128) :
    extractStridedSlice S16x128 ![0, a] (shapeCast S16x512 X hs) hsl (ix2 t d) = X (ix3 0 t ⟨128 * h.val + d.val, by have := h.isLt; have := d.isLt; omega⟩) := by
  subst ha
  pointwise

/-- The column of gates that a head slices from its row of the gates' block. -/
def gateCol (G : Vec Ideal S8x16x128 .f32) {b a : Nat} (inb : ∀ i, (![b, 0, 0] : Fin 3 → Nat) i + (![1, 16, 128] : Fin 3 → Nat) i ≤ S8x16x128.size i)
    (hs : S1x16x128.ShapeCasts S16x128) (hsl : S16x128.Slices ![0, a] S16x1) : FVec Ideal S16x1 .f32 :=
  extractStridedSlice S16x1 ![0, a] (shapeCast S16x128 (View.ld G (Rect.unit ![b, 0, 0] ![1, 16, 128] inb)) hs) hsl
/-- The lanes of a head that it slices from its row of a wide block. -/
def lanes (Q : Vec Ideal S8x16x512 .f32) {b a : Nat} (inb : ∀ i, (![b, 0, 0] : Fin 3 → Nat) i + (![1, 16, 512] : Fin 3 → Nat) i ≤ S8x16x512.size i)
    (hs : S1x16x512.ShapeCasts S16x512) (hsl : S16x512.Slices ![0, a] S16x128) : FVec Ideal S16x128 .f32 :=
  extractStridedSlice S16x128 ![0, a] (shapeCast S16x512 (View.ld Q (Rect.unit ![b, 0, 0] ![1, 16, 512] inb)) hs) hsl
/-- A bias that a head reads. -/
def biasOf (B : Vec Ideal S8 .f32) {a : Nat} (inb : ∀ i, (![a] : Fin 1 → Nat) i + (![1] : Fin 1 → Nat) i ≤ S8.size i) (i0 : 0 < S1.numel) : EReal :=
  View.ld B (Rect.unit ![a] ![1] inb) (Shape.Idx.first i0)
/-- The stabiliser that a head carries in. -/
def stabOf (M : Vec Ideal S8x4x1x1 .f32) {b a : Nat} (inb : ∀ i, (![b, a, 0, 0] : Fin 4 → Nat) i + (![1, 1, 1, 1] : Fin 4 → Nat) i ≤ S8x4x1x1.size i) :
    Vec Ideal S1x1x1x1 .f32 :=
  View.ld (Val := Elt Ideal) (S := S8x4x1x1) (e' := .f32) (k0_pay3 M) (Rect.unit ![b, a, 0, 0] ![1, 1, 1, 1] inb)

theorem gate_at (G : Vec Ideal S8x16x128 .f32) {b a : Nat} {inb : ∀ i, (![b, 0, 0] : Fin 3 → Nat) i + (![1, 16, 128] : Fin 3 → Nat) i ≤ S8x16x128.size i}
    {hs : S1x16x128.ShapeCasts S16x128} {hsl : S16x128.Slices ![0, a] S16x1} (b' : Fin 8) (a' : Fin 128) (hb : b = b'.val) (ha : a = a'.val) (t : Fin 16) :
    gateCol G inb hs hsl (ix2 t 0) = G (ix3 b' t a') := by
  refine (slice_gate _ a' ha t).trans (View.ld_unit_apply_of G _ _ _ _ _ fun i => ?_)
  subst hb
  fin_cases i
  · exact (Nat.add_zero _).symm
  · exact (Nat.zero_add _).symm
  · exact (Nat.zero_add _).symm

theorem bias_at (B : Vec Ideal S8 .f32) {a : Nat} {inb : ∀ i, (![a] : Fin 1 → Nat) i + (![1] : Fin 1 → Nat) i ≤ S8.size i} {i0 : 0 < S1.numel} (a' : Fin 8) (ha : a = a'.val) :
    biasOf B inb i0 = B (ix1 a') := by
  refine View.ld_unit_apply_of B _ _ _ _ _ fun i => ?_
  subst ha
  fin_cases i
  exact (Nat.add_zero _).symm

theorem lane_at (Q : Vec Ideal S8x16x512 .f32) {b a : Nat} {inb : ∀ i, (![b, 0, 0] : Fin 3 → Nat) i + (![1, 16, 512] : Fin 3 → Nat) i ≤ S8x16x512.size i}
    {hs : S1x16x512.ShapeCasts S16x512} {hsl : S16x512.Slices ![0, a] S16x128} (b' : Fin 8) (h : Fin 4) (hb : b = b'.val) (ha : a = 128 * h.val) (t : Fin 16) (d : Fin 128) :
    lanes Q inb hs hsl (ix2 t d)
      = Q (ix3 b' t ⟨128 * h.val + d.val, by have := h.isLt; have := d.isLt; omega⟩) := by
  refine (slice_lane _ h ha t d).trans (View.ld_unit_apply_of Q _ _ _ _ _ fun i => ?_)
  subst hb
  fin_cases i
  · exact (Nat.add_zero _).symm
  · exact (Nat.zero_add _).symm
  · exact (Nat.zero_add _).symm

theorem pay3_eq (M : Vec Ideal S8x4x1x1 .f32) : k0_pay3 M = M := by
  unfold k0_pay3
  dsimp only
  rw [shapeCast_self, shapeCast_self]

theorem stabiliser_at (M : Vec Ideal S8x4x1x1 .f32) {b a : Nat} {inb : ∀ i, (![b, a, 0, 0] : Fin 4 → Nat) i + (![1, 1, 1, 1] : Fin 4 → Nat) i ≤ S8x4x1x1.size i}
    (b' : Fin 8) (h : Fin 4) (hb : b = b'.val) (ha : a = h.val) :
    stabOf M inb (ix4 0 0 0 0) = M (ix4 b' h 0 0) := by
  unfold stabOf
  rw [pay3_eq]
  refine View.ld_unit_apply_of M _ _ _ _ _ fun i => ?_
  subst hb ha
  fin_cases i
  · exact (Nat.add_zero _).symm
  · exact (Nat.add_zero _).symm
  · rfl
  · rfl

/-- A head's lanes of a wide block. -/
def laneB (Q : S8x16x512.Idx → EReal) (b : Fin 8) (h : Fin 4) (t : Fin 16) (d : Fin 128) : EReal :=
  Q (ix3 b t ⟨128 * h.val + d.val, by have := h.isLt; have := d.isLt; omega⟩)

theorem scale_block (g : Vec Ideal S1x512 .f32) {w : Nat} {inbg : ∀ i, (![0, w] : Fin 2 → Nat) i + (![1, 128] : Fin 2 → Nat) i ≤ S1x512.size i}
    (h : Fin 4) (hw : w = 128 * h.val) (d : Fin 128) : (View.ld g (Rect.unit ![0, w] ![1, 128] inbg) : Vec Ideal S1x128 .f32) (ix2 0 d)
    = g (ix2 0 ⟨128 * h.val + d.val, by have := h.isLt; have := d.isLt; omega⟩) := by
  refine View.ld_unit_apply_of g _ _ _ _ _ fun i => ?_
  subst hw
  fin_cases i
  · rfl
  · rfl

section
variable (G : Vec Ideal S8x16x128 .f32) (B : Vec Ideal S8 .f32) {b a f : Nat}
  {inbG : ∀ i, (![b, 0, 0] : Fin 3 → Nat) i + (![1, 16, 128] : Fin 3 → Nat) i ≤ S8x16x128.size i}
  {hs : S1x16x128.ShapeCasts S16x128} {hsa : S16x128.Slices ![0, a] S16x1} {hsf : S16x128.Slices ![0, f] S16x1}
  {inba : ∀ i, (![a] : Fin 1 → Nat) i + (![1] : Fin 1 → Nat) i ≤ S8.size i} {inbf : ∀ i, (![f] : Fin 1 → Nat) i + (![1] : Fin 1 → Nat) i ≤ S8.size i}
  {i0 : 0 < S1.numel} (b' : Fin 8) (h : Fin 4) (hb : b = b'.val) (ha : a = h.val) (hf : f = 4 + h.val)

include hb ha in
theorem ig_block : col (igCol (gateCol G inbG hs hsa) (biasOf B inba i0)) = iB G B b' h :=
  funext fun t => by
    have := h.isLt
    show igCol _ _ (ix2 t 0) = _
    rw [igCol_at, gate_at G b' ⟨h.val, by omega⟩ hb ha t, bias_at B ⟨h.val, by omega⟩ ha]
    rfl

include hb hf in
theorem lf_block : col (lfCol (gateCol G inbG hs hsf) (biasOf B inbf i0)) = lB G B b' h :=
  funext fun t => by
    have := h.isLt
    show lfCol _ _ (ix2 t 0) = _
    rw [lfCol_at, gate_at G b' ⟨4 + h.val, by omega⟩ hb hf t, bias_at B ⟨4 + h.val, by omega⟩ hf]
    rfl

variable (M : Vec Ideal S8x4x1x1 .f32)
  {inbM : ∀ i, (![b, a, 0, 0] : Fin 4 → Nat) i + (![1, 1, 1, 1] : Fin 4 → Nat) i ≤ S8x4x1x1.size i}

include hb ha hf in
theorem m_piece (x : S1x1x1x1.Idx) :
    mPiece (igCol (gateCol G inbG hs hsa) (biasOf B inba i0)) (lfCol (gateCol G inbG hs hsf) (biasOf B inbf i0))
        (stabOf M inbM) x
      = mNew (iB G B b' h) (lB G B b' h) (M (ix4 b' h 0 0)) := by
  rw [show x = ix4 0 0 0 0 from funext fun i => by fin_cases i <;> exact Subsingleton.elim (α := Fin 1) _ _, mPiece_at,
    ig_block G B b' h hb ha, lf_block G B b' h hb hf, stM, stabiliser_at M b' h hb ha]

variable (K V Q O : Vec Ideal S8x16x512 .f32) (C : Vec Ideal S8x4x128x128 .f32) (N : Vec Ideal S8x4x1x128 .f32) (g : Vec Ideal S1x512 .f32) {w : Nat}
  {inbQ : ∀ i, (![b, 0, 0] : Fin 3 → Nat) i + (![1, 16, 512] : Fin 3 → Nat) i ≤ S8x16x512.size i}
  {hq : S1x16x512.ShapeCasts S16x512} {hqs : S16x512.Slices ![0, w] S16x128}
  {inbC : ∀ i, (![b, a, 0, 0] : Fin 4 → Nat) i + (![1, 1, 128, 128] : Fin 4 → Nat) i ≤ S8x4x128x128.size i}
  {inbN : ∀ i, (![b, a, 0, 0] : Fin 4 → Nat) i + (![1, 1, 1, 128] : Fin 4 → Nat) i ≤ S8x4x1x128.size i}
  {inbg : ∀ i, (![0, w] : Fin 2 → Nat) i + (![1, 128] : Fin 2 → Nat) i ≤ S1x512.size i} (hw : w = 128 * h.val)

include hb ha in
theorem stabiliser_block : stM (stabOf M inbM) = M (ix4 b' h 0 0) := stabiliser_at M b' h hb ha

include hb hw in
theorem lane_block : mat (lanes Q inbQ hq hqs) = laneB Q b' h := funext₂ fun t d => lane_at Q b' h hb hw t d

include hb hw in
theorem key_block : sc (lanes Q inbQ hq hqs) = fun t d => laneB Q b' h t d * Ideal.ofBits .f32 0x3DB504F3#32 :=
  funext₂ fun t d => congrArg (· * _) (lane_at Q b' h hb hw t d)

theorem pay1_eq (C : Vec Ideal S8x4x128x128 .f32) : k0_pay1 C = C := by unfold k0_pay1; dsimp only; rw [shapeCast_self]
theorem pay2_eq (N : Vec Ideal S8x4x1x128 .f32) : k0_pay2 N = N := by unfold k0_pay2; dsimp only; rw [shapeCast_self, shapeCast_self]

/-- The matrix state that a head carries in. -/
def stateOf (C : Vec Ideal S8x4x128x128 .f32) (inb : ∀ i, (![b, a, 0, 0] : Fin 4 → Nat) i + (![1, 1, 128, 128] : Fin 4 → Nat) i ≤ S8x4x128x128.size i) :
    Vec Ideal S1x1x128x128 .f32 :=
  View.ld (Val := Elt Ideal) (S := S8x4x128x128) (e' := .f32) (k0_pay1 C) (Rect.unit ![b, a, 0, 0] ![1, 1, 128, 128] inb)
/-- The normaliser that a head carries in. -/
def sumOf (N : Vec Ideal S8x4x1x128 .f32) (inb : ∀ i, (![b, a, 0, 0] : Fin 4 → Nat) i + (![1, 1, 1, 128] : Fin 4 → Nat) i ≤ S8x4x1x128.size i) :
    Vec Ideal S1x1x1x128 .f32 :=
  View.ld (Val := Elt Ideal) (S := S8x4x1x128) (e' := .f32) (k0_pay2 N) (Rect.unit ![b, a, 0, 0] ![1, 1, 1, 128] inb)

include hb ha in
theorem state_block : stC (stateOf C inbC) = fun e d => C (ix4 b' h e d) := funext₂ fun e d => by
  show stateOf C inbC _ = _
  unfold stateOf
  rw [pay1_eq]
  refine View.ld_unit_apply_of C _ _ _ _ _ fun i => ?_
  subst hb ha
  fin_cases i
  · exact (Nat.add_zero _).symm
  · exact (Nat.add_zero _).symm
  · exact (Nat.zero_add _).symm
  · exact (Nat.zero_add _).symm

include hb ha in
theorem sum_block : stN (sumOf N inbN) = fun d => N (ix4 b' h 0 d) := funext fun d => by
  show sumOf N inbN _ = _
  unfold sumOf
  rw [pay2_eq]
  refine View.ld_unit_apply_of N _ _ _ _ _ fun i => ?_
  subst hb ha
  fin_cases i
  · exact (Nat.add_zero _).symm
  · exact (Nat.add_zero _).symm
  · rfl
  · exact (Nat.zero_add _).symm

include hb ha hf hw in
theorem c_piece (x : S1x1x128x128.Idx) (e d : Fin 128) (he : x 2 = e) (hd : x 3 = d) :
    cPiece (igCol (gateCol G inbG hs hsa) (biasOf B inba i0)) (lfCol (gateCol G inbG hs hsf) (biasOf B inbf i0))
        (stabOf M inbM) (lanes K inbQ hq hqs) (lanes V inbQ hq hqs) (stateOf C inbC) x
      = cNew (iB G B b' h) (lB G B b' h) (M (ix4 b' h 0 0)) (fun t d => laneB K b' h t d * Ideal.ofBits .f32 0x3DB504F3#32)
          (laneB V b' h) (fun e d => C (ix4 b' h e d)) e d := by
  rw [show x = ix4 0 0 e d from funext fun i => by fin_cases i <;> first | exact he | exact hd | exact Subsingleton.elim (α := Fin 1) _ _, cPiece_at,
    ig_block G B b' h hb ha, lf_block G B b' h hb hf, stabiliser_block b' h hb ha, state_block b' h hb ha, key_block b' h hb K hw, lane_block b' h hb V hw]

include hb ha hf hw in
theorem n_piece (x : S1x1x1x128.Idx) (d : Fin 128) (hd : x 3 = d) :
    nPiece (igCol (gateCol G inbG hs hsa) (biasOf B inba i0)) (lfCol (gateCol G inbG hs hsf) (biasOf B inbf i0))
        (stabOf M inbM) (lanes K inbQ hq hqs) (sumOf N inbN) x
      = nNew (iB G B b' h) (lB G B b' h) (M (ix4 b' h 0 0)) (fun t d => laneB K b' h t d * Ideal.ofBits .f32 0x3DB504F3#32)
          (fun d => N (ix4 b' h 0 d)) d := by
  rw [show x = ix4 0 0 0 d from funext fun i => by fin_cases i <;> first | exact hd | exact Subsingleton.elim (α := Fin 1) _ _, nPiece_at,
    ig_block G B b' h hb ha, lf_block G B b' h hb hf, stabiliser_block b' h hb ha, sum_block b' h hb ha, key_block b' h hb K hw]

include hb ha hf hw in
theorem h_piece (x : S1x16x128.Idx) (t : Fin 16) (d : Fin 128) (ht : x 1 = t) (hd : x 2 = d) :
    hPiece (igCol (gateCol G inbG hs hsa) (biasOf B inba i0)) (lfCol (gateCol G inbG hs hsf) (biasOf B inbf i0))
        (stabOf M inbM) (lanes Q inbQ hq hqs) (lanes K inbQ hq hqs) (lanes V inbQ hq hqs) (lanes O inbQ hq hqs) (stateOf C inbC) (sumOf N inbN)
        (View.ld g (Rect.unit ![0, w] ![1, 128] inbg)) x
      = outS (laneB O b' h) (fun d => g (ix2 0 ⟨128 * h.val + d.val, by have := h.isLt; have := d.isLt; omega⟩))
          (hS (iB G B b' h) (lB G B b' h) (M (ix4 b' h 0 0)) (laneB Q b' h)
          (fun t d => laneB K b' h t d * Ideal.ofBits .f32 0x3DB504F3#32)
          (laneB V b' h) (fun e d => C (ix4 b' h e d)) (fun d => N (ix4 b' h 0 d))) t d := by
  rw [show x = ix3 0 t d from funext fun i => by fin_cases i <;> first | exact ht | exact hd | exact Subsingleton.elim (α := Fin 1) _ _, hPiece_at,
    ig_block G B b' h hb ha, lf_block G B b' h hb hf, stabiliser_block b' h hb ha, state_block b' h hb ha, sum_block b' h hb ha,
    key_block b' h hb K hw, lane_block b' h hb V hw, lane_block b' h hb Q hw, lane_block b' h hb O hw]
  exact congrArg (fun z => outS _ z _ t d) (funext fun d => scale_block g h hw d)
end

end Cert.Proof.Mlstm

end
-- ==== Proof.MlstmOut.lean ====
/- The four output blocks of a grid step. -/
module

public import proofs.«01_k».proof.Proof.MlstmBlock

@[expose] public section

set_option maxRecDepth 16384

noncomputable section

namespace Cert.Proof.Mlstm

open Idealize.ShloMosaic Idealize.ShloMosaic.TcCoe
open Cert.MlstmIdeal Cert.MlstmIdeal.Gen
open scoped BigOperators

set_option maxHeartbeats 2000000 in
/-- What the call leaves as the stabilisers of a block of eight rows. -/
theorem m_block (m : (ℓ : Loc nD τ sig) → Buf (Elt Ideal) ℓ) (c : Dev nD) (t : Fin cfg0.N) (y : S8x4x1x1.Idx) :
    (outsAt0 m c t).2.2.2 y
      = mNew (iB (iblk m c 5 t) (iblk m c 0 t) (y 0) (y 1)) (lB (iblk m c 5 t) (iblk m c 0 t) (y 0) (y 1))
          ((iblk m c 9 t : Vec Ideal S8x4x1x1 .f32) (ix4 (y 0) (y 1) 0 0)) := by
  unfold outsAt0
  dsimp only
  frame_open
  simp (disch := decide) only [↓ View.readCov_skip, ↓ View.readCov_cons_toLoadRect, ↓ View.readCov_fill]
  frame_out
  rw [View.readCov_eq_canon']
  refine (congrArg (View.canon _) (show _ = y from funext fun a => Fin.ext ?_)).trans ?_
  · fin_cases a <;> exact (Rect.idx_unit_val ..).trans (Nat.zero_add _)
  refine (canon_take y _ 32 (View.cover_of_tiled _ ![1, 1, 1, 1] (by rfl) y)).trans ?_
  dsimp only [List.take_succ_cons, List.take_zero]
  have H := @m_piece
  unfold mPiece gEnd rowOf igCol lfCol gateCol biasOf stabOf at H
  dsimp only [k0_pay3, k0_pay5, k0_pay6, k0_pay12, k0_pay14, k0_pay19, k0_pay20, k0_pay39] at H
  canon_tiles x h
  all_goals
    open_payloads
    refine H _ _ (y 0) (y 1) ?_ ?_ ?_ _ x <;> omega

set_option maxHeartbeats 4000000 in
/-- What the call leaves as the matrix states of a block of eight rows. -/
theorem c_block (m : (ℓ : Loc nD τ sig) → Buf (Elt Ideal) ℓ) (c : Dev nD) (t : Fin cfg0.N) (y : S8x4x128x128.Idx) :
    (outsAt0 m c t).2.1 y = cNew (iB (iblk m c 5 t) (iblk m c 0 t) (y 0) (y 1)) (lB (iblk m c 5 t) (iblk m c 0 t) (y 0) (y 1))
        ((iblk m c 9 t : Vec Ideal S8x4x1x1 .f32) (ix4 (y 0) (y 1) 0 0))
        (fun s d => laneB (X0_2 m c t) (y 0) (y 1) s d * Ideal.ofBits .f32 0x3DB504F3#32) (laneB (X0_3 m c t) (y 0) (y 1))
        (fun e d => (iblk m c 7 t : Vec Ideal S8x4x128x128 .f32) (ix4 (y 0) (y 1) e d)) (y 2) (y 3) := by
  unfold outsAt0
  dsimp only
  frame_open
  simp (disch := decide) only [↓ View.readCov_skip, ↓ View.readCov_cons_toLoadRect, ↓ View.readCov_fill]
  frame_out
  rw [View.readCov_eq_canon']
  refine (congrArg (View.canon _) (show _ = y from funext fun a => Fin.ext ?_)).trans ?_
  · fin_cases a <;> exact (Rect.idx_unit_val ..).trans (Nat.zero_add _)
  refine (canon_take y _ 32 (View.cover_of_tiled _ ![1, 1, 128, 128] (by rfl) y)).trans ?_
  dsimp only [List.take_succ_cons, List.take_zero]
  have H := @c_piece
  dsimp only [cPiece, gCol, fCol, aRow, dMat, decCol, gEnd, wEnd, cEnd, rowOf, igCol, lfCol, gateCol, biasOf, stabOf, lanes, kScaled, stateOf, sumOf, k0_pay1, k0_pay2, k0_pay3, k0_pay4, k0_pay5, k0_pay6, k0_pay11, k0_pay12, k0_pay14, k0_pay15, k0_pay16, k0_pay17, k0_pay19, k0_pay20, k0_pay22, k0_pay23, k0_pay28, k0_pay29, k0_pay36, k0_pay37, k0_pay38] at H
  canon_tiles x h
  all_goals
    open_payloads
    refine H _ _ (y 0) (y 1) ?_ ?_ ?_ _ _ _ _ ?_ x (y 2) (y 3) ?_ ?_ <;> first | omega | exact Fin.ext (by omega)

set_option maxHeartbeats 4000000 in
/-- What the call leaves as the normalisers of a block of eight rows. -/
theorem n_block (m : (ℓ : Loc nD τ sig) → Buf (Elt Ideal) ℓ) (c : Dev nD) (t : Fin cfg0.N) (y : S8x4x1x128.Idx) :
    (outsAt0 m c t).2.2.1 y = nNew (iB (iblk m c 5 t) (iblk m c 0 t) (y 0) (y 1)) (lB (iblk m c 5 t) (iblk m c 0 t) (y 0) (y 1))
        ((iblk m c 9 t : Vec Ideal S8x4x1x1 .f32) (ix4 (y 0) (y 1) 0 0))
        (fun s d => laneB (X0_2 m c t) (y 0) (y 1) s d * Ideal.ofBits .f32 0x3DB504F3#32)
        (fun d => (iblk m c 8 t : Vec Ideal S8x4x1x128 .f32) (ix4 (y 0) (y 1) 0 d)) (y 3) := by
  unfold outsAt0
  dsimp only
  frame_open
  simp (disch := decide) only [↓ View.readCov_skip, ↓ View.readCov_cons_toLoadRect, ↓ View.readCov_fill]
  frame_out
  rw [View.readCov_eq_canon']
  refine (congrArg (View.canon _) (show _ = y from funext fun a => Fin.ext ?_)).trans ?_
  · fin_cases a <;> exact (Rect.idx_unit_val ..).trans (Nat.zero_add _)
  refine (canon_take y _ 32 (View.cover_of_tiled _ ![1, 1, 1, 128] (by rfl) y)).trans ?_
  dsimp only [List.take_succ_cons, List.take_zero]
  have H := @n_piece
  dsimp only [nPiece, gCol, fCol, aRow, dMat, decCol, gEnd, wEnd, cEnd, rowOf, igCol, lfCol, gateCol, biasOf, stabOf, lanes, kScaled, stateOf, sumOf, k0_pay1, k0_pay2, k0_pay3, k0_pay4, k0_pay5, k0_pay6, k0_pay11, k0_pay12, k0_pay14, k0_pay15, k0_pay16, k0_pay17, k0_pay19, k0_pay20, k0_pay22, k0_pay23, k0_pay28, k0_pay29, k0_pay36, k0_pay37, k0_pay38] at H
  canon_tiles x h
  all_goals
    open_payloads
    refine H _ _ (y 0) (y 1) ?_ ?_ ?_ _ _ _ ?_ x (y 3) ?_ <;> first | omega | exact Fin.ext (by omega)

set_option maxHeartbeats 4000000 in
/-- What the call leaves as the heads' outputs of a block of eight rows. -/
theorem h_block (m : (ℓ : Loc nD τ sig) → Buf (Elt Ideal) ℓ) (c : Dev nD) (t : Fin cfg0.N) (y : S8x16x512.Idx) (h : Fin 4) (d : Fin 128) (hy : (y 2).val = 128 * h.val + d.val) :
    (outsAt0 m c t).1 y = outS (laneB (X0_4 m c t) (y 0) h)
        (fun d => (iblk m c 6 t : Vec Ideal S1x512 .f32) (ix2 0 ⟨128 * h.val + d.val, by have := h.isLt; have := d.isLt; omega⟩))
        (hS (iB (iblk m c 5 t) (iblk m c 0 t) (y 0) h) (lB (iblk m c 5 t) (iblk m c 0 t) (y 0) h)
          ((iblk m c 9 t : Vec Ideal S8x4x1x1 .f32) (ix4 (y 0) h 0 0)) (laneB (X0_1 m c t) (y 0) h)
          (fun s d => laneB (X0_2 m c t) (y 0) h s d * Ideal.ofBits .f32 0x3DB504F3#32) (laneB (X0_3 m c t) (y 0) h)
          (fun e d => (iblk m c 7 t : Vec Ideal S8x4x128x128 .f32) (ix4 (y 0) h e d))
          (fun d => (iblk m c 8 t : Vec Ideal S8x4x1x128 .f32) (ix4 (y 0) h 0 d))) (y 1) d := by
  unfold outsAt0
  dsimp only
  frame_open
  simp (disch := decide) only [↓ View.readCov_skip, ↓ View.readCov_cons_toLoadRect, ↓ View.readCov_fill]
  frame_out
  have H := @h_piece
  dsimp only [hPiece, finish, centred, hRaw, num, den, score, gCol, fCol, aRow, dMat, decCol, gEnd, wEnd, cEnd, rowOf, igCol, lfCol, gateCol, biasOf, stabOf, lanes, kScaled, stateOf, sumOf, k0_pay1, k0_pay2, k0_pay3, k0_pay4, k0_pay5, k0_pay6, k0_pay11, k0_pay12, k0_pay14, k0_pay15, k0_pay16, k0_pay17, k0_pay19, k0_pay20, k0_pay22, k0_pay23, k0_pay28, k0_pay29, k0_pay36, k0_pay37, k0_pay38] at H
  canon_tiles x hx
  all_goals
    open_payloads
    refine H _ _ (y 0) h ?_ ?_ ?_ _ _ _ _ _ _ _ _ ?_ x (y 1) d ?_ ?_ <;> first | omega | exact Fin.ext (by omega)

end Cert.Proof.Mlstm

end
-- ==== Proof.MlstmMath.lean ====
/- Arithmetic of the chunk: which values are numbers, and that padded rows add nothing. -/
module

public import proofs.«01_k».proof.Proof.MlstmSpec

@[expose] public section

noncomputable section

namespace Cert.Proof.Mlstm

open Idealize.ShloMosaic
open scoped BigOperators

/-- A number: neither infinity. -/
def IsNum (x : EReal) : Prop := ∃ r : ℝ, x = r

theorem IsNum.add {x y : EReal} : IsNum x → IsNum y → IsNum (x + y) := by
  rintro ⟨a, rfl⟩ ⟨b, rfl⟩
  exact ⟨a + b, (EReal.coe_add a b).symm⟩

theorem IsNum.sub {x y : EReal} : IsNum x → IsNum y → IsNum (x - y) := by
  rintro ⟨a, rfl⟩ ⟨b, rfl⟩
  exact ⟨a - b, (EReal.coe_sub a b).symm⟩

theorem IsNum.zero : IsNum 0 := ⟨0, rfl⟩

theorem IsNum.sum {n : Nat} {f : Fin n → EReal} (h : ∀ s, IsNum (f s)) : IsNum (∑ s, f s) := by
  choose g hg using h
  refine ⟨∑ s, g s, ?_⟩
  rw [Finset.sum_congr rfl fun s _ => hg s]
  induction (Finset.univ : Finset (Fin n)) using Finset.induction_on with
  | empty => rfl
  | insert a S ha ih => rw [Finset.sum_insert ha, Finset.sum_insert ha, ih, EReal.coe_add]

/-- The larger of a number and entries below the upper infinity is a number. -/
theorem IsNum.max_sup {n : Nat} {m : EReal} (hm : IsNum m) {f : Fin n → EReal} (h : ∀ s, f s < ⊤) : IsNum (max m (Finset.univ.sup f)) := by
  obtain ⟨r, rfl⟩ := hm
  have h1 : max (r : EReal) (Finset.univ.sup f) ≠ ⊤ :=
    (max_lt (EReal.coe_lt_top r) ((Finset.sup_lt_iff (by simp)).mpr fun s _ => h s)).ne
  have h2 : max (r : EReal) (Finset.univ.sup f) ≠ ⊥ := ((EReal.bot_lt_coe r).trans_le (le_max_left _ _)).ne'
  exact ⟨_, (EReal.coe_toReal h1 h2).symm⟩

theorem IsNum.lt_top {x : EReal} : IsNum x → x < ⊤ := by
  rintro ⟨r, rfl⟩
  exact EReal.coe_lt_top r

section
variable {n : Nat} {i l : Fin n → EReal} {m : EReal}

theorem fS_num (hl : ∀ s, IsNum (l s)) (t : Fin n) : IsNum (fS l t) :=
  IsNum.sum fun s => by
    split
    · exact hl s
    · exact IsNum.zero

theorem gS_num (hi : ∀ s, i s < ⊤) (hl : ∀ s, IsNum (l s)) (hm : IsNum m) (t : Fin n) : IsNum (gS i l m t) :=
  IsNum.max_sup hm fun s => by
    split
    · obtain ⟨r, hr⟩ := fS_num hl s
      unfold aS
      rw [hr, sub_eq_add_neg, ← EReal.coe_neg]
      exact EReal.add_lt_top (hi s).ne (EReal.coe_ne_top _)
    · exact bot_lt_top
end

/-- Subtracting the stabiliser after the shift by the running sums. -/
theorem shift_sub {F E i g : EReal} (hF : IsNum F) (hE : IsNum E) (hi : IsNum i) (hg : IsNum g) : F - E + i - (F + g) = i - E - g := by
  obtain ⟨F, rfl⟩ := hF
  obtain ⟨E, rfl⟩ := hE
  obtain ⟨i, rfl⟩ := hi
  obtain ⟨g, rfl⟩ := hg
  norm_cast
  ring_nf

theorem shift_state {F m g : EReal} (hF : IsNum F) (hm : IsNum m) (hg : IsNum g) : F + m - (F + g) = m - g := by
  obtain ⟨F, rfl⟩ := hF
  obtain ⟨m, rfl⟩ := hm
  obtain ⟨g, rfl⟩ := hg
  norm_cast
  ring_nf

/-- The logarithm both write: `log (1 + exp (-|x|))`, a number. -/
theorem log_num (x : ℝ) : Ideal.log1p (Ideal.exp ((-|x| : ℝ) : EReal)) = (Real.log (1 + Real.exp (-|x|)) : ℝ) := by
  rw [Ideal.exp_coe, Ideal.log1p, ← EReal.coe_one, ← EReal.coe_add]
  have : (0 : ℝ) < 1 + Real.exp (-|x|) := by positivity
  exact if_neg this.not_ge

/-- Sixteen rows of which the last twelve add nothing. -/
theorem sum16 (f : Fin 16 → EReal) (h : ∀ t, 4 ≤ t.val → f t = 0) : ∑ t, f t = ∑ t : Fin 4, f (t.castLE (by decide)) := by
  rw [show (∑ t, f t) = ∑ t : Fin (4 + 12), f t from rfl, Fin.sum_univ_add]
  rw [Finset.sum_eq_zero (s := (Finset.univ : Finset (Fin 12))) fun t _ => h _ (by simp), add_zero]
  rfl

theorem sup16 (f : Fin 16 → EReal) (h : ∀ t, 4 ≤ t.val → f t = ⊥) : Finset.univ.sup f = Finset.univ.sup fun t : Fin 4 => f (t.castLE (by decide)) := by
  refine le_antisymm (Finset.sup_le fun t _ => ?_) (Finset.sup_le fun t _ => Finset.le_sup (f := f) (Finset.mem_univ _))
  by_cases ht : t.val < 4
  · exact Finset.le_sup (f := fun t : Fin 4 => f (t.castLE (by decide))) (Finset.mem_univ ⟨t.val, ht⟩)
  · rw [h t (by omega)]
    exact bot_le

/-- Four rows extended by twelve that hold `z`. -/
def ext {α : Type} (f : Fin 4 → α) (z : α) (t : Fin 16) : α := if h : t.val < 4 then f ⟨t.val, h⟩ else z

/-- A row of the first four, among the sixteen. -/
abbrev up (t : Fin 4) : Fin 16 := t.castLE (by decide)

theorem ext_up {α : Type} (f : Fin 4 → α) (z : α) (t : Fin 4) : ext f z (up t) = f t := dif_pos t.isLt
theorem ext_far {α : Type} (f : Fin 4 → α) (z : α) (t : Fin 16) (h : 4 ≤ t.val) : ext f z t = z := dif_neg (by omega)

section
variable (i l : Fin 4 → EReal) (m : EReal) (q k v o : Fin 4 → Fin 128 → EReal) (C : Fin 128 → Fin 128 → EReal) (N g : Fin 128 → EReal)

theorem fS_ext (t : Fin 4) : fS (ext l 0) (up t) = fS l t := by
  unfold fS
  rw [sum16 _ fun s hs => by rw [ext_far l 0 s hs, ite_self]]
  exact Finset.sum_congr rfl fun s _ => by rw [ext_up]; rfl

theorem aS_ext (t : Fin 4) : aS (ext i ⊥) (ext l 0) (up t) = aS i l t := by
  unfold aS
  rw [ext_up, fS_ext]

theorem aS_far (t : Fin 16) (h : 4 ≤ t.val) : aS (ext i ⊥) (ext l 0) t = ⊥ := by
  unfold aS
  rw [ext_far i ⊥ t h, sub_eq_add_neg, EReal.bot_add]

theorem gS_ext (t : Fin 4) : gS (ext i ⊥) (ext l 0) m (up t) = gS i l m t := by
  unfold gS
  rw [sup16 _ fun s hs => by rw [aS_far i l s hs, ite_self]]
  simp only [aS_ext]
  rfl

theorem gE_ext : gE (ext i ⊥) (ext l 0) m = gE i l m := by
  unfold gE
  rw [sup16 _ fun s hs => aS_far i l s hs]
  simp only [aS_ext]

theorem dS_ext (t s : Fin 4) : dS (ext i ⊥) (ext l 0) m (up t) (up s) = dS i l m t s := by
  unfold dS
  rw [aS_ext, gS_ext]
  rfl

theorem decS_ext (t : Fin 4) : decS (ext i ⊥) (ext l 0) m (up t) = decS i l m t := by
  unfold decS
  rw [gS_ext]

theorem wE_ext (s : Fin 4) : wE (ext i ⊥) (ext l 0) m (up s) = wE i l m s := by
  unfold wE
  rw [aS_ext, gE_ext]

theorem cE_ext : cE (ext i ⊥) (ext l 0) m = cE i l m := by
  unfold cE
  rw [gE_ext]

theorem mNew_ext : mNew (ext i ⊥) (ext l 0) m = mNew i l m := by
  unfold mNew
  rw [gE_ext, sum16 _ fun s hs => ext_far l 0 s hs]
  simp only [ext_up]

/-- Rows of lanes, the last twelve zero. -/
def ext0 (k : Fin 4 → Fin 128 → EReal) : Fin 16 → Fin 128 → EReal := ext k fun _ => 0

theorem ext0_up (t : Fin 4) : ext0 k (up t) = k t := ext_up k _ t
theorem ext0_far (t : Fin 16) (h : 4 ≤ t.val) (d : Fin 128) : ext0 k t d = 0 := congrFun (ext_far k _ t h) d

theorem cNew_ext (e d : Fin 128) : cNew (ext i ⊥) (ext l 0) m (ext0 k) (ext0 v) C e d = cNew i l m k v C e d := by
  unfold cNew
  rw [cE_ext, sum16 _ fun s hs => by rw [ext0_far k s hs, zero_mul, zero_mul]]
  simp only [ext0_up, wE_ext]

theorem nNew_ext (d : Fin 128) : nNew (ext i ⊥) (ext l 0) m (ext0 k) N d = nNew i l m k N d := by
  unfold nNew
  rw [cE_ext, sum16 _ fun s hs => by rw [ext0_far k s hs, zero_mul]]
  simp only [ext0_up, wE_ext]

theorem scoreS_ext (t s : Fin 4) : scoreS (ext i ⊥) (ext l 0) m (ext0 q) (ext0 k) (up t) (up s) = scoreS i l m q k t s := by
  unfold scoreS
  simp only [ext0_up, dS_ext]

theorem scoreS_far (t s : Fin 16) (h : 4 ≤ t.val ∨ 4 ≤ s.val) : scoreS (ext i ⊥) (ext l 0) m (ext0 q) (ext0 k) t s = 0 := by
  unfold scoreS
  rw [Finset.sum_eq_zero, zero_mul]
  intro d _
  rcases h with h | h
  · rw [ext0_far q t h, zero_mul]
  · rw [ext0_far k s h, mul_zero]

theorem hS_ext (t : Fin 4) (d : Fin 128) :
    hS (ext i ⊥) (ext l 0) m (ext0 q) (ext0 k) (ext0 v) C N (up t) d = hS i l m q k v C N t d := by
  unfold hS numS denS
  rw [sum16 _ fun s hs => by rw [scoreS_far i l m q k (up t) s (.inr hs), zero_mul],
    sum16 _ fun s hs => scoreS_far i l m q k (up t) s (.inr hs)]
  simp only [ext0_up, scoreS_ext, decS_ext, fS_ext, gS_ext]

theorem hS_far (hi : ∀ s, IsNum (i s)) (hl : ∀ s, IsNum (l s)) (hm : IsNum m) (t : Fin 16) (h : 4 ≤ t.val) (d : Fin 128) :
    hS (ext i ⊥) (ext l 0) m (ext0 q) (ext0 k) (ext0 v) C N t d = 0 := by
  have hl' : ∀ s, IsNum (ext l 0 s) := fun s => by
    unfold ext
    split
    · exact hl _
    · exact IsNum.zero
  have hi' : ∀ s, ext i ⊥ s < ⊤ := fun s => by
    unfold ext
    split
    · exact (hi _).lt_top
    · exact bot_lt_top
  unfold hS numS
  rw [Finset.sum_eq_zero fun s _ => by rw [scoreS_far i l m q k t s (.inl h), zero_mul],
    Finset.sum_eq_zero fun e _ => by rw [ext0_far q t h, zero_mul], zero_mul, add_zero]
  obtain ⟨r, hr⟩ := (fS_num hl' t).add (gS_num hi' hl' hm t)
  have hpos : (0 : EReal) < Ideal.exp (0 - (fS (ext l 0) t + gS (ext i ⊥) (ext l 0) m t)) := by
    rw [hr, zero_sub, ← EReal.coe_neg, Ideal.exp_coe]
    exact EReal.coe_pos.mpr (Real.exp_pos _)
  unfold Ideal.div
  rw [if_neg (hpos.trans_le (le_max_right _ _)).ne', zero_mul]

theorem outS_ext {h16 : Fin 16 → Fin 128 → EReal} {h4 : Fin 4 → Fin 128 → EReal} (hh : ∀ t d, h16 (up t) d = h4 t d) (t : Fin 4) (d : Fin 128) :
    outS (ext0 o) g h16 (up t) d = outS o g h4 t d := by
  unfold outS devS
  simp only [hh, ext0_up]

theorem outS_far {h16 o16 : Fin 16 → Fin 128 → EReal} (t : Fin 16) (hh : ∀ d, h16 t d = 0) (d : Fin 128) : outS o16 g h16 t d = 0 := by
  have hd : ∀ e, devS h16 t e = 0 := fun e => by
    unfold devS
    rw [hh, Finset.sum_eq_zero fun e _ => hh e, show Ideal.ofBits .f32 0x43000000#32 = ((128 : ℝ) : EReal) by simp [Ideal.ofBits, Ideal.ieee]; rw [← EReal.coe_mul]; norm_num,
      Ideal.div_coe (by norm_num), zero_mul, sub_zero]
  unfold outS
  rw [hd, zero_mul, zero_mul, zero_mul]
end

end Cert.Proof.Mlstm

end
-- ==== Proof.MlstmLift.lean ====
/- From the blocks of the grid to the four whole arrays. -/
module

public import proofs.«01_k».proof.Proof.MlstmOut
public import proofs.«01_k».proof.Proof.MlstmMath

@[expose] public section

set_option maxRecDepth 16384

noncomputable section

namespace Cert.Proof.Mlstm

open Idealize.ShloMosaic Idealize.ShloMosaic.TcCoe
open Cert.MlstmIdeal Cert.MlstmIdeal.Gen
open scoped BigOperators

/-- The block indices of the windows at a point. -/
theorem idx : ∀ t : Fin cfg0.N, win0_0.index t = ![0] ∧ win0_1.index t = ![t.val, 0, 0] ∧ win0_2.index t = ![t.val, 0, 1]
    ∧ win0_3.index t = ![t.val, 0, 2] ∧ win0_4.index t = ![t.val, 0, 3] ∧ win0_5.index t = ![t.val, 0, 26] ∧ win0_6.index t = ![0, 0]
    ∧ win0_7.index t = ![t.val, 0, 0, 0] ∧ win0_8.index t = ![t.val, 0, 0, 0] ∧ win0_9.index t = ![t.val, 0, 0, 0]
    ∧ win0_10.index t = ![t.val, 0, 0] ∧ win0_11.index t = ![t.val, 0, 0, 0] ∧ win0_12.index t = ![t.val, 0, 0, 0]
    ∧ win0_13.index t = ![t.val, 0, 0, 0] :=
  (by decide +kernel : ∀ t : Fin grid0.N, _)

theorem lt_N (t : Fin cfg0.N) : t.val < 16 := lt_of_lt_of_eq t.isLt N_0

/-- The sequence that row `b` of point `t`'s blocks is. -/
abbrev seq (t : Fin cfg0.N) (b : Fin 8) : Fin 128 := ⟨t.val * 8 + b.val, by have := lt_N t; omega⟩

variable (m : (ℓ : Loc nD τ sig) → Buf (Elt Ideal) ℓ) (c : Dev nD)

theorem bias_read (t : Fin cfg0.N) (a : Fin 8) : (iblk m c 0 t : Vec Ideal S8 .f32) (ix1 a) = m ((c : Thread nD τ).loc main_arg1) (ix1 a) := by
  blk_point [iblk, V, idx t]

theorem state_read (t : Fin cfg0.N) (b : Fin 8) (h : Fin 4) (e d : Fin 128) :
    (iblk m c 7 t : Vec Ideal S8x4x128x128 .f32) (ix4 b h e d) = m ((c : Thread nD τ).loc main_arg3) (ix4 (seq t b) h e d) := by
  blk_point [iblk, V, idx t]

/-- The arguments. -/
abbrev proj : S128x4x3456.Idx → EReal := m ((c : Thread nD τ).loc main_arg0)
abbrev bias : S8.Idx → EReal := m ((c : Thread nD τ).loc main_arg1)
abbrev gain : S512.Idx → EReal := m ((c : Thread nD τ).loc main_arg2)
abbrev state : S128x4x128x128.Idx → EReal := m ((c : Thread nD τ).loc main_arg3)
abbrev total : S128x4x128.Idx → EReal := m ((c : Thread nD τ).loc main_arg4)
abbrev stab : S128x4.Idx → EReal := m ((c : Thread nD τ).loc main_arg5)

/-- What the host leaves for the call. -/
theorem entry_v2 : V m c main_v2 = shapeCast S128x4x1x128 (m ((c : Thread nD τ).loc main_arg4)) shapeCasts_S128x4x128_S128x4x1x128 := by
  unfold V hostOps0 hostOps0_1 hostOps0_2
  simp only [List.flatten_cons, List.flatten_nil, List.cons_append, List.nil_append, List.append_nil]
  after_results
  rfl
theorem entry_v3 : V m c main_v3 = shapeCast S128x4x1x1 (m ((c : Thread nD τ).loc main_arg5)) shapeCasts_S128x4_S128x4x1x1 := by
  unfold V hostOps0 hostOps0_1 hostOps0_2
  simp only [List.flatten_cons, List.flatten_nil, List.cons_append, List.nil_append, List.append_nil]
  after_results
  rfl
theorem entry_v1 : V m c main_v1 = shapeCast S1x512 (m ((c : Thread nD τ).loc main_arg2)) shapeCasts_S512_S1x512 := by
  unfold V hostOps0 hostOps0_1 hostOps0_2
  simp only [List.flatten_cons, List.flatten_nil, List.cons_append, List.nil_append, List.append_nil]
  after_results
  rfl
theorem entry_v0 : V m c main_v0 = pad S128x16x3456 ![0, 0, 0] ![0, 12, 0] ![0, 0, 0] (proj m c)
    (sitofp (F := Ideal) .f32 (constantI S_ 32 0#32)) pads_S128x4x3456_S128x16x3456_000_0120_000 h_S_ := by
  unfold V hostOps0 hostOps0_1 hostOps0_2
  simp only [List.flatten_cons, List.flatten_nil, List.cons_append, List.nil_append, List.append_nil]
  after_results
  rfl

theorem sum_read (t : Fin cfg0.N) (b : Fin 8) (h : Fin 4) (d : Fin 128) :
    (iblk m c 8 t : Vec Ideal S8x4x1x128 .f32) (ix4 b h 0 d) = m ((c : Thread nD τ).loc main_arg4) (ix3 (seq t b) h d) := by
  refine Eq.trans (b := (V m c main_v2 : Vec Ideal S128x4x1x128 .f32) (ix4 (seq t b) h 0 d)) (by blk_ext [iblk, idx t]) ?_
  rw [entry_v2]
  pointwise

theorem stab_read (t : Fin cfg0.N) (b : Fin 8) (h : Fin 4) :
    (iblk m c 9 t : Vec Ideal S8x4x1x1 .f32) (ix4 b h 0 0) = m ((c : Thread nD τ).loc main_arg5) (ix2 (seq t b) h) := by
  refine Eq.trans (b := (V m c main_v3 : Vec Ideal S128x4x1x1 .f32) (ix4 (seq t b) h 0 0)) (by blk_ext [iblk, idx t]) ?_
  rw [entry_v3]
  pointwise

theorem scale_read (t : Fin cfg0.N) (d : Fin 512) :
    (iblk m c 6 t : Vec Ideal S1x512 .f32) (ix2 0 d) = m ((c : Thread nD τ).loc main_arg2) (ix1 d) := by
  refine Eq.trans (b := (V m c main_v1 : Vec Ideal S1x512 .f32) (ix2 0 d)) (by blk_ext [iblk, idx t]) ?_
  rw [entry_v1]
  pointwise

/-- The projection, its rows past the fourth zero. -/
theorem pad_read (r : Fin 128) (s : Fin 16) (a : Fin 3456) :
    (V m c main_v0 : Vec Ideal S128x16x3456 .f32) (ix3 r s a)
      = ext (fun s => proj m c (ix3 r s a)) 0 s := by
  unfold ext
  rw [entry_v0]
  pointwise
  rw [show FloatOps.sitofp (F := Ideal) .f32 (0#32) = (0 : EReal) from by simp [FloatOps.sitofp]]

theorem gates_read (t : Fin cfg0.N) (b : Fin 8) (s : Fin 16) (a : Fin 128) :
    (iblk m c 5 t : Vec Ideal S8x16x128 .f32) (ix3 b s a) = (V m c main_v0 : Vec Ideal S128x16x3456 .f32) (ix3 (seq t b) s ⟨3328 + a.val, by omega⟩) := by
  blk_ext [iblk, idx t]

theorem q_read (t : Fin cfg0.N) (b : Fin 8) (s : Fin 16) (a : Fin 512) :
    (X0_1 m c t : Vec Ideal S8x16x512 .f32) (ix3 b s a) = (V m c main_v0 : Vec Ideal S128x16x3456 .f32) (ix3 (seq t b) s ⟨0 + a.val, by omega⟩) := by
  unfold X0_1 Pipeline.Window.fill
  refine (dif_pos (moved0_1 t _)).trans ?_
  blk_ext [iblk, idx t]

theorem k_read (t : Fin cfg0.N) (b : Fin 8) (s : Fin 16) (a : Fin 512) :
    (X0_2 m c t : Vec Ideal S8x16x512 .f32) (ix3 b s a) = (V m c main_v0 : Vec Ideal S128x16x3456 .f32) (ix3 (seq t b) s ⟨512 + a.val, by omega⟩) := by
  unfold X0_2 Pipeline.Window.fill
  refine (dif_pos (moved0_2 t _)).trans ?_
  blk_ext [iblk, idx t]

theorem v_read (t : Fin cfg0.N) (b : Fin 8) (s : Fin 16) (a : Fin 512) :
    (X0_3 m c t : Vec Ideal S8x16x512 .f32) (ix3 b s a) = (V m c main_v0 : Vec Ideal S128x16x3456 .f32) (ix3 (seq t b) s ⟨1024 + a.val, by omega⟩) := by
  unfold X0_3 Pipeline.Window.fill
  refine (dif_pos (moved0_3 t _)).trans ?_
  blk_ext [iblk, idx t]

theorem o_read (t : Fin cfg0.N) (b : Fin 8) (s : Fin 16) (a : Fin 512) :
    (X0_4 m c t : Vec Ideal S8x16x512 .f32) (ix3 b s a) = (V m c main_v0 : Vec Ideal S128x16x3456 .f32) (ix3 (seq t b) s ⟨1536 + a.val, by omega⟩) := by
  unfold X0_4 Pipeline.Window.fill
  refine (dif_pos (moved0_4 t _)).trans ?_
  blk_ext [iblk, idx t]

/-- Input gates of a head, as the projection and the biases give them. -/
def iA (P : S128x4x3456.Idx → EReal) (B : S8.Idx → EReal) (r : Fin 128) (h : Fin 4) (s : Fin 4) : EReal :=
  P (ix3 r s ⟨3328 + h.val, by have := h.isLt; omega⟩) + B (ix1 ⟨h.val, by have := h.isLt; omega⟩)
/-- The argument of a head's forget gate. -/
def fA (P : S128x4x3456.Idx → EReal) (B : S8.Idx → EReal) (r : Fin 128) (h : Fin 4) (s : Fin 4) : EReal :=
  P (ix3 r s ⟨3332 + h.val, by have := h.isLt; omega⟩) + B (ix1 ⟨4 + h.val, by have := h.isLt; omega⟩)
/-- Logarithms of a head's forget gates. -/
def lA (P : S128x4x3456.Idx → EReal) (B : S8.Idx → EReal) (r : Fin 128) (h : Fin 4) (s : Fin 4) : EReal :=
  min (fA P B r h s) 0 - Ideal.log1p (Ideal.exp (0 - FloatOps.absf (F := Ideal) (φ := .f32) (fA P B r h s)))
/-- A head's lanes of the part of the projection that starts at column `o`. -/
def laneA (P : S128x4x3456.Idx → EReal) (o : Nat) (ho : o ≤ 1536) (r : Fin 128) (h : Fin 4) (s : Fin 4) (d : Fin 128) : EReal :=
  P (ix3 r s ⟨o + (h.val * 128 + d.val), by have := h.isLt; have := d.isLt; omega⟩)
/-- A head's keys, scaled. -/
def keyA (P : S128x4x3456.Idx → EReal) (r : Fin 128) (h : Fin 4) (s : Fin 4) (d : Fin 128) : EReal :=
  laneA P 512 (by omega) r h s d * Ideal.ofBits .f32 0x3DB504F3#32

theorem iB_eq (t : Fin cfg0.N) (b : Fin 8) (h : Fin 4) :
    iB (iblk m c 5 t) (iblk m c 0 t) b h = ext (iA (proj m c) (bias m c) (seq t b) h) ⊥ := funext fun s => by
  unfold iB ext iA
  rw [gates_read, bias_read, pad_read]
  by_cases hs : s.val < 4
  · rw [if_pos hs, dif_pos hs, ext, dif_pos hs]
  · rw [if_neg hs, dif_neg hs]

theorem lB_eq (t : Fin cfg0.N) (b : Fin 8) (h : Fin 4) :
    lB (iblk m c 5 t) (iblk m c 0 t) b h = ext (lA (proj m c) (bias m c) (seq t b) h) 0 := funext fun s => by
  unfold lB ext lA fA
  rw [gates_read, bias_read, pad_read]
  by_cases hs : s.val < 4
  · rw [if_pos hs, dif_pos hs, ext, dif_pos hs]
    simp only [← Nat.add_assoc, Nat.reduceAdd]
  · rw [if_neg hs, dif_neg hs]

theorem ext_lane (o : Nat) (ho : o ≤ 1536) (r : Fin 128) (h : Fin 4) (s : Fin 16) (d : Fin 128) (a : Fin 3456) (ha : a.val = o + (128 * h.val + d.val)) :
    (V m c main_v0 : Vec Ideal S128x16x3456 .f32) (ix3 r s a) = ext0 (laneA (proj m c) o ho r h) s d := by
  rw [show a = ⟨o + (h.val * 128 + d.val), by have := h.isLt; have := d.isLt; omega⟩ from Fin.ext (ha.trans (by rw [Nat.mul_comm]))]
  rw [pad_read]
  unfold ext0 ext laneA
  split <;> rfl

theorem q_eq (t : Fin cfg0.N) (b : Fin 8) (h : Fin 4) : laneB (X0_1 m c t) b h = ext0 (laneA (proj m c) 0 (by omega) (seq t b) h) :=
  funext₂ fun s d => (q_read m c t b s _).trans (ext_lane m c 0 _ _ h s d _ rfl)
theorem v_eq (t : Fin cfg0.N) (b : Fin 8) (h : Fin 4) : laneB (X0_3 m c t) b h = ext0 (laneA (proj m c) 1024 (by omega) (seq t b) h) :=
  funext₂ fun s d => (v_read m c t b s _).trans (ext_lane m c 1024 _ _ h s d _ rfl)
theorem o_eq (t : Fin cfg0.N) (b : Fin 8) (h : Fin 4) : laneB (X0_4 m c t) b h = ext0 (laneA (proj m c) 1536 (by omega) (seq t b) h) :=
  funext₂ fun s d => (o_read m c t b s _).trans (ext_lane m c 1536 _ _ h s d _ rfl)
theorem k_eq (t : Fin cfg0.N) (b : Fin 8) (h : Fin 4) :
    (fun s d => laneB (X0_2 m c t) b h s d * Ideal.ofBits .f32 0x3DB504F3#32) = ext0 (keyA (proj m c) (seq t b) h) :=
  funext₂ fun s d => by
    rw [show laneB (X0_2 m c t) b h s d = _ from (k_read m c t b s _).trans (ext_lane m c 512 (by omega) _ h s d _ rfl)]
    unfold ext0 ext keyA
    split
    · rfl
    · exact zero_mul _

/-- The states after the last row, at a sequence and a head. -/
def cRes (P : S128x4x3456.Idx → EReal) (B : S8.Idx → EReal) (C : S128x4x128x128.Idx → EReal) (M : S128x4.Idx → EReal) (r : Fin 128) (h : Fin 4) (e d : Fin 128) : EReal :=
  cNew (iA P B r h) (lA P B r h) (M (ix2 r h)) (keyA P r h) (laneA P 1024 (by omega) r h) (fun e d => C (ix4 r h e d)) e d
def nRes (P : S128x4x3456.Idx → EReal) (B : S8.Idx → EReal) (N : S128x4x128.Idx → EReal) (M : S128x4.Idx → EReal) (r : Fin 128) (h : Fin 4) (d : Fin 128) : EReal :=
  nNew (iA P B r h) (lA P B r h) (M (ix2 r h)) (keyA P r h) (fun d => N (ix3 r h d)) d
def mRes (P : S128x4x3456.Idx → EReal) (B : S8.Idx → EReal) (M : S128x4.Idx → EReal) (r : Fin 128) (h : Fin 4) : EReal :=
  mNew (iA P B r h) (lA P B r h) (M (ix2 r h))
/-- A head's output for a row, normalised and gated. -/
def hRes (P : S128x4x3456.Idx → EReal) (B : S8.Idx → EReal) (g : S512.Idx → EReal) (C : S128x4x128x128.Idx → EReal) (N : S128x4x128.Idx → EReal)
    (M : S128x4.Idx → EReal) (r : Fin 128) (h : Fin 4) (s : Fin 4) (d : Fin 128) : EReal :=
  outS (laneA P 1536 (by omega) r h) (fun d => g (ix1 ⟨128 * h.val + d.val, by have := h.isLt; have := d.isLt; omega⟩))
    (hS (iA P B r h) (lA P B r h) (M (ix2 r h)) (laneA P 0 (by omega) r h) (keyA P r h) (laneA P 1024 (by omega) r h)
      (fun e d => C (ix4 r h e d)) (fun d => N (ix3 r h d))) s d

theorem c_core (t : Fin cfg0.N) (b : Fin 8) (h : Fin 4) (e d : Fin 128) :
    cNew (iB (iblk m c 5 t) (iblk m c 0 t) b h) (lB (iblk m c 5 t) (iblk m c 0 t) b h) ((iblk m c 9 t : Vec Ideal S8x4x1x1 .f32) (ix4 b h 0 0))
        (fun s d => laneB (X0_2 m c t) b h s d * Ideal.ofBits .f32 0x3DB504F3#32) (laneB (X0_3 m c t) b h) (fun e d => (iblk m c 7 t : Vec Ideal S8x4x128x128 .f32) (ix4 b h e d)) e d
      = cRes (proj m c) (bias m c) (state m c) (stab m c) (seq t b) h e d := by
  rw [iB_eq, lB_eq, k_eq, v_eq, stab_read]
  simp only [state_read]
  exact cNew_ext _ _ _ _ _ _ _ _

theorem n_core (t : Fin cfg0.N) (b : Fin 8) (h : Fin 4) (d : Fin 128) :
    nNew (iB (iblk m c 5 t) (iblk m c 0 t) b h) (lB (iblk m c 5 t) (iblk m c 0 t) b h) ((iblk m c 9 t : Vec Ideal S8x4x1x1 .f32) (ix4 b h 0 0))
        (fun s d => laneB (X0_2 m c t) b h s d * Ideal.ofBits .f32 0x3DB504F3#32) (fun d => (iblk m c 8 t : Vec Ideal S8x4x1x128 .f32) (ix4 b h 0 d)) d
      = nRes (proj m c) (bias m c) (total m c) (stab m c) (seq t b) h d := by
  rw [iB_eq, lB_eq, k_eq, stab_read]
  simp only [sum_read]
  exact nNew_ext _ _ _ _ _ _

theorem m_core (t : Fin cfg0.N) (b : Fin 8) (h : Fin 4) :
    mNew (iB (iblk m c 5 t) (iblk m c 0 t) b h) (lB (iblk m c 5 t) (iblk m c 0 t) b h) ((iblk m c 9 t : Vec Ideal S8x4x1x1 .f32) (ix4 b h 0 0)) = mRes (proj m c) (bias m c) (stab m c) (seq t b) h := by
  rw [iB_eq, lB_eq, stab_read]
  exact mNew_ext _ _ _

/-- The gates' logarithms and the stabilisers are numbers. -/
def Numbers (P : S128x4x3456.Idx → EReal) (B : S8.Idx → EReal) (M : S128x4.Idx → EReal) : Prop :=
  (∀ r h s, IsNum (iA P B r h s)) ∧ (∀ r h s, IsNum (lA P B r h s)) ∧ ∀ r h, IsNum (M (ix2 r h))

theorem h_core (hn : Numbers (proj m c) (bias m c) (stab m c)) (t : Fin cfg0.N) (b : Fin 8) (h : Fin 4) (s : Fin 16) (d : Fin 128) :
    outS (laneB (X0_4 m c t) b h)
        (fun d => (iblk m c 6 t : Vec Ideal S1x512 .f32) (ix2 0 ⟨128 * h.val + d.val, by have := h.isLt; have := d.isLt; omega⟩))
        (hS (iB (iblk m c 5 t) (iblk m c 0 t) b h) (lB (iblk m c 5 t) (iblk m c 0 t) b h) ((iblk m c 9 t : Vec Ideal S8x4x1x1 .f32) (ix4 b h 0 0)) (laneB (X0_1 m c t) b h)
          (fun s d => laneB (X0_2 m c t) b h s d * Ideal.ofBits .f32 0x3DB504F3#32) (laneB (X0_3 m c t) b h)
          (fun e d => (iblk m c 7 t : Vec Ideal S8x4x128x128 .f32) (ix4 b h e d))
          (fun d => (iblk m c 8 t : Vec Ideal S8x4x1x128 .f32) (ix4 b h 0 d))) s d
      = ext (fun s => hRes (proj m c) (bias m c) (gain m c) (state m c) (total m c) (stab m c) (seq t b) h s d) 0 s := by
  rw [iB_eq, lB_eq, k_eq, v_eq, q_eq, o_eq, stab_read]
  simp only [state_read, sum_read, scale_read]
  by_cases hs : s.val < 4
  · obtain ⟨s, rfl⟩ : ∃ s' : Fin 4, s = up s' := ⟨⟨s.val, hs⟩, rfl⟩
    rw [ext_up]
    exact outS_ext _ _ (hS_ext _ _ _ _ _ _ _ _) s d
  · rw [ext_far _ _ _ (by omega)]
    exact outS_far _ s (hS_far _ _ _ _ _ _ _ _ (hn.1 _ _) (hn.2.1 _ _) (hn.2.2 _ _) s (by omega)) d

theorem c_out (t : Fin cfg0.N) (y : S8x4x128x128.Idx) :
    (outsAt0 m c t).2.1 y = cRes (proj m c) (bias m c) (state m c) (stab m c) (seq t (y 0)) (y 1) (y 2) (y 3) :=
  (c_block m c t y).trans (c_core m c t (y 0) (y 1) (y 2) (y 3))

theorem n_out (t : Fin cfg0.N) (y : S8x4x1x128.Idx) :
    (outsAt0 m c t).2.2.1 y = nRes (proj m c) (bias m c) (total m c) (stab m c) (seq t (y 0)) (y 1) (y 3) :=
  (n_block m c t y).trans (n_core m c t (y 0) (y 1) (y 3))

theorem m_out (t : Fin cfg0.N) (y : S8x4x1x1.Idx) :
    (outsAt0 m c t).2.2.2 y = mRes (proj m c) (bias m c) (stab m c) (seq t (y 0)) (y 1) :=
  (m_block m c t y).trans (m_core m c t (y 0) (y 1))

/-- The head of a lane, and the lane inside the head. -/
abbrev hd (x : Fin 512) : Fin 4 := ⟨x.val / 128, by omega⟩
abbrev ln (x : Fin 512) : Fin 128 := ⟨x.val % 128, by omega⟩

theorem h_out (hn : Numbers (proj m c) (bias m c) (stab m c)) (t : Fin cfg0.N) (y : S8x16x512.Idx) :
    (outsAt0 m c t).1 y = ext (fun s => hRes (proj m c) (bias m c) (gain m c) (state m c) (total m c) (stab m c) (seq t (y 0)) (hd (y 2)) s (ln (y 2))) 0 (y 1) :=
  (h_block m c t y (hd (y 2)) (ln (y 2)) (Nat.div_add_mod _ _).symm).trans (h_core m c hn t (y 0) (hd (y 2)) (y 1) (ln (y 2)))

theorem h_arr (hn : Numbers (proj m c) (bias m c) (stab m c)) : (dats m 0 c).arrAt 10 cfg0.N = fun i : S128x16x512.Idx =>
    ext (fun s => hRes (proj m c) (bias m c) (gain m c) (state m c) (total m c) (stab m c) (i 0) (hd (i 2)) s (ln (i 2))) 0 (i 1) := by
  refine (dats m 0 c).arrAt_eq_of_covers 10 _ (by decide +kernel) fun t hf y => ?_
  blk_simp
  rw [after0_10, h_out m c hn]
  have e0 : seq t (y 0) = ((cfg0.win 10).blk t).view.emb y 0 := Fin.ext (by blk_simp [idx t])
  have e1 : y 1 = ((cfg0.win 10).blk t).view.emb y 1 := Fin.ext (by blk_simp [idx t])
  have e2 : y 2 = ((cfg0.win 10).blk t).view.emb y 2 := Fin.ext (by blk_simp [idx t])
  have K : ∀ {r r' : Fin 128} {s s' : Fin 16} {x x' : Fin 512}, r = r' → s = s' → x = x' →
      ext (fun u => hRes (proj m c) (bias m c) (gain m c) (state m c) (total m c) (stab m c) r (hd x) u (ln x)) 0 s
        = ext (fun u => hRes (proj m c) (bias m c) (gain m c) (state m c) (total m c) (stab m c) r' (hd x') u (ln x')) 0 s' := by
    rintro _ _ _ _ _ _ rfl rfl rfl
    rfl
  exact K e0 e1 e2

theorem c_arr : (dats m 0 c).arrAt 11 cfg0.N = fun i : S128x4x128x128.Idx => cRes (proj m c) (bias m c) (state m c) (stab m c) (i 0) (i 1) (i 2) (i 3) := by
  refine (dats m 0 c).arrAt_eq_of_covers 11 _ (by decide +kernel) fun t hf y => ?_
  blk_simp
  rw [after0_11, c_out]
  congr 1 <;> first | exact Fin.ext (by blk_simp [idx t]) | skip

theorem n_arr : (dats m 0 c).arrAt 12 cfg0.N = fun i : S128x4x1x128.Idx => nRes (proj m c) (bias m c) (total m c) (stab m c) (i 0) (i 1) (i 3) := by
  refine (dats m 0 c).arrAt_eq_of_covers 12 _ (by decide +kernel) fun t hf y => ?_
  blk_simp
  rw [after0_12, n_out]
  congr 1 <;> first | exact Fin.ext (by blk_simp [idx t]) | skip

theorem m_arr : (dats m 0 c).arrAt 13 cfg0.N = fun i : S128x4x1x1.Idx => mRes (proj m c) (bias m c) (stab m c) (i 0) (i 1) := by
  refine (dats m 0 c).arrAt_eq_of_covers 13 _ (by decide +kernel) fun t hf y => ?_
  blk_simp
  rw [after0_13, m_out]
  congr 1 <;> first | exact Fin.ext (by blk_simp [idx t]) | skip

end Cert.Proof.Mlstm

end
-- ==== Proof.MlstmRef.lean ====
/- The reference of the mLSTM's chunk, read at an index. -/
module

public import proofs.«01_k».proof.Proof.MlstmScan
public import proofs.«01_k».proof.Proof.MlstmLift

@[expose] public section

set_option maxRecDepth 16384

noncomputable section

namespace Cert.Proof.Mlstm

open Idealize.ShloMosaic Idealize.ShloMosaic.TcCoe
open Cert.MlstmRefIdeal Cert.MlstmRefIdeal.Gen Cert.MlstmRefIdeal.Value
open scoped BigOperators

/-- The inputs of the gates and the stabilisers are numbers. -/
def Gates (P : S128x4x3456.Idx → EReal) (B : S8.Idx → EReal) (M : S128x4.Idx → EReal) : Prop :=
  (∀ r h s, IsNum (iA P B r h s)) ∧ (∀ r h s, IsNum (fA P B r h s)) ∧ ∀ r h, IsNum (M (ix2 r h))

theorem abs_coe (f : ℝ) : FloatOps.absf (F := Ideal) (φ := .f32) ((f : ℝ) : EReal) = ((|f| : ℝ) : EReal) := by
  show max ((f : ℝ) : EReal) (-((f : ℝ) : EReal)) = _
  rw [← EReal.coe_neg]
  exact (EReal.coe_strictMono.monotone.map_max).symm

/-- The logarithm of a forget gate is a number. -/
theorem lA_num {P : S128x4x3456.Idx → EReal} {B : S8.Idx → EReal} {r : Fin 128} {h s : Fin 4} (hf : IsNum (fA P B r h s)) : IsNum (lA P B r h s) := by
  obtain ⟨f, hf⟩ := hf
  unfold lA
  rw [hf, abs_coe, zero_sub, ← EReal.coe_neg, log_num, ← EReal.coe_zero, ← EReal.coe_strictMono.monotone.map_min]
  exact IsNum.sub ⟨_, rfl⟩ ⟨_, rfl⟩

theorem Gates.numbers {P : S128x4x3456.Idx → EReal} {B : S8.Idx → EReal} {M : S128x4.Idx → EReal} (h : Gates P B M) : Numbers P B M :=
  ⟨h.1, fun _ _ _ => lA_num (h.2.1 _ _ _), h.2.2⟩

/-- The two ways of writing the logarithm of a forget gate. -/
theorem log_gate {f : EReal} (hf : IsNum f) :
    -(max (-f) 0 + Ideal.log1p (Ideal.exp (-(FloatOps.absf (F := Ideal) (φ := .f32) (-f)))))
      = min f 0 - Ideal.log1p (Ideal.exp (0 - FloatOps.absf (F := Ideal) (φ := .f32) f)) := by
  obtain ⟨f, rfl⟩ := hf
  rw [← EReal.coe_neg, abs_coe, abs_coe, abs_neg, zero_sub, ← EReal.coe_neg, log_num, ← EReal.coe_zero, ← EReal.coe_strictMono.monotone.map_min,
    ← EReal.coe_strictMono.monotone.map_max, ← EReal.coe_add, ← EReal.coe_neg, ← EReal.coe_sub]
  congr 1
  rcases le_total f 0 with h | h
  · rw [max_eq_left (by linarith), min_eq_left h]; ring
  · rw [max_eq_right (by linarith), min_eq_right h]; ring

/-- The last row sees every row. -/
theorem gS_last (i l : Fin 4 → EReal) (m : EReal) : gS i l m 3 = gE i l m := by
  unfold gS gE
  exact congrArg (max m) (Finset.sup_congr rfl fun s _ => if_pos (Fin.le_last s))

theorem fS_last (l : Fin 4 → EReal) : fS l 3 = ∑ s, l s := Finset.sum_congr rfl fun s _ => if_pos (Fin.le_last s)

/-- The mask of the rows up to `t`. -/
theorem select_le (t s : Fin 4) (x y : EReal) :
    Scalar.select (IntOp.cmpi .sge (BitVec.ofNat 32 t.val) (BitVec.ofNat 32 s.val)) x y = if s ≤ t then x else y := by
  fin_cases t <;> fin_cases s <;> rfl

variable (V0 : Valuation τ sig (Elt Ideal))

abbrev vP : S128x4x3456.Idx → EReal := V0 (Proc.devRef .tc main_arg0)
abbrev vB : S8.Idx → EReal := V0 (Proc.devRef .tc main_arg1)
abbrev vg : S512.Idx → EReal := V0 (Proc.devRef .tc main_arg2)
abbrev vC : S128x4x128x128.Idx → EReal := V0 (Proc.devRef .tc main_arg3)
abbrev vN : S128x4x128.Idx → EReal := V0 (Proc.devRef .tc main_arg4)
abbrev row : S128x4x4x128.Idx → EReal := res_main_v75 V0
abbrev mean : S128x4x4x1.Idx → EReal := res_main_v107 V0
abbrev vM : S128x4.Idx → EReal := V0 (Proc.devRef .tc main_arg5)

theorem q_ref (b : Fin 128) (t h : Fin 4) (d : Fin 128) : res_main_v6 V0 (ix4 b t h d) = laneA (vP V0) 0 (by omega) b h t d := by
  unfold res_main_v6 laneA
  clean_types
  pointwise

theorem k_ref (b : Fin 128) (t h : Fin 4) (d : Fin 128) : res_main_v9 V0 (ix4 b t h d) = keyA (vP V0) b h t d := by
  unfold res_main_v9 keyA laneA
  clean_types
  pointwise

theorem v_ref (b : Fin 128) (t h : Fin 4) (d : Fin 128) : res_main_v10 V0 (ix4 b t h d) = laneA (vP V0) 1024 (by omega) b h t d := by
  unfold res_main_v10 laneA
  clean_types
  pointwise

theorem i_ref (b : Fin 128) (t h : Fin 4) : res_main_v14 V0 (ix3 b t h) = iA (vP V0) (vB V0) b h t := by
  unfold res_main_v14 iA
  clean_types
  pointwise

theorem f_ref (b : Fin 128) (t h : Fin 4) : res_main_call0_v0 V0 (ix3 b t h) = -(fA (vP V0) (vB V0) b h t) := by
  unfold res_main_call0_v0 fA
  clean_types
  pointwise

variable (hn : Gates (vP V0) (vB V0) (vM V0))
include hn

theorem F_ref (b : Fin 128) (t h : Fin 4) : res_main_v20 V0 (ix3 b t h) = fS (lA (vP V0) (vB V0) b h) t := by
  unfold res_main_v20 fS
  refine (scan_add _ _ (fun i => ?_) b t h).trans (Finset.sum_congr rfl fun s _ => ?_)
  · clean_types
    pointwise
  · refine congrArg (fun x => if s ≤ t then x else 0) ?_
    unfold res_main_call0_call0_v3 res_main_call0_call0_cst lA
    rw [← log_gate (hn.2.1 b h s), ← f_ref]
    clean_types
    pointwise
    rw [if_neg (fun h => h rfl)]

theorem m_ref (b : Fin 128) (t h : Fin 4) :
    res_main_v26 V0 (ix3 b t h) = fS (lA (vP V0) (vB V0) b h) t + gS (iA (vP V0) (vB V0) b h) (lA (vP V0) (vB V0) b h) (vM V0 (ix2 b h)) t := by
  unfold res_main_v26 gS aS
  clean_types
  pointwise
  refine congrArg₂ (· + ·) (F_ref V0 hn b t h) (congrArg (max _) ((scan_max _ _ (fun i => ?_) b t h).trans (Finset.sup_congr rfl fun s _ => ?_)))
  · pointwise
    simp [Ideal.ofBits, Ideal.ieee]
  · refine congrArg (fun x => if s ≤ t then x else ⊥) ?_
    rw [← i_ref, ← F_ref V0 hn]
    pointwise

theorem mlast_ref (b : Fin 128) (h : Fin 4) : res_main_v77 V0 (ix2 b h) = res_main_v26 V0 (ix3 b 3 h) := by
  unfold res_main_v77
  clean_types
  pointwise

theorem Flast_ref (b : Fin 128) (h : Fin 4) : res_main_v79 V0 (ix2 b h) = res_main_v20 V0 (ix3 b 3 h) := by
  unfold res_main_v79
  clean_types
  pointwise

theorem F_num (b : Fin 128) (t h : Fin 4) : IsNum (fS (lA (vP V0) (vB V0) b h) t) := fS_num (fun s => lA_num (hn.2.1 b h s)) t

theorem g_num (b : Fin 128) (t h : Fin 4) : IsNum (gS (iA (vP V0) (vB V0) b h) (lA (vP V0) (vB V0) b h) (vM V0 (ix2 b h)) t) :=
  gS_num (fun s => (hn.1 b h s).lt_top) (fun s => lA_num (hn.2.1 b h s)) (hn.2.2 b h) t

theorem score_ref (b : Fin 128) (t s h : Fin 4) :
    res_main_v50 V0 (ix4 b t s h)
      = scoreS (iA (vP V0) (vB V0) b h) (lA (vP V0) (vB V0) b h) (vM V0 (ix2 b h)) (laneA (vP V0) 0 (by omega) b h) (keyA (vP V0) b h) t s := by
  unfold scoreS dS aS
  rw [← shift_sub (F_num V0 hn b t h) (F_num V0 hn b s h) (hn.1 b h s) (g_num V0 hn b t h), ← m_ref V0 hn, ← F_ref V0 hn, ← F_ref V0 hn, ← i_ref]
  simp only [← q_ref, ← k_ref]
  unfold res_main_v50
  clean_types
  pointwise
  refine congrArg₂ (· * ·) (Finset.sum_congr rfl fun _ _ => mul_comm _ _) (congrArg Ideal.exp ?_)
  rw [select_le]
  refine congrArg (fun z => if s ≤ t then _ else z) ?_
  show Ideal.ofBits .f32 0xFF800000#32 = ⊥
  simp [Ideal.ofBits, Ideal.ieee]

theorem dec_ref (b : Fin 128) (t h : Fin 4) :
    res_main_v55 V0 (ix3 b t h) = decS (iA (vP V0) (vB V0) b h) (lA (vP V0) (vB V0) b h) (vM V0 (ix2 b h)) t := by
  unfold decS
  rw [← shift_state (F_num V0 hn b t h) (hn.2.2 b h) (g_num V0 hn b t h), ← m_ref V0 hn, ← F_ref V0 hn]
  unfold res_main_v55
  clean_types
  pointwise

theorem h_ref (b : Fin 128) (t h : Fin 4) (d : Fin 128) :
    res_main_v75 V0 (ix4 b t h d)
      = hS (iA (vP V0) (vB V0) b h) (lA (vP V0) (vB V0) b h) (vM V0 (ix2 b h)) (laneA (vP V0) 0 (by omega) b h) (keyA (vP V0) b h) (laneA (vP V0) 1024 (by omega) b h)
          (fun e d => vC V0 (ix4 b h e d)) (fun d => vN V0 (ix3 b h d)) t d := by
  unfold hS numS denS
  rw [← m_ref V0 hn, ← dec_ref V0 hn, zero_sub]
  simp only [← q_ref, ← v_ref, ← score_ref V0 hn]
  unfold res_main_v75
  clean_types
  pointwise
  refine congrArg₂ Ideal.div (congrArg₂ (· + ·) (Finset.sum_congr rfl fun _ _ => mul_comm _ _) (congrArg (· * _) (Finset.sum_congr rfl fun _ _ => mul_comm _ _))) ?_
  refine congrArg (fun z => max (FloatOps.absf (F := Ideal) (φ := .f32) (_ + z * _)) _) (Finset.sum_congr rfl fun _ _ => mul_comm _ _)

theorem wlast_ref (b : Fin 128) (s h : Fin 4) :
    res_main_v87 V0 (ix3 b s h) = wE (iA (vP V0) (vB V0) b h) (lA (vP V0) (vB V0) b h) (vM V0 (ix2 b h)) s := by
  unfold wE aS
  rw [← gS_last]
  rw [← shift_sub (F_num V0 hn b 3 h) (F_num V0 hn b s h) (hn.1 b h s) (g_num V0 hn b 3 h), ← m_ref V0 hn, ← F_ref V0 hn, ← F_ref V0 hn, ← i_ref,
    ← Flast_ref V0 hn, ← mlast_ref V0 hn]
  unfold res_main_v87
  clean_types
  pointwise

theorem clast_ref (b : Fin 128) (h : Fin 4) :
    res_main_v90 V0 (ix2 b h) = cE (iA (vP V0) (vB V0) b h) (lA (vP V0) (vB V0) b h) (vM V0 (ix2 b h)) := by
  unfold cE
  rw [← gS_last]
  rw [← shift_state (F_num V0 hn b 3 h) (hn.2.2 b h) (g_num V0 hn b 3 h), ← m_ref V0 hn, ← F_ref V0 hn, ← Flast_ref V0 hn, ← mlast_ref V0 hn]
  unfold res_main_v90
  clean_types
  pointwise

theorem m_new_ref (b : Fin 128) (h : Fin 4) : res_main_v77 V0 (ix2 b h) = mRes (vP V0) (vB V0) (vM V0) b h := by
  unfold mRes mNew
  rw [mlast_ref V0 hn, m_ref V0 hn, gS_last, fS_last]

theorem mean_ref (b : Fin 128) (t h : Fin 4) (d : Fin 128) :
    res_main_v109 V0 (ix4 b t h d) = devS (fun t d => res_main_v75 V0 (ix4 b t h d)) t d := by
  unfold devS res_main_v109 res_main_v107
  clean_types
  pointwise

omit hn in
theorem dev_ref (b : Fin 128) (t h : Fin 4) (d : Fin 128) : row V0 (ix4 b t h d) - mean V0 (ix4 b t h 0) = res_main_v109 V0 (ix4 b t h d) := by
  unfold res_main_v109
  clean_types
  pointwise

/-- The four results the reference leaves. -/
theorem c_res (b : Fin 128) (h : Fin 4) (e d : Fin 128) :
    (addf (mulf (broadcastInDim S128x4x128x128 ![0, 1, 2, 3] bcast_S128x4x1x1_S128x4x128x128_0_1_2_3 (broadcastInDim S128x4x1x1 ![0, 1] bcast_S128x4_S128x4x1x1_0_1 (res_main_v90 V0))) (V0 (Proc.devRef .tc main_arg3))) (Host.dotGeneral (φ₁ := .f32) (φ₂ := .f32) dot_S128x4x4x128_S128x4x4x128_S128x4x128x128_1_1_3_3_02_02 none (mulf (broadcastInDim S128x4x4x128 ![0, 1, 2, 3] bcast_S128x4x4x1_S128x4x4x128_0_1_2_3 (broadcastInDim S128x4x4x1 ![0, 1, 2] bcast_S128x4x4_S128x4x4x1_0_1_2 (res_main_v87 V0))) (res_main_v9 V0)) (res_main_v10 V0)) : FVec Ideal S128x4x128x128 .f32) (ix4 b h e d) = cRes (vP V0) (vB V0) (vC V0) (vM V0) b h e d := by
  unfold cRes cNew
  rw [← clast_ref V0 hn]
  simp only [← wlast_ref V0 hn, ← k_ref, ← v_ref]
  clean_types
  pointwise
  refine congrArg (fun z : EReal => _ + z) (Finset.sum_congr rfl fun _ _ => congrArg (fun z : EReal => z * _) (mul_comm _ _))

theorem n_res (b : Fin 128) (h : Fin 4) (d : Fin 128) :
    (shapeCast _ (addf (mulf (broadcastInDim S128x4x128 ![0, 1, 2] bcast_S128x4x1_S128x4x128_0_1_2 (broadcastInDim S128x4x1 ![0, 1] bcast_S128x4_S128x4x1_0_1 (res_main_v90 V0))) (V0 (Proc.devRef .tc main_arg4))) (Host.dotGeneral (φ₁ := .f32) (φ₂ := .f32) dot_S128x4x4_S128x4x4x128_S128x4x128_1_1_n_3_02_02 none (res_main_v87 V0) (res_main_v9 V0))) shapeCasts_S128x4x128_S128x4x1x128 : FVec Ideal S128x4x1x128 .f32) (ix4 b h 0 d) = nRes (vP V0) (vB V0) (vN V0) (vM V0) b h d := by
  unfold nRes nNew
  rw [← clast_ref V0 hn]
  simp only [← wlast_ref V0 hn, ← k_ref]
  clean_types
  pointwise
  exact congrArg (fun z : EReal => _ + z) (Finset.sum_congr rfl fun _ _ => mul_comm _ _)

theorem m_res (b : Fin 128) (h : Fin 4) :
    (shapeCast _ (res_main_v77 V0) shapeCasts_S128x4_S128x4x1x1 : FVec Ideal S128x4x1x1 .f32) (ix4 b h 0 0) = mRes (vP V0) (vB V0) (vM V0) b h := by
  rw [← m_new_ref V0 hn]
  clean_types
  pointwise

theorem h_res (b : Fin 128) (s : Fin 16) (x : Fin 512) :
    (pad S128x16x512 ![0, 0, 0] ![0, 12, 0] ![0, 0, 0] (truncf .bf16 (shapeCast _ (mulf (mulf (mulf (subf (res_main_v75 V0) (broadcastInDim S128x4x4x128 ![0, 1, 2, 3] bcast_S128x4x4x1_S128x4x4x128_0_1_2_3 (res_main_v107 V0))) (broadcastInDim S128x4x4x128 ![0, 1, 2, 3] bcast_S128x4x4x1_S128x4x4x128_0_1_2_3 (Host.rsqrt (addf (Host.divf (broadcastInDim S128x4x4x1 ![0, 1, 2] bcast_S128x4x4_S128x4x4x1_0_1_2 (Host.reduceAdd (mulf (res_main_v109 V0) (res_main_v109 V0)) (constant S_ .f32 0x00000000#32) reducesTo_S128x4x4x128_S128x4x4_d3 h_S_)) (broadcastInDim S128x4x4x1 ![] bcast_S_S128x4x4x1 (constant S_ .f32 0x43000000#32))) (broadcastInDim S128x4x4x1 ![] bcast_S_S128x4x4x1 (constant S_ .f32 0x3727C5AC#32)))))) (broadcastInDim S128x4x4x128 ![0, 1, 2, 3] bcast_S1x1x4x128_S128x4x4x128_0_1_2_3 (broadcastInDim S1x1x4x128 ![2, 3] bcast_S4x128_S1x1x4x128_2_3 (shapeCast _ (V0 (Proc.devRef .tc main_arg2)) shapeCasts_S512_S4x128)))) (Host.divf (broadcastInDim S128x4x4x128 ![] bcast_S_S128x4x4x128 (constant S_ .f32 0x3F800000#32)) (addf (broadcastInDim S128x4x4x128 ![] bcast_S_S128x4x4x128 (constant S_ .f32 0x3F800000#32)) (Host.exp (Host.negf (shapeCast _ (extractStridedSlice S128x4x512 ![0, 0, 1536] (V0 (Proc.devRef .tc main_arg0)) slices_S128x4x3456_S128x4x512_0_0_1536) shapeCasts_S128x4x512_S128x4x4x128)))))) shapeCasts_S128x4x4x128_S128x4x512) bitsLt_bf16_f32) (sitofp .bf16 (constantI S_ 32 0#32)) pads_S128x4x512_S128x16x512_000_0120_000 h_S_ : FVec Ideal S128x16x512 .bf16) (ix3 b s x)
      = ext (fun s => hRes (vP V0) (vB V0) (vg V0) (vC V0) (vN V0) (vM V0) b (hd x) s (ln x)) 0 s := by
  have hx := x.isLt
  unfold ext hRes outS
  simp only [← funext₂ (fun t d => h_ref V0 hn b t (hd x) d), ← mean_ref V0 hn]
  clean_types
  pointwise
  have e1 : (⟨128 * (x.val / 128) + x.val % 128, by omega⟩ : Fin 512) = x := Fin.ext (Nat.div_add_mod _ _)
  have e2 : ∀ t : Fin 4, laneA (vP V0) 1536 (by omega) b (hd x) t (ln x) = vP V0 (ix3 b t ⟨1536 + x.val, by omega⟩) := fun t => by
    unfold laneA
    refine congrArg (fun a => vP V0 (ix3 b t a)) (Fin.ext ?_)
    show 1536 + (x.val / 128 * 128 + x.val % 128) = 1536 + x.val
    omega
  split
  next hs =>
    exact congrArg₂ (fun a b : EReal => a * b) (congrArg₂ (fun a b : EReal => a * b) (congrArg (fun a : EReal => a * _) (dev_ref V0 b ⟨s.val, hs⟩ (hd x) (ln x)))
      (congrArg (fun a => vg V0 (ix1 a)) e1.symm)) (congrArg (fun a : EReal => Ideal.div 1 (1 + Ideal.exp a)) ((congrArg Neg.neg (e2 ⟨s.val, hs⟩).symm).trans (zero_sub _).symm))
  · simp [FloatOps.sitofp]

end Cert.Proof.Mlstm

end
-- ==== Proof.MlstmGates.lean ====
/- The precondition on the gates, read as numbers. -/
module

public import proofs.«01_k».proof.Pre_finite_gates
public import proofs.«01_k».proof.Proof.Gen.Pre_finite_gates
public import proofs.«01_k».proof.Proof.MlstmRef

@[expose] public section

set_option maxRecDepth 16384

noncomputable section

namespace Cert.Proof.Mlstm

open Idealize.ShloMosaic Idealize.ShloMosaic.TcCoe
open Cert.Pre_finite_gates Cert.Pre_finite_gates.Gen

/-- An extended real whose absolute value is at most a number is a number. -/
theorem num_of_abs {x : EReal} {r : ℝ} (h : FloatOps.absf (F := Ideal) (φ := .f32) x ≤ (r : EReal)) : IsNum x := by
  have h' : max x (-x) ≤ (r : EReal) := h
  have h1 : x ≠ ⊤ := fun e => by rw [e] at h'; exact absurd ((le_max_left _ _).trans h') (by simp)
  have h2 : x ≠ ⊥ := fun e => by rw [e] at h'; exact absurd ((le_max_right _ _).trans h') (by simp)
  exact ⟨_, (EReal.coe_toReal h1 h2).symm⟩

/-- The bound the precondition sets is a number. -/
theorem top_num : IsNum (Ideal.ofBits .f32 0x7F7FFFFF#32) := by
  simp only [Ideal.ofBits, Ideal.ieee]
  rw [if_neg (by decide), if_neg (by decide)]
  exact ⟨_, rfl⟩

theorem num_of_cmp {x : EReal} (h : FloatOps.cmpf (F := Ideal) (φ := .f32) .ole (FloatOps.absf (F := Ideal) (φ := .f32) x) (Ideal.ofBits .f32 0x7F7FFFFF#32) = 1#1) : IsNum x := by
  obtain ⟨r, hr⟩ := top_num
  rw [hr] at h
  refine num_of_abs (r := r) ?_
  by_contra hc
  simp [FloatOps.cmpf, Ideal.cmp, hc] at h

variable (P : FVec Ideal S128x4x3456 .f32) (B : FVec Ideal S8 .f32) (g : FVec Ideal S512 .f32) (C : FVec Ideal S128x4x128x128 .f32) (N : FVec Ideal S128x4x128 .f32)
  (M : FVec Ideal S128x4 .f32)

theorem proj_num (h : (fn P B g C N M).1 = fun _ => 1#1) (r : Fin 128) (s : Fin 4) (a : Fin 8) : IsNum (P (ix3 r s ⟨3328 + a.val, by omega⟩)) := by
  have h0 := congrFun h (ix3 r s a)
  refine num_of_cmp (h0.symm.trans ?_).symm
  unfold fn
  pointwise

theorem bias_num (h : (fn P B g C N M).2.1 = fun _ => 1#1) (a : Fin 8) : IsNum (B (ix1 a)) := by
  have h0 := congrFun h (ix1 a)
  refine num_of_cmp (h0.symm.trans ?_).symm
  unfold fn
  pointwise

theorem stab_num (h : (fn P B g C N M).2.2 = fun _ => 1#1) (r : Fin 128) (a : Fin 4) : IsNum (M (ix2 r a)) := by
  have h0 := congrFun h (ix2 r a)
  refine num_of_cmp (h0.symm.trans ?_).symm
  unfold fn
  pointwise

/-- What the precondition says of the gates. -/
theorem gates_of (h : (fn P B g C N M).1 = (fun _ => 1#1) ∧ (fn P B g C N M).2.1 = (fun _ => 1#1) ∧ (fn P B g C N M).2.2 = fun _ => 1#1) : Gates P B M :=
  ⟨fun r a s => (proj_num P B g C N M h.1 r s ⟨a.val, by omega⟩).add (bias_num P B g C N M h.2.1 _),
    fun r a s => by
      have := (proj_num P B g C N M h.1 r s ⟨4 + a.val, by omega⟩).add (bias_num P B g C N M h.2.1 ⟨4 + a.val, by omega⟩)
      simp only [← Nat.add_assoc, Nat.reduceAdd] at this
      exact this,
    fun r a => stab_num P B g C N M h.2.2 r a⟩

end Cert.Proof.Mlstm

end
-- ==== Proof.CompressBlock.lean ====
/- The kernel's body as a few functions of its blocks. -/
module

public import proofs.«01_k».proof.Proof.Gen.CompressIdeal.Frame
public import Idealize.ShloMosaic.Lib.Pipeline.Value
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.Proof.Compress

open Idealize.ShloMosaic Idealize.ShloMosaic.TcCoe
open Cert.CompressIdeal Cert.CompressIdeal.Gen
open scoped BigOperators

/-- The rows `16 j + k` of a block of the projection, one per `j`. -/
def chunk (X : S1x8192x128.Idx → EReal) (k : Nat) : Vec Ideal S1x512x128 .f32 := fun y =>
  X (ix3 0 ⟨(k + 16 * (y 1).val) % 8192, Nat.mod_lt _ (by decide)⟩ (y 2))

/-- A quarter of a half of the first weights. -/
def slab (W : S2x4x256x512.Idx → EReal) (s q : Nat) : Vec Ideal S1x1x256x512 .bf16 := fun y =>
  W (ix4 ⟨s % 2, Nat.mod_lt _ (by decide)⟩ ⟨q % 4, Nat.mod_lt _ (by decide)⟩ (y 2) (y 3))

/-- A quarter of a half of the block positions. -/
def spot (P : S2x4x16x256.Idx → EReal) (s q : Nat) : Vec Ideal S1x1x16x256 .bf16 := fun y =>
  P (ix4 ⟨s % 2, Nat.mod_lt _ (by decide)⟩ ⟨q % 4, Nat.mod_lt _ (by decide)⟩ (y 2) (y 3))

/-- One of the four spread copies of the second weights. -/
def spread (V : S4x256x256.Idx → EReal) (i : Nat) : Vec Ideal S1x256x256 .bf16 := fun y =>
  V (ix3 ⟨i % 4, Nat.mod_lt _ (by decide)⟩ (y 1) (y 2))

theorem chunk_load {M : Memref sig .tc .vmem S1x8192x128 .f32} (h : M.IsWhole) (X : Vec Ideal S1x8192x128 .f32) (k : Nat)
    (inb : ∀ a, (![1, 512, 128] : Fin 3 → Nat) a = 0 ∨ (![0, k, 0] : Fin 3 → Nat) a + (![1, 16, 1] : Fin 3 → Nat) a * ((![1, 512, 128] : Fin 3 → Nat) a - 1) < S1x8192x128.size a) :
    View.readAt (Elt Ideal) M.view { off := ![0, k, 0], size := ![1, 512, 128], stride := ![1, 16, 1], inb := inb } (h.unread X) = chunk X k := by
  have hk : k + 16 * 511 < 8192 := by
    rcases inb 1 with h' | h'
    · exact absurd h' (by decide)
    · exact h'
  funext y
  rw [View.readAt_apply, h.read_unread]
  refine congrArg X (funext fun a => Fin.ext ?_)
  rw [LoadRect.idx_apply]
  have h1 : (y 1).val < 512 := (y 1).isLt
  match a with
  | ⟨0, _⟩ => show 0 + 1 * (y 0).val = 0; have h0 : (y 0).val < 1 := (y 0).isLt; omega
  | ⟨1, _⟩ => show k + 16 * (y 1).val = (k + 16 * (y 1).val) % 8192; omega
  | ⟨2, _⟩ => show 0 + 1 * (y 2).val = (y 2).val; omega

theorem slab_load (W : Vec Ideal S2x4x256x512 .bf16) (s q : Nat) (inb : ∀ i, (![s, q, 0, 0] : Fin 4 → Nat) i + (![1, 1, 256, 512] : Fin 4 → Nat) i ≤ S2x4x256x512.size i) :
    (View.ld W (Rect.unit ![s, q, 0, 0] ![1, 1, 256, 512] inb) : Vec Ideal S1x1x256x512 .bf16) = slab W s q := by
  have hs : s + 1 ≤ 2 := inb 0
  have hq : q + 1 ≤ 4 := inb 1
  funext y
  refine View.ld_unit_apply_of W _ _ _ _ _ fun a => ?_
  have h0 : (y 0).val < 1 := (y 0).isLt
  have h1 : (y 1).val < 1 := (y 1).isLt
  match a with
  | ⟨0, _⟩ => show s % 2 = s + (y 0).val; omega
  | ⟨1, _⟩ => show q % 4 = q + (y 1).val; omega
  | ⟨2, _⟩ => show (y 2).val = 0 + (y 2).val; omega
  | ⟨3, _⟩ => show (y 3).val = 0 + (y 3).val; omega

theorem spot_load (P : Vec Ideal S2x4x16x256 .bf16) (s q : Nat) (inb : ∀ i, (![s, q, 0, 0] : Fin 4 → Nat) i + (![1, 1, 16, 256] : Fin 4 → Nat) i ≤ S2x4x16x256.size i) :
    (View.ld P (Rect.unit ![s, q, 0, 0] ![1, 1, 16, 256] inb) : Vec Ideal S1x1x16x256 .bf16) = spot P s q := by
  have hs : s + 1 ≤ 2 := inb 0
  have hq : q + 1 ≤ 4 := inb 1
  funext y
  refine View.ld_unit_apply_of P _ _ _ _ _ fun a => ?_
  have h0 : (y 0).val < 1 := (y 0).isLt
  have h1 : (y 1).val < 1 := (y 1).isLt
  match a with
  | ⟨0, _⟩ => show s % 2 = s + (y 0).val; omega
  | ⟨1, _⟩ => show q % 4 = q + (y 1).val; omega
  | ⟨2, _⟩ => show (y 2).val = 0 + (y 2).val; omega
  | ⟨3, _⟩ => show (y 3).val = 0 + (y 3).val; omega

theorem spread_load (V : Vec Ideal S4x256x256 .bf16) (i : Nat) (inb : ∀ a, (![i, 0, 0] : Fin 3 → Nat) a + (![1, 256, 256] : Fin 3 → Nat) a ≤ S4x256x256.size a) :
    (View.ld V (Rect.unit ![i, 0, 0] ![1, 256, 256] inb) : Vec Ideal S1x256x256 .bf16) = spread V i := by
  have hi : i + 1 ≤ 4 := inb 0
  funext y
  refine View.ld_unit_apply_of V _ _ _ _ _ fun a => ?_
  have h0 : (y 0).val < 1 := (y 0).isLt
  match a with
  | ⟨0, _⟩ => show i % 4 = i + (y 0).val; omega
  | ⟨1, _⟩ => show (y 1).val = 0 + (y 1).val; omega
  | ⟨2, _⟩ => show (y 2).val = 0 + (y 2).val; omega

/-- One row of 128 lanes per block. -/
abbrev flat (v : Vec Ideal S1x512x128 .f32) : FVec Ideal S512x128 .f32 := shapeCast S512x128 v shapeCasts_S1x512x128_S512x128
/-- The two halves of the lanes exchanged. -/
abbrev swap (v : FVec Ideal S512x128 .f32) : FVec Ideal S512x128 .f32 := dynamicRotate 1 64#32 none v rotates_S512x128_d1
/-- Four rows' lanes of the first key head side by side. -/
def packA (a b d e : Vec Ideal S1x512x128 .f32) : FVec Ideal S512x256 .bf16 :=
  truncf .bf16 (concatenate S512x256 1 [⟨S512x128, select (k0_pay2) (flat a) (swap (flat b))⟩,
    ⟨S512x128, select (k0_pay2) (flat d) (swap (flat e))⟩] concatenates_S512x128_S512x128_S512x256_d1 : FVec Ideal S512x256 .f32) bitsLt_bf16_f32
/-- Four rows' lanes of the second key head side by side. -/
def packB (a b d e : Vec Ideal S1x512x128 .f32) : FVec Ideal S512x256 .bf16 :=
  truncf .bf16 (concatenate S512x256 1 [⟨S512x128, select (k0_pay2) (swap (flat a)) (flat b)⟩,
    ⟨S512x128, select (k0_pay2) (swap (flat d)) (flat e)⟩] concatenates_S512x128_S512x128_S512x256_d1 : FVec Ideal S512x256 .f32) bitsLt_bf16_f32
/-- A product with a quarter of the weights added. -/
def step (acc : FVec Ideal S512x512 .f32) (l : FVec Ideal S512x256 .bf16) (w : Vec Ideal S1x1x256x512 .bf16) : FVec Ideal S512x512 .f32 :=
  addf acc (matmul dot_S512x256_S256x512_S512x512_1_0_0_1_n_n none l (shapeCast S256x512 w shapeCasts_S1x1x256x512_S256x512 : FVec Ideal S256x512 .bf16)
    (constant S512x512 .f32 0x00000000#32))
/-- The positions' product with a quarter of the weights added. -/
def stepP (acc : FVec Ideal S16x512 .f32) (l : Vec Ideal S1x1x16x256 .bf16) (w : Vec Ideal S1x1x256x512 .bf16) : FVec Ideal S16x512 .f32 :=
  addf acc (matmul dot_S16x256_S256x512_S16x512_1_0_0_1_n_n none (shapeCast S16x256 l shapeCasts_S1x1x16x256_S16x256 : FVec Ideal S16x256 .bf16)
    (shapeCast S256x512 w shapeCasts_S1x1x256x512_S256x512 : FVec Ideal S256x512 .bf16) (constant S16x512 .f32 0x00000000#32))
/-- The products of a half of the weights with what is packed from each quarter. -/
def four (pk : Nat → FVec Ideal S512x256 .bf16) (W : S2x4x256x512.Idx → EReal) (s : Nat) : FVec Ideal S512x512 .f32 :=
  step (step (step (step (broadcast S512x512 (Scalar.ofBits .f32 0x00000000#32 : Ideal .f32)) (pk 0) (slab W s 0)) (pk 1) (slab W s 1)) (pk 2) (slab W s 2)) (pk 3) (slab W s 3)
/-- The positions' share of the hidden layer. -/
def fourP (P : S2x4x16x256.Idx → EReal) (W : S2x4x256x512.Idx → EReal) (s : Nat) : FVec Ideal S16x512 .f32 :=
  stepP (stepP (stepP (stepP (broadcast S16x512 (Scalar.ofBits .f32 0x00000000#32 : Ideal .f32)) (spot P s 0) (slab W s 0)) (spot P s 1) (slab W s 1)) (spot P s 2) (slab W s 2)) (spot P s 3) (slab W s 3)
/-- The hidden layer before its activation. -/
def hidden (A : FVec Ideal S512x512 .f32) (p : FVec Ideal S16x512 .f32) : FVec Ideal S512x256 .f32 :=
  addf (addf (extractStridedSlice S512x256 ![0, 0] A slices_S512x512_o0_0_S512x256)
      (dynamicRotate 0 511#32 none (extractStridedSlice S512x256 ![0, 256] A slices_S512x512_o0_256_S512x256 : FVec Ideal S512x256 .f32) rotates_S512x256_d0))
    (broadcastTo S512x256 (addf (extractStridedSlice S1x256 ![0, 0] p slices_S16x512_o0_0_S1x256) (extractStridedSlice S1x256 ![1, 256] p slices_S16x512_o1_256_S1x256) : FVec Ideal S1x256 .f32)
      broadcasts_S1x256_S512x256)
/-- The activation. -/
def bend (x : FVec Ideal S512x256 .f32) : FVec Ideal S512x256 .f32 :=
  mulf (mulf (broadcast S512x256 (Scalar.ofBits .f32 0x3F000000#32 : Ideal .f32)) x)
    (addf (broadcast S512x256 (Scalar.ofBits .f32 0x3F800000#32 : Ideal .f32))
      (tanh (mulf (broadcast S512x256 (Scalar.ofBits .f32 0x3F4C422A#32 : Ideal .f32))
        (addf x (mulf (broadcast S512x256 (Scalar.ofBits .f32 0x3D372713#32 : Ideal .f32)) (mulf (mulf x x) x))))))
/-- A head's output added. -/
def join (o : FVec Ideal S512x256 .f32) (x : FVec Ideal S512x256 .f32) (v : Vec Ideal S1x256x256 .bf16) : FVec Ideal S512x256 .f32 :=
  addf o (matmul dot_S512x256_S256x256_S512x256_1_0_0_1_n_n none (truncf .bf16 (bend x) bitsLt_bf16_f32 : FVec Ideal S512x256 .bf16)
    (shapeCast S256x256 v shapeCasts_S1x256x256_S256x256 : FVec Ideal S256x256 .bf16) (constant S512x256 .f32 0x00000000#32))
/-- What is packed of a quarter, for the first head. -/
def pkA (X : S1x8192x128.Idx → EReal) (q : Nat) : FVec Ideal S512x256 .bf16 := packA (chunk X (4 * q)) (chunk X (4 * q + 1)) (chunk X (4 * q + 2)) (chunk X (4 * q + 3))
/-- What is packed of a quarter, for the second head. -/
def pkB (X : S1x8192x128.Idx → EReal) (q : Nat) : FVec Ideal S512x256 .bf16 := packB (chunk X (4 * q)) (chunk X (4 * q + 1)) (chunk X (4 * q + 2)) (chunk X (4 * q + 3))
/-- All of the body. -/
def whole (X Y : S1x8192x128.Idx → EReal) (P : S2x4x16x256.Idx → EReal) (W : S2x4x256x512.Idx → EReal) (V : S4x256x256.Idx → EReal) : FVec Ideal S512x256 .f32 :=
  join (join (join (join (broadcast S512x256 (Scalar.ofBits .f32 0x00000000#32 : Ideal .f32))
    (hidden (four (pkA X) W 0) (fourP P W 0)) (spread V 0)) (hidden (four (pkB X) W 0) (fourP P W 0)) (spread V 1))
    (hidden (four (pkA Y) W 1) (fourP P W 1)) (spread V 2)) (hidden (four (pkB Y) W 1) (fourP P W 1)) (spread V 3)

variable (m : (ℓ : Loc nD τ sig) → Buf (Elt Ideal) ℓ) (c : Dev nD)

theorem out_eq (t : Fin cfg0.N) : outsAt0 m c t
    = shapeCast S1x512x256 (whole (iblk m c 0 t) (iblk m c 1 t) (iblk m c 2 t) (iblk m c 3 t) (iblk m c 4 t)) shapeCasts_S512x256_S1x512x256 := by
  unfold outsAt0
  frame_out
  simp only [chunk_load, slab_load, spot_load, spread_load]
  rfl

end Cert.Proof.Compress

end
-- ==== Proof.CompressRead.lean ====
/- The body's functions read at an index. -/
module

public import proofs.«01_k».proof.Proof.CompressBlock

@[expose] public section

set_option maxRecDepth 16384

noncomputable section

namespace Cert.Proof.Compress

open Idealize.ShloMosaic Idealize.ShloMosaic.TcCoe
open Cert.CompressIdeal Cert.CompressIdeal.Gen
open scoped BigOperators

theorem mask_at (k : Nat) (hk : k < 128) (a b : EReal) :
    Scalar.select (IntOp.cmpi CmpIPredicate.slt (BitVec.ofNat 32 k) 64#32) a b = if k < 64 then a else b := by
  have h : ∀ k : Fin 128, IntOp.cmpi CmpIPredicate.slt (BitVec.ofNat 32 k.val) 64#32 = if k.val < 64 then 1#1 else 0#1 := by decide
  rw [h ⟨k, hk⟩]
  split <;> rfl

/-- The projection at row `r` and lane `l` of a block. -/
def cell (X : S1x8192x128.Idx → EReal) (r l : Nat) : EReal := X (ix3 0 ⟨r % 8192, Nat.mod_lt _ (by decide)⟩ ⟨l % 128, Nat.mod_lt _ (by decide)⟩)

theorem chunk_at (X : S1x8192x128.Idx → EReal) (k : Nat) (j : Fin 512) (l : Fin 128) (r n : Nat) (hr : k + 16 * j.val = r) (hl : l.val = n) :
    chunk X k (ix3 0 j l) = cell X r n := by
  subst hr hl
  refine congrArg X (congrArg₂ (ix3 0) rfl (Fin.ext ?_))
  exact (Nat.mod_eq_of_lt l.isLt).symm

theorem pkA_at (X : S1x8192x128.Idx → EReal) (q : Nat) (j : Fin 512) (k : Fin 256) :
    pkA X q (ix2 j k) = cell X (16 * j.val + (4 * q + k.val / 64)) (k.val % 64) := by
  unfold pkA packA
  pointwise [k0_pay2]
  split
  · rw [mask_at _ (by omega)]
    split <;> exact chunk_at _ _ _ _ _ _ (by omega) (by dsimp only; omega)
  · rw [mask_at _ (by omega)]
    split <;> exact chunk_at _ _ _ _ _ _ (by omega) (by dsimp only; omega)

theorem pkB_at (X : S1x8192x128.Idx → EReal) (q : Nat) (j : Fin 512) (k : Fin 256) :
    pkB X q (ix2 j k) = cell X (16 * j.val + (4 * q + k.val / 64)) (64 + k.val % 64) := by
  unfold pkB packB
  pointwise [k0_pay2]
  split
  · rw [mask_at _ (by omega)]
    split <;> exact chunk_at _ _ _ _ _ _ (by omega) (by dsimp only; omega)
  · rw [mask_at _ (by omega)]
    split <;> exact chunk_at _ _ _ _ _ _ (by omega) (by dsimp only; omega)

theorem step_at (acc : FVec Ideal S512x512 .f32) (l : FVec Ideal S512x256 .bf16) (w : Vec Ideal S1x1x256x512 .bf16) (j : Fin 512) (h : Fin 512) :
    step acc l w (ix2 j h) = acc (ix2 j h) + ∑ k : Fin 256, l (ix2 j k) * w (ix4 0 0 k h) := by
  unfold step
  pointwise

theorem stepP_at (acc : FVec Ideal S16x512 .f32) (l : Vec Ideal S1x1x16x256 .bf16) (w : Vec Ideal S1x1x256x512 .bf16) (j : Fin 16) (h : Fin 512) :
    stepP acc l w (ix2 j h) = acc (ix2 j h) + ∑ k : Fin 256, l (ix4 0 0 j k) * w (ix4 0 0 k h) := by
  unfold stepP
  pointwise

theorem hidden_at (A : FVec Ideal S512x512 .f32) (p : FVec Ideal S16x512 .f32) (j : Fin 511) (h : Fin 256) :
    hidden A p (ix2 ⟨j.val, by omega⟩ h) = A (ix2 ⟨j.val, by omega⟩ ⟨h.val, by omega⟩) + A (ix2 ⟨j.val + 1, by omega⟩ ⟨256 + h.val, by omega⟩)
      + (p (ix2 0 ⟨h.val, by omega⟩) + p (ix2 1 ⟨256 + h.val, by omega⟩)) := by
  have h1 : (j.val + 512 - 511) % 512 = j.val + 1 := by omega
  unfold hidden
  pointwise
  refine congrArg (fun r => A (ix2 ⟨j.val, by omega⟩ ⟨h.val, by omega⟩) + A (ix2 r ⟨256 + h.val, by omega⟩)
      + (p (ix2 0 ⟨h.val, by omega⟩) + p (ix2 1 ⟨256 + h.val, by omega⟩))) (Fin.ext h1)

/-- The activation of one number. -/
def act (x : EReal) : EReal :=
  Ideal.ofBits FTy.f32 1056964608#32 * x * (1 + Ideal.tanh (Ideal.ofBits FTy.f32 1061962282#32 * (x + Ideal.ofBits FTy.f32 1027024659#32 * (x * x * x))))

theorem bend_at (x : FVec Ideal S512x256 .f32) (i : S512x256.Idx) : bend x i = act (x i) := by
  unfold bend act
  pointwise

theorem join_at (o x : FVec Ideal S512x256 .f32) (v : Vec Ideal S1x256x256 .bf16) (j : Fin 512) (l : Fin 256) :
    join o x v (ix2 j l) = o (ix2 j l) + ∑ k : Fin 256, bend x (ix2 j k) * v (ix3 0 k l) := by
  unfold join
  pointwise

theorem four_at (pk : Nat → FVec Ideal S512x256 .bf16) (W : S2x4x256x512.Idx → EReal) (s : Fin 2) (j h : Fin 512) :
    four pk W s.val (ix2 j h) = ∑ q : Fin 4, ∑ k : Fin 256, pk q.val (ix2 j k) * W (ix4 s q k h) := by
  have e : ∀ q : Fin 4, ∑ k : Fin 256, pk q.val (ix2 j k) * slab W s.val q.val (ix4 0 0 k h) = ∑ k : Fin 256, pk q.val (ix2 j k) * W (ix4 s q k h) := fun q =>
    Finset.sum_congr rfl fun k _ => congrArg (pk q.val (ix2 j k) * ·)
      (congrArg W (congrArg₂ (fun a b => ix4 a b k h) (Fin.ext (Nat.mod_eq_of_lt s.isLt)) (Fin.ext (Nat.mod_eq_of_lt q.isLt))))
  unfold four
  rw [step_at, step_at, step_at, step_at, Fin.sum_univ_four, ← e 0, ← e 1, ← e 2, ← e 3]
  refine congrArg₂ (· + ·) (congrArg₂ (· + ·) (congrArg₂ (· + ·) ?_ rfl) rfl) rfl
  refine (congrArg₂ (· + ·) ?_ rfl).trans (zero_add _)
  pointwise

theorem fourP_at (P : S2x4x16x256.Idx → EReal) (W : S2x4x256x512.Idx → EReal) (s : Fin 2) (j : Fin 16) (h : Fin 512) :
    fourP P W s.val (ix2 j h) = ∑ q : Fin 4, ∑ k : Fin 256, P (ix4 s q j k) * W (ix4 s q k h) := by
  have e : ∀ q : Fin 4, ∑ k : Fin 256, spot P s.val q.val (ix4 0 0 j k) * slab W s.val q.val (ix4 0 0 k h) = ∑ k : Fin 256, P (ix4 s q j k) * W (ix4 s q k h) := fun q =>
    Finset.sum_congr rfl fun k _ => congrArg₂ (fun z w : EReal => z * w)
      (congrArg P (congrArg₂ (fun a b => ix4 a b j k) (Fin.ext (Nat.mod_eq_of_lt s.isLt)) (Fin.ext (Nat.mod_eq_of_lt q.isLt))))
      (congrArg W (congrArg₂ (fun a b => ix4 a b k h) (Fin.ext (Nat.mod_eq_of_lt s.isLt)) (Fin.ext (Nat.mod_eq_of_lt q.isLt))))
  unfold fourP
  rw [stepP_at, stepP_at, stepP_at, stepP_at, Fin.sum_univ_four, ← e 0, ← e 1, ← e 2, ← e 3]
  refine congrArg₂ (· + ·) (congrArg₂ (· + ·) (congrArg₂ (· + ·) ?_ rfl) rfl) rfl
  refine (congrArg₂ (· + ·) ?_ rfl).trans (zero_add _)
  pointwise

end Cert.Proof.Compress

end
-- ==== Proof.CompressHost.lean ====
/- What the host leaves for the kernel's body: the packed weights and positions and the spread second weights. -/
module

public import proofs.«01_k».proof.Proof.CompressRead
public import Idealize.ShloMosaic.Lib.Routing.OpsSet

@[expose] public section

set_option maxRecDepth 16384

noncomputable section

namespace Cert.Proof.Compress

open Idealize.ShloMosaic Idealize.ShloMosaic.TcCoe
open Cert.CompressIdeal Cert.CompressIdeal.Gen
open scoped BigOperators

/-- The placing of a matrix into the table of spread weights. -/
abbrev dims := scatter_S2x2x256x2x2x64_S4_S256x64_01_0134_0134_0

theorem place_start (idx : IVec S4 32) (j : S256x64.Idx) :
    dims.start j idx 0 = (idx (ix1 0)).toInt ∧ dims.start j idx 1 = (idx (ix1 1)).toInt ∧ dims.start j idx 2 = 0
      ∧ dims.start j idx 3 = (idx (ix1 2)).toInt ∧ dims.start j idx 4 = (idx (ix1 3)).toInt ∧ dims.start j idx 5 = 0 := by
  have key : ∀ (a : Fin 6) (q : Fin 4) (hm : a ∈ dims.scatterDimsToOperandDims), dims.scatterDimsToOperandDims.idxOf a = q.val →
      dims.start j idx a = (idx (ix1 q)).toInt := by
    intro a q hm hq
    have hsi : dims.siIdx j ⟨dims.scatterDimsToOperandDims.idxOf a, List.idxOf_lt_length_iff.2 hm⟩ = ix1 q := by
      funext b
      apply Fin.ext
      match b with
      | ⟨0, _⟩ =>
        unfold ScatterDims.siIdx
        rw [dif_pos (show (⟨0, by decide⟩ : Fin S4.rank).val = dims.indexVectorDim from rfl)]
        exact hq
    unfold ScatterDims.start
    rw [dif_pos hm, hsi]
  refine ⟨key 0 0 (by decide) (by decide), key 1 1 (by decide) (by decide), ?_, key 3 2 (by decide) (by decide), key 4 3 (by decide) (by decide), ?_⟩
  · unfold ScatterDims.start
    rw [dif_neg (by decide)]
  · unfold ScatterDims.start
    rw [dif_neg (by decide)]

theorem place_window (h : Fin 256) (l : Fin 64) :
    dims.window (ix2 h l) 0 = 0 ∧ dims.window (ix2 h l) 1 = 0 ∧ dims.window (ix2 h l) 2 = h.val
      ∧ dims.window (ix2 h l) 3 = 0 ∧ dims.window (ix2 h l) 4 = 0 ∧ dims.window (ix2 h l) 5 = l.val :=
  ⟨rfl, rfl, rfl, rfl, rfl, rfl⟩

/-- The one place the matrix goes to, elsewhere the table as it was. -/
theorem place_at (x : S2x2x256x2x2x64.Idx → EReal) (idx : IVec S4 32) (u : S256x64.Idx → EReal)
    (s g s' g' : Fin 2) (h : Fin 256) (l : Fin 64) :
    Host.scatter dims (fun _ b => b) x idx u (ix6 s g h s' g' l)
      = if (idx (ix1 0)).toInt = s.val ∧ (idx (ix1 1)).toInt = g.val ∧ (idx (ix1 2)).toInt = s'.val ∧ (idx (ix1 3)).toInt = g'.val
        then u (ix2 h l) else x (ix6 s g h s' g' l) := by
  have lands : ∀ (h' : Fin 256) (l' : Fin 64), dims.resultIdx? (ix2 h' l') idx = some (ix6 s g h s' g' l)
      ↔ ((idx (ix1 0)).toInt = s.val ∧ (idx (ix1 1)).toInt = g.val ∧ (idx (ix1 2)).toInt = s'.val ∧ (idx (ix1 3)).toInt = g'.val) ∧ h' = h ∧ l' = l := by
    intro h' l'
    obtain ⟨a0, a1, a2, a3, a4, a5⟩ := place_start idx (ix2 h' l')
    obtain ⟨b0, b1, b2, b3, b4, b5⟩ := place_window h' l'
    rw [Routing.resultIdx?_eq_some]
    constructor
    · intro e
      have e0 := e 0; have e1 := e 1; have e2 := e 2; have e3 := e 3; have e4 := e 4; have e5 := e 5
      rw [a0, b0] at e0; rw [a1, b1] at e1; rw [a2, b2] at e2; rw [a3, b3] at e3; rw [a4, b4] at e4; rw [a5, b5] at e5
      simp only [ix6_0, ix6_1, ix6_2, ix6_3, ix6_4, ix6_5] at e0 e1 e2 e3 e4 e5
      refine ⟨⟨?_, ?_, ?_, ?_⟩, Fin.ext ?_, Fin.ext ?_⟩ <;> omega
    · rintro ⟨⟨e0, e1, e3, e4⟩, rfl, rfl⟩ a
      match a with
      | ⟨0, _⟩ => rw [show dims.start (ix2 h' l') idx ⟨0, by decide⟩ = _ from a0, e0]; exact (add_zero _)
      | ⟨1, _⟩ => rw [show dims.start (ix2 h' l') idx ⟨1, by decide⟩ = _ from a1, e1]; exact (add_zero _)
      | ⟨2, _⟩ => rw [show dims.start (ix2 h' l') idx ⟨2, by decide⟩ = _ from a2]; exact (zero_add _)
      | ⟨3, _⟩ => rw [show dims.start (ix2 h' l') idx ⟨3, by decide⟩ = _ from a3, e3]; exact (add_zero _)
      | ⟨4, _⟩ => rw [show dims.start (ix2 h' l') idx ⟨4, by decide⟩ = _ from a4, e4]; exact (add_zero _)
      | ⟨5, _⟩ => rw [show dims.start (ix2 h' l') idx ⟨5, by decide⟩ = _ from a5]; exact (zero_add _)
  by_cases e : (idx (ix1 0)).toInt = s.val ∧ (idx (ix1 1)).toInt = g.val ∧ (idx (ix1 2)).toInt = s'.val ∧ (idx (ix1 3)).toInt = g'.val
  · rw [if_pos e]
    refine Routing.scatter_set_hit dims x idx u _ _ (fun k hk => ?_) (ix2 h l) ((lands h l).2 ⟨e, rfl, rfl⟩)
    rw [eq_ix2 k] at hk ⊢
    obtain ⟨-, e1, e2⟩ := (lands (k 0) (k 1)).1 hk
    rw [e1, e2]
  · rw [if_neg e]
    refine Routing.scatter_set_miss dims x idx u _ fun k hk => e ?_
    rw [eq_ix2 k] at hk
    exact ((lands (k 0) (k 1)).1 hk).1

/-- The four words of a place. -/
def spotWords (a b d e : BitVec 32) : IVec S4 32 :=
  concatenate S4 0 [⟨S1, (broadcastInDim S1 ![] bcast_S_S1 (constantI S_ 32 a) : IVec S1 32)⟩, ⟨S1, (broadcastInDim S1 ![] bcast_S_S1 (constantI S_ 32 b) : IVec S1 32)⟩,
    ⟨S1, (broadcastInDim S1 ![] bcast_S_S1 (constantI S_ 32 d) : IVec S1 32)⟩, ⟨S1, (broadcastInDim S1 ![] bcast_S_S1 (constantI S_ 32 e) : IVec S1 32)⟩]
    concatenates_S1_S1_S1_S1_S4_d0

theorem spotWords_at (a b d e : BitVec 32) :
    spotWords a b d e (ix1 0) = a ∧ spotWords a b d e (ix1 1) = b ∧ spotWords a b d e (ix1 2) = d ∧ spotWords a b d e (ix1 3) = e :=
  ⟨rfl, rfl, rfl, rfl⟩

/-- The second weights of one stream as a matrix. -/
def seconds0 (w : S2x256x64.Idx → EReal) : S256x64.Idx → EReal :=
  shapeCast S256x64 (extractStridedSlice S1x256x64 ![0, 0, 0] w slices_S2x256x64_S1x256x64_0_0_0) shapeCasts_S1x256x64_S256x64
def seconds1 (w : S2x256x64.Idx → EReal) : S256x64.Idx → EReal :=
  shapeCast S256x64 (extractStridedSlice S1x256x64 ![1, 0, 0] w slices_S2x256x64_S1x256x64_1_0_0) shapeCasts_S1x256x64_S256x64

theorem seconds0_at (w : S2x256x64.Idx → EReal) (h : Fin 256) (l : Fin 64) : seconds0 w (ix2 h l) = w (ix3 0 h l) := by
  unfold seconds0
  pointwise
theorem seconds1_at (w : S2x256x64.Idx → EReal) (h : Fin 256) (l : Fin 64) : seconds1 w (ix2 h l) = w (ix3 1 h l) := by
  unfold seconds1
  pointwise

/-- The table of spread second weights. -/
def table (w : S2x256x64.Idx → EReal) : S2x2x256x2x2x64.Idx → EReal :=
  Host.scatter dims (fun _ b => b) (Host.scatter dims (fun _ b => b) (Host.scatter dims (fun _ b => b) (Host.scatter dims (fun _ b => b)
    (broadcastInDim S2x2x256x2x2x64 ![] bcast_S_S2x2x256x2x2x64 (constant S_ .f32 0x00000000#32 : FVec Ideal S_ .f32))
    (spotWords 0#32 0#32 0#32 0#32) (seconds0 w)) (spotWords 0#32 1#32 0#32 1#32) (seconds0 w))
    (spotWords 1#32 0#32 1#32 0#32) (seconds1 w)) (spotWords 1#32 1#32 1#32 1#32) (seconds1 w)

theorem table_at (w : S2x256x64.Idx → EReal) (s g s' g' : Fin 2) (h : Fin 256) (l : Fin 64) :
    table w (ix6 s g h s' g' l) = if s = s' ∧ g = g' then w (ix3 s h l) else 0 := by
  unfold table
  rw [place_at, place_at, place_at, place_at, seconds0_at, seconds1_at]
  have z : (broadcastInDim S2x2x256x2x2x64 ![] bcast_S_S2x2x256x2x2x64 (constant S_ .f32 0x00000000#32 : FVec Ideal S_ .f32)) (ix6 s g h s' g' l) = (0 : EReal) := by
    pointwise
  rw [z]
  clear z
  simp only [(spotWords_at _ _ _ _).1, (spotWords_at _ _ _ _).2.1, (spotWords_at _ _ _ _).2.2.1, (spotWords_at _ _ _ _).2.2.2]
  fin_cases s <;> fin_cases g <;> fin_cases s' <;> fin_cases g' <;> rfl

/-- The spread second weights as the body reads them. -/
theorem table_cast (w : S2x256x64.Idx → EReal) (a : Fin 4) (h col : Fin 256) :
    (shapeCast S4x256x256 (table w) shapeCasts_S2x2x256x2x2x64_S4x256x256) (ix3 a h col)
      = if a.val = col.val / 64 then w (ix3 ⟨a.val / 2, by omega⟩ h ⟨col.val % 64, by omega⟩) else 0 := by
  pointwise
  rw [table_at]
  by_cases e : a.val = col.val / 64
  · rw [if_pos e, if_pos ⟨Fin.ext (by dsimp only; omega), Fin.ext (by dsimp only; omega)⟩]
  · rw [if_neg e, if_neg fun e' => e (by
      have e1 := congrArg Fin.val e'.1
      have e2 := congrArg Fin.val e'.2
      dsimp only at e1 e2
      omega)]

variable (m : (ℓ : Loc nD τ sig) → Buf (Elt Ideal) ℓ) (c : Dev nD)

theorem entry_v48 : V m c main_v48 = truncf .bf16 (shapeCast S4x256x256 (table (m ((c : Thread nD τ).loc main_arg3))) shapeCasts_S2x2x256x2x2x64_S4x256x256 : FVec Ideal S4x256x256 .f32) bitsLt_bf16_f32 := by
  unfold V V0 hostOps0
  simp only [List.flatten_cons, List.flatten_nil, List.cons_append, List.nil_append, List.append_nil]
  after_results
  rfl

theorem entry_v6 : V m c main_v6 = truncf .bf16 (concatenate S2x4x256x512 3
      [⟨S2x4x256x256, (shapeCast S2x4x256x256 (extractStridedSlice S2x16x64x256 ![0, 0, 0, 0] (shapeCast S2x32x64x256 (m ((c : Thread nD τ).loc main_arg2)) shapeCasts_S2x2048x256_S2x32x64x256) slices_S2x32x64x256_S2x16x64x256_0_0_0_0) shapeCasts_S2x16x64x256_S2x4x256x256 : FVec Ideal S2x4x256x256 .f32)⟩,
       ⟨S2x4x256x256, (shapeCast S2x4x256x256 (extractStridedSlice S2x16x64x256 ![0, 16, 0, 0] (shapeCast S2x32x64x256 (m ((c : Thread nD τ).loc main_arg2)) shapeCasts_S2x2048x256_S2x32x64x256) slices_S2x32x64x256_S2x16x64x256_0_16_0_0) shapeCasts_S2x16x64x256_S2x4x256x256 : FVec Ideal S2x4x256x256 .f32)⟩]
      concatenates_S2x4x256x256_S2x4x256x256_S2x4x256x512_d3 : FVec Ideal S2x4x256x512 .f32) bitsLt_bf16_f32 := by
  unfold V V0 hostOps0
  simp only [List.flatten_cons, List.flatten_nil, List.cons_append, List.nil_append, List.append_nil]
  after_results
  rfl

theorem entry_v13 : V m c main_v13 = truncf .bf16 (concatenate S2x4x16x256 2
      [⟨S2x4x1x256, (shapeCast S2x4x1x256 (extractStridedSlice S2x16x64 ![0, 0, 0] (m ((c : Thread nD τ).loc main_arg1)) slices_S2x32x64_S2x16x64_0_0_0) shapeCasts_S2x16x64_S2x4x1x256 : FVec Ideal S2x4x1x256 .f32)⟩,
       ⟨S2x4x1x256, (shapeCast S2x4x1x256 (extractStridedSlice S2x16x64 ![0, 16, 0] (m ((c : Thread nD τ).loc main_arg1)) slices_S2x32x64_S2x16x64_0_16_0) shapeCasts_S2x16x64_S2x4x1x256 : FVec Ideal S2x4x1x256 .f32)⟩,
       ⟨S2x4x14x256, (broadcastInDim S2x4x14x256 ![] bcast_S_S2x4x14x256 (constant S_ .f32 0x00000000#32 : FVec Ideal S_ .f32) : FVec Ideal S2x4x14x256 .f32)⟩]
      concatenates_S2x4x1x256_S2x4x1x256_S2x4x14x256_S2x4x16x256_d2 : FVec Ideal S2x4x16x256 .f32) bitsLt_bf16_f32 := by
  unfold V V0 hostOps0
  simp only [List.flatten_cons, List.flatten_nil, List.cons_append, List.nil_append, List.append_nil]
  after_results
  rfl

theorem positions0 (s : Fin 2) (q : Fin 4) (k : Fin 256) :
    V m c main_v13 (ix4 s q 0 k) = m ((c : Thread nD τ).loc main_arg1) (ix3 s ⟨q.val * 4 + k.val / 64, by omega⟩ ⟨k.val % 64, by omega⟩) := by
  rw [entry_v13]
  pointwise

theorem positions1 (s : Fin 2) (q : Fin 4) (k : Fin 256) :
    V m c main_v13 (ix4 s q 1 k) = m ((c : Thread nD τ).loc main_arg1) (ix3 s ⟨16 + (q.val * 4 + k.val / 64), by omega⟩ ⟨k.val % 64, by omega⟩) := by
  rw [entry_v13]
  pointwise

/-- A half of the first weights as the host lays them out. -/
theorem half0 (w : FVec Ideal S2x2048x256 .f32) (s : Fin 2) (q : Fin 4) (k h : Fin 256) :
    (shapeCast S2x4x256x256 (extractStridedSlice S2x16x64x256 ![0, 0, 0, 0] (shapeCast S2x32x64x256 w shapeCasts_S2x2048x256_S2x32x64x256) slices_S2x32x64x256_S2x16x64x256_0_0_0_0) shapeCasts_S2x16x64x256_S2x4x256x256 : FVec Ideal S2x4x256x256 .f32) (ix4 s q k h)
      = w (ix3 s ⟨q.val * 256 + k.val, by omega⟩ h) := by
  pointwise
  exact congrArg w (congrArg (fun r => ix3 s r h) (Fin.ext (by dsimp only; omega)))

theorem half1 (w : FVec Ideal S2x2048x256 .f32) (s : Fin 2) (q : Fin 4) (k h : Fin 256) :
    (shapeCast S2x4x256x256 (extractStridedSlice S2x16x64x256 ![0, 16, 0, 0] (shapeCast S2x32x64x256 w shapeCasts_S2x2048x256_S2x32x64x256) slices_S2x32x64x256_S2x16x64x256_0_16_0_0) shapeCasts_S2x16x64x256_S2x4x256x256 : FVec Ideal S2x4x256x256 .f32) (ix4 s q k h)
      = w (ix3 s ⟨1024 + (q.val * 256 + k.val), by omega⟩ h) := by
  pointwise
  exact congrArg w (congrArg (fun r => ix3 s r h) (Fin.ext (by dsimp only; omega)))

theorem beside (x y : FVec Ideal S2x4x256x256 .f32) (s : Fin 2) (q : Fin 4) (k : Fin 256) (h : Fin 512) :
    (truncf .bf16 (concatenate S2x4x256x512 3 [⟨S2x4x256x256, x⟩, ⟨S2x4x256x256, y⟩] concatenates_S2x4x256x256_S2x4x256x256_S2x4x256x512_d3 : FVec Ideal S2x4x256x512 .f32) bitsLt_bf16_f32 : FVec Ideal S2x4x256x512 .bf16) (ix4 s q k h)
      = if e : h.val < 256 then x (ix4 s q k ⟨h.val, e⟩) else y (ix4 s q k ⟨h.val - 256, by omega⟩) := by
  pointwise

theorem firsts (s : Fin 2) (q : Fin 4) (k : Fin 256) (h : Fin 512) :
    V m c main_v6 (ix4 s q k h) = if e : h.val < 256 then m ((c : Thread nD τ).loc main_arg2) (ix3 s ⟨q.val * 256 + k.val, by omega⟩ ⟨h.val, e⟩)
      else m ((c : Thread nD τ).loc main_arg2) (ix3 s ⟨1024 + (q.val * 256 + k.val), by omega⟩ ⟨h.val - 256, by omega⟩) := by
  rw [entry_v6]
  refine (beside _ _ s q k h).trans ?_
  split
  · exact half0 _ _ _ _ _
  · exact half1 _ _ _ _ _

end Cert.Proof.Compress

end
-- ==== Proof.CompressRef.lean ====
/- The reference of the compression, read at an index. -/
module

public import proofs.«01_k».proof.Proof.Gen.CompressRefIdeal.Run
public import Idealize.ShloMosaic.Lib.Pointwise
public import Idealize.ShloMosaic.Lib.Tactic.CleanTypes

@[expose] public section

set_option maxRecDepth 16384

noncomputable section

namespace Cert.Proof.Compress.Ref

open Idealize.ShloMosaic Idealize.ShloMosaic.TcCoe
open Cert.CompressRefIdeal Cert.CompressRefIdeal.Gen
open scoped BigOperators

abbrev rows := gather_S2x8192x2x2x64_S511x32x1_S2x511x32x2x2x64_0345_1_n_n_1_2_212264

/-- The windows of rows, read at an index. -/
theorem rows_at (x : S2x8192x2x2x64.Idx → EReal) (idx : IVec S511x32x1 32) (b : Fin 2) (n : Fin 511) (p : Fin 32) (s g : Fin 2) (d : Fin 64) :
    Host.gather rows x idx (ix6 b n p s g d) = x (ix5 b ⟨min (idx (ix3 n p 0)).toInt.toNat 8191, by omega⟩ s g d) := by
  unfold Host.gather
  congr 1
  funext a
  refine Fin.ext ?_
  show rows.start (ix6 b n p s g d) idx a + rows.batchCoord (ix6 b n p s g d) a + rows.offCoord (ix6 b n p s g d) a = _
  rw [GatherDims.batchCoord_eq_zero _ _ _ List.not_mem_nil]
  by_cases ha : a = 1
  · subst ha
    rw [GatherDims.offCoord_eq_zero _ _ _ (fun h => ((GatherDims.mem_sKept _ _).mp h).1 (by decide))]
    unfold GatherDims.start
    rw [dif_pos (by decide)]
    have hsi : rows.siIdx (ix6 b n p s g d) ⟨List.idxOf (1 : Fin 5) rows.startIndexMap, List.idxOf_lt_length_iff.2 (by decide)⟩ = ix3 n p 0 := by
      funext b'
      refine Fin.ext ?_
      match b' with
      | ⟨0, _⟩ => rfl
      | ⟨1, _⟩ => rfl
      | ⟨2, _⟩ => rfl
    exact congrArg (fun i => min (idx i).toInt.toNat 8191) hsi
  · unfold GatherDims.start
    rw [dif_neg (show a ∉ rows.startIndexMap from fun h => ha (List.mem_singleton.1 h))]
    match a, ha with
    | ⟨0, _⟩, _ => exact zero_add _
    | ⟨1, _⟩, ha => exact absurd rfl ha
    | ⟨2, _⟩, _ => exact zero_add _
    | ⟨3, _⟩, _ => exact zero_add _
    | ⟨4, _⟩, _ => exact zero_add _

/-- The number of the row a window reads. -/
theorem word_at (n : Fin 511) (p : Fin 32) (w : BitVec 32) (hw : w = IntOp.addi (IntOp.muli (BitVec.ofNat 32 n.val) 16#32) (BitVec.ofNat 32 p.val)) :
    min (Scalar.select (IntOp.cmpi .slt w 0#32) (IntOp.addi w 8192#32) w).toInt.toNat 8191 = 16 * n.val + p.val := by
  have e : w = BitVec.ofNat 32 (16 * n.val + p.val) := by
    rw [hw]
    show BitVec.ofNat 32 n.val * 16#32 + BitVec.ofNat 32 p.val = _
    apply BitVec.eq_of_toNat_eq
    simp only [BitVec.toNat_add, BitVec.toNat_mul, BitVec.toNat_ofNat]
    omega
  have ht : w.toInt = ((16 * n.val + p.val : Nat) : Int) := by
    rw [e, BitVec.toInt_eq_toNat_cond, BitVec.toNat_ofNat]
    omega
  have hs : IntOp.cmpi .slt w 0#32 = 0#1 := by
    have : w.slt 0#32 = false := by
      rw [BitVec.slt, ht]
      exact decide_eq_false (by rw [show (0#32 : BitVec 32).toInt = 0 from rfl]; omega)
    show BitVec.ofBool (w.slt 0#32) = 0#1
    rw [this]
    rfl
  rw [hs]
  show min w.toInt.toNat 8191 = _
  rw [ht]
  omega

/-- The activation as the reference writes it. -/
def act (x : EReal) : EReal :=
  x * (Ideal.ofBits FTy.f32 1056964608#32 * (1 + Ideal.tanh (Ideal.ofBits FTy.f32 1061962282#32 * (x + Ideal.ofBits FTy.f32 1027024659#32 * (x * x * x)))))

/-- The hidden layer before its activation. -/
def deep (X : S2x8192x3456.Idx → EReal) (P : S2x32x64.Idx → EReal) (W : S2x2048x256.Idx → EReal) (b : Fin 2) (n : Fin 511) (s g : Fin 2) (h : Fin 256) : EReal :=
  ∑ p : Fin 32, ∑ d : Fin 64, W (ix3 s ⟨p.val * 64 + d.val, by omega⟩ h)
    * (X (ix3 b ⟨16 * n.val + p.val, by omega⟩ ⟨2560 + (s.val * 128 + g.val * 64 + d.val), by omega⟩) + P (ix3 s p d))

/-- One number of the result. -/
def outAt (X : S2x8192x3456.Idx → EReal) (P : S2x32x64.Idx → EReal) (W : S2x2048x256.Idx → EReal) (w : S2x256x64.Idx → EReal) (b : Fin 2) (n : Fin 511) (col : Fin 256) : EReal :=
  ∑ h : Fin 256, w (ix3 ⟨col.val / 128, by omega⟩ h ⟨col.val % 64, by omega⟩)
    * act (deep X P W b n ⟨col.val / 128, by omega⟩ ⟨col.val / 64 % 2, by omega⟩ h)

variable (m : (ℓ : Loc nD τ sig) → Buf (Elt Ideal) ℓ) (c : Dev nD)

set_option maxHeartbeats 4000000 in
theorem ref_apply (b : Fin 2) (n : Fin 511) (col : Fin 256) :
    Cert.CompressRefIdeal.Value.res_main_v41 m c (ix3 b n col)
      = outAt (m ((c : Thread nD τ).loc main_arg0)) (m ((c : Thread nD τ).loc main_arg1)) (m ((c : Thread nD τ).loc main_arg2)) (m ((c : Thread nD τ).loc main_arg3)) b n col := by
  unfold Cert.CompressRefIdeal.Value.res_main_v41
  clean_types
  pointwise
  simp only [rows_at]
  pointwise
  simp only [word_at _ _ _ rfl]
  rfl

end Cert.Proof.Compress.Ref

end
-- ==== Proof.CompressSum.lean ====
/- The sums of the body against the reference's. -/
module

public import Idealize.ShloMosaic.Lib.Pointwise
public import Idealize.ShloMosaic.PureOps.Ideal

@[expose] public section

noncomputable section

namespace Cert.Proof.Compress

open Idealize.ShloMosaic
open scoped BigOperators

/-- A number is a product with a number spread over a sum, whatever the other summand. -/
theorem spread_mul (x : EReal) (p w : ℝ) : (w : EReal) * (x + p) = x * w + p * w := by
  induction x with
  | coe r => rw [← EReal.coe_add, ← EReal.coe_mul, ← EReal.coe_mul, ← EReal.coe_mul, ← EReal.coe_add]; congr 1; ring
  | bot =>
    rw [EReal.bot_add, ← EReal.coe_mul]
    rcases lt_trichotomy w 0 with h | h | h
    · rw [EReal.coe_mul_bot_of_neg h, EReal.bot_mul_coe_of_neg h, EReal.top_add_coe]
    · subst h
      simp
    · rw [EReal.coe_mul_bot_of_pos h, EReal.bot_mul_coe_of_pos h, EReal.bot_add]
  | top =>
    rw [EReal.top_add_coe, ← EReal.coe_mul]
    rcases lt_trichotomy w 0 with h | h | h
    · rw [EReal.coe_mul_top_of_neg h, EReal.top_mul_coe_of_neg h, EReal.bot_add]
    · subst h
      simp
    · rw [EReal.coe_mul_top_of_pos h, EReal.top_mul_coe_of_pos h, EReal.top_add_coe]

/-- Rows of a fixed length, one after the other. -/
theorem sum_rows (a b : Nat) (F : Nat → EReal) : ∑ i : Fin a, ∑ j : Fin b, F (i.val * b + j.val) = ∑ t ∈ Finset.range (a * b), F t := by
  induction a with
  | zero => simp
  | succ a ih =>
    rw [Fin.sum_univ_castSucc, Nat.succ_mul, Finset.sum_range_add, ← ih]
    refine congrArg₂ (· + ·) rfl ?_
    exact (Finset.sum_range fun j => F (a * b + j)).symm

/-- The window's sum as the sums over its two halves, quarter by quarter. -/
theorem sum_halves (F : Nat → EReal) :
    ∑ p : Fin 32, ∑ d : Fin 64, F (p.val * 64 + d.val)
      = (∑ q : Fin 4, ∑ k : Fin 256, F (q.val * 256 + k.val)) + ∑ q : Fin 4, ∑ k : Fin 256, F (1024 + (q.val * 256 + k.val)) := by
  rw [sum_rows 32 64, sum_rows 4 256, sum_rows 4 256 (fun t => F (1024 + t))]
  exact Finset.sum_range_add F 1024 1024

/-- The window's hidden sum. -/
theorem sum_window (x p w : Nat → EReal) (hp : ∀ t, t < 2048 → ∃ r : ℝ, p t = r) (hw : ∀ t, t < 2048 → ∃ r : ℝ, w t = r) :
    (∑ q : Fin 4, ∑ k : Fin 256, x (q.val * 256 + k.val) * w (q.val * 256 + k.val))
        + (∑ q : Fin 4, ∑ k : Fin 256, x (1024 + (q.val * 256 + k.val)) * w (1024 + (q.val * 256 + k.val)))
        + ((∑ q : Fin 4, ∑ k : Fin 256, p (q.val * 256 + k.val) * w (q.val * 256 + k.val))
          + ∑ q : Fin 4, ∑ k : Fin 256, p (1024 + (q.val * 256 + k.val)) * w (1024 + (q.val * 256 + k.val)))
      = ∑ c : Fin 32, ∑ d : Fin 64, w (c.val * 64 + d.val) * (x (c.val * 64 + d.val) + p (c.val * 64 + d.val)) := by
  have e : ∀ c : Fin 32, ∀ d : Fin 64, w (c.val * 64 + d.val) * (x (c.val * 64 + d.val) + p (c.val * 64 + d.val))
      = x (c.val * 64 + d.val) * w (c.val * 64 + d.val) + p (c.val * 64 + d.val) * w (c.val * 64 + d.val) := fun c d => by
    obtain ⟨r, hr⟩ := hp (c.val * 64 + d.val) (by omega)
    obtain ⟨r', hr'⟩ := hw (c.val * 64 + d.val) (by omega)
    rw [hr, hr']
    exact spread_mul _ _ _
  simp only [e, Finset.sum_add_distrib]
  rw [sum_halves (fun t => x t * w t), sum_halves (fun t => p t * w t)]

end Cert.Proof.Compress

end
-- ==== Proof.CompressOut.lean ====
/- The body's block as the reference's numbers. -/
module

public import proofs.«01_k».proof.Proof.CompressHost
public import proofs.«01_k».proof.Proof.CompressRef
public import proofs.«01_k».proof.Proof.CompressSum

@[expose] public section

set_option maxRecDepth 16384

noncomputable section

namespace Cert.Proof.Compress

open Idealize.ShloMosaic Idealize.ShloMosaic.TcCoe
open Cert.CompressIdeal Cert.CompressIdeal.Gen
open scoped BigOperators

variable (X : S2x8192x3456.Idx → EReal) (P : S2x32x64.Idx → EReal) (W : S2x2048x256.Idx → EReal) (w : S2x256x64.Idx → EReal)

/-- The numbers a window reads, along its rows. -/
def xs (b : Fin 2) (n : Nat) (s g : Fin 2) (t : Nat) : EReal :=
  X (ix3 b ⟨(16 * n + t / 64) % 8192, Nat.mod_lt _ (by decide)⟩ ⟨2560 + (s.val * 128 + g.val * 64 + t % 64), by omega⟩)
def ps (s : Fin 2) (t : Nat) : EReal := P (ix3 s ⟨t / 64 % 32, Nat.mod_lt _ (by decide)⟩ ⟨t % 64, Nat.mod_lt _ (by decide)⟩)
def ws (s : Fin 2) (h : Fin 256) (t : Nat) : EReal := W (ix3 s ⟨t % 2048, Nat.mod_lt _ (by decide)⟩ h)

theorem deep_eq (b : Fin 2) (n : Fin 511) (s g : Fin 2) (h : Fin 256) :
    Ref.deep X P W b n s g h = ∑ c : Fin 32, ∑ d : Fin 64, ws W s h (c.val * 64 + d.val) * (xs X b n.val s g (c.val * 64 + d.val) + ps P s (c.val * 64 + d.val)) := by
  unfold Ref.deep xs ps ws
  refine Finset.sum_congr rfl fun p _ => Finset.sum_congr rfl fun d _ => ?_
  have e1 : (p.val * 64 + d.val) / 64 = p.val := by omega
  have e2 : (p.val * 64 + d.val) % 64 = d.val := by omega
  refine congrArg₂ (fun a e : EReal => a * e) (congrArg (fun r => W (ix3 s r h)) (Fin.ext (Nat.mod_eq_of_lt (by omega)).symm))
    (congrArg₂ (fun a e : EReal => a + e) (congrArg₂ (fun r l => X (ix3 b r l)) (Fin.ext ?_) (Fin.ext ?_)) (congrArg₂ (fun r l => P (ix3 s r l)) (Fin.ext ?_) (Fin.ext ?_)))
  · dsimp only; rw [e1]; omega
  · dsimp only; rw [e2]
  · dsimp only; rw [e1]; omega
  · dsimp only; rw [e2]

/-- The blocks a point reads are these arguments'. -/
structure Reads (b : Fin 2) (A B : S1x8192x128.Idx → EReal) (Q : S2x4x16x256.Idx → EReal) (U : S2x4x256x512.Idx → EReal) (Z : S4x256x256.Idx → EReal) : Prop where
  a : ∀ (r : Fin 8192) (l : Fin 128), A (ix3 0 r l) = X (ix3 b r ⟨2560 + l.val, by omega⟩)
  b : ∀ (r : Fin 8192) (l : Fin 128), B (ix3 0 r l) = X (ix3 b r ⟨2688 + l.val, by omega⟩)
  q0 : ∀ (s : Fin 2) (q : Fin 4) (k : Fin 256), Q (ix4 s q 0 k) = P (ix3 s ⟨q.val * 4 + k.val / 64, by omega⟩ ⟨k.val % 64, by omega⟩)
  q1 : ∀ (s : Fin 2) (q : Fin 4) (k : Fin 256), Q (ix4 s q 1 k) = P (ix3 s ⟨16 + (q.val * 4 + k.val / 64), by omega⟩ ⟨k.val % 64, by omega⟩)
  u : ∀ (s : Fin 2) (q : Fin 4) (k : Fin 256) (h : Fin 512), U (ix4 s q k h) = if e : h.val < 256 then W (ix3 s ⟨q.val * 256 + k.val, by omega⟩ ⟨h.val, e⟩)
      else W (ix3 s ⟨1024 + (q.val * 256 + k.val), by omega⟩ ⟨h.val - 256, by omega⟩)
  z : ∀ (i : Fin 4) (h col : Fin 256), Z (ix3 i h col) = if i.val = col.val / 64 then w (ix3 ⟨i.val / 2, by omega⟩ h ⟨col.val % 64, by omega⟩) else 0

variable {X P W w} {b : Fin 2} {A B : S1x8192x128.Idx → EReal} {Q : S2x4x16x256.Idx → EReal} {U : S2x4x256x512.Idx → EReal} {Z : S4x256x256.Idx → EReal}

theorem hid_at (H : Reads X P W w b A B Q U Z) (hP : ∀ i, ∃ r : ℝ, P i = r) (hW : ∀ i, ∃ r : ℝ, W i = r) (s g : Fin 2) (n : Fin 511) (h : Fin 256)
    (pk : Nat → FVec Ideal S512x256 .bf16) (hx : ∀ (q : Fin 4) (j : Fin 512) (k : Fin 256), pk q.val (ix2 j k) = xs X b j.val s g (q.val * 256 + k.val)) :
    hidden (four pk U s.val) (fourP Q U s.val) (ix2 ⟨n.val, by omega⟩ h) = Ref.deep X P W b n s g h := by
  rw [deep_eq, ← sum_window (xs X b n.val s g) (ps P s) (ws W s h) (fun t _ => hP _) (fun t _ => hW _), hidden_at, four_at, four_at, fourP_at, fourP_at]
  have hu0 : ∀ (q : Fin 4) (k : Fin 256), U (ix4 s q k ⟨h.val, by omega⟩) = ws W s h (q.val * 256 + k.val) := fun q k => by
    rw [H.u, dif_pos h.isLt]
    exact congrArg (fun r => W (ix3 s r h)) (Fin.ext (Nat.mod_eq_of_lt (by omega)).symm)
  have hu1 : ∀ (q : Fin 4) (k : Fin 256), U (ix4 s q k ⟨256 + h.val, by omega⟩) = ws W s h (1024 + (q.val * 256 + k.val)) := fun q k => by
    rw [H.u, dif_neg (by dsimp only; omega)]
    exact congrArg₂ (fun r l => W (ix3 s r l)) (Fin.ext (Nat.mod_eq_of_lt (by omega)).symm) (Fin.ext (by dsimp only; omega))
  have hx1 : ∀ (q : Fin 4) (k : Fin 256), xs X b (n.val + 1) s g (q.val * 256 + k.val) = xs X b n.val s g (1024 + (q.val * 256 + k.val)) := fun q k => by
    unfold xs
    exact congrArg₂ (fun r l => X (ix3 b r l)) (Fin.ext (by dsimp only; omega)) (Fin.ext (by dsimp only; omega))
  have hq0 : ∀ (q : Fin 4) (k : Fin 256), Q (ix4 s q 0 k) = ps P s (q.val * 256 + k.val) := fun q k => by
    rw [H.q0]
    unfold ps
    exact congrArg₂ (fun r l => P (ix3 s r l)) (Fin.ext (by dsimp only; omega)) (Fin.ext (by dsimp only; omega))
  have hq1 : ∀ (q : Fin 4) (k : Fin 256), Q (ix4 s q 1 k) = ps P s (1024 + (q.val * 256 + k.val)) := fun q k => by
    rw [H.q1]
    unfold ps
    exact congrArg₂ (fun r l => P (ix3 s r l)) (Fin.ext (by dsimp only; omega)) (Fin.ext (by dsimp only; omega))
  simp only [hx, hu0, hu1, hq0, hq1, hx1]

theorem packs (H : Reads X P W w b A B Q U Z) (q : Fin 4) (j : Fin 512) (k : Fin 256) :
    pkA A q.val (ix2 j k) = xs X b j.val 0 0 (q.val * 256 + k.val) ∧ pkB A q.val (ix2 j k) = xs X b j.val 0 1 (q.val * 256 + k.val)
      ∧ pkA B q.val (ix2 j k) = xs X b j.val 1 0 (q.val * 256 + k.val) ∧ pkB B q.val (ix2 j k) = xs X b j.val 1 1 (q.val * 256 + k.val) := by
  rw [pkA_at, pkB_at, pkA_at, pkB_at]
  unfold cell xs
  rw [H.a, H.a, H.b, H.b]
  have e1 : (16 * j.val + (4 * q.val + k.val / 64)) % 8192 = (16 * j.val + (q.val * 256 + k.val) / 64) % 8192 := by omega
  refine ⟨congrArg₂ (fun r l => X (ix3 b r l)) (Fin.ext e1) (Fin.ext ?_), congrArg₂ (fun r l => X (ix3 b r l)) (Fin.ext e1) (Fin.ext ?_),
    congrArg₂ (fun r l => X (ix3 b r l)) (Fin.ext e1) (Fin.ext ?_), congrArg₂ (fun r l => X (ix3 b r l)) (Fin.ext e1) (Fin.ext ?_)⟩
  · show 2560 + k.val % 64 % 128 = 2560 + (0 * 128 + 0 * 64 + (q.val * 256 + k.val) % 64)
    omega
  · show 2560 + (64 + k.val % 64) % 128 = 2560 + (0 * 128 + 1 * 64 + (q.val * 256 + k.val) % 64)
    omega
  · show 2688 + k.val % 64 % 128 = 2560 + (1 * 128 + 0 * 64 + (q.val * 256 + k.val) % 64)
    omega
  · show 2688 + (64 + k.val % 64) % 128 = 2560 + (1 * 128 + 1 * 64 + (q.val * 256 + k.val) % 64)
    omega

theorem act_eq (x : EReal) : act x = Ref.act x := by
  unfold act Ref.act
  rw [mul_comm (Ideal.ofBits FTy.f32 1056964608#32) x, mul_assoc]

/-- The body's block is the reference's numbers. -/
theorem whole_at (H : Reads X P W w b A B Q U Z) (hP : ∀ i, ∃ r : ℝ, P i = r) (hW : ∀ i, ∃ r : ℝ, W i = r) (n : Fin 511) (col : Fin 256) :
    whole A B Q U Z (ix2 ⟨n.val, by omega⟩ col) = Ref.outAt X P W w b n col := by
  have key : ∀ (s g : Fin 2) (i : Fin 4) (hi : i.val = 2 * s.val + g.val) (pk : Nat → FVec Ideal S512x256 .bf16)
      (hx : ∀ (q : Fin 4) (j : Fin 512) (k : Fin 256), pk q.val (ix2 j k) = xs X b j.val s g (q.val * 256 + k.val)),
      (∑ h : Fin 256, bend (hidden (four pk U s.val) (fourP Q U s.val)) (ix2 ⟨n.val, by omega⟩ h) * spread Z i.val (ix3 0 h col))
        = if i = (⟨col.val / 64, by omega⟩ : Fin 4) then Ref.outAt X P W w b n col else 0 := by
    intro s g i hi pk hx
    have hz : ∀ h : Fin 256, spread Z i.val (ix3 0 h col) = Z (ix3 i h col) := fun h =>
      congrArg (fun r => Z (ix3 r h col)) (Fin.ext (Nat.mod_eq_of_lt i.isLt))
    split
    · next e =>
      have e' : i.val = col.val / 64 := congrArg Fin.val e
      unfold Ref.outAt
      refine Finset.sum_congr rfl fun h _ => ?_
      rw [bend_at, hid_at H hP hW s g n h pk hx, act_eq, hz, H.z, if_pos e', mul_comm]
      have es : s = (⟨col.val / 128, by omega⟩ : Fin 2) := Fin.ext (by dsimp only; omega)
      have eg : g = (⟨col.val / 64 % 2, by omega⟩ : Fin 2) := Fin.ext (by dsimp only; omega)
      have ei : (⟨i.val / 2, by omega⟩ : Fin 2) = ⟨col.val / 128, by omega⟩ := Fin.ext (by dsimp only; omega)
      rw [ei, es, eg]
    · next e =>
      refine Finset.sum_eq_zero fun h _ => ?_
      rw [hz, H.z, if_neg fun e' => e (Fin.ext e'), mul_zero]
  unfold whole
  rw [join_at, join_at, join_at, join_at]
  have k0 := key 0 0 0 rfl (pkA A) fun q j k => (packs H q j k).1
  have k1 := key 0 1 1 rfl (pkB A) fun q j k => (packs H q j k).2.1
  have k2 := key 1 0 2 rfl (pkA B) fun q j k => (packs H q j k).2.2.1
  have k3 := key 1 1 3 rfl (pkB B) fun q j k => (packs H q j k).2.2.2
  have hz0 : (broadcast S512x256 (Scalar.ofBits .f32 0x00000000#32 : Ideal .f32) : FVec Ideal S512x256 .f32) (ix2 ⟨n.val, by omega⟩ col) = (0 : EReal) := by
    pointwise
  refine (congrArg₂ (· + ·) (congrArg₂ (· + ·) (congrArg₂ (· + ·) (congrArg₂ (· + ·) hz0 k0) k1) k2) k3).trans ?_
  rw [zero_add, ← Fin.sum_univ_four (fun i : Fin 4 => if i = (⟨col.val / 64, by omega⟩ : Fin 4) then Ref.outAt X P W w b n col else 0)]
  exact (Finset.sum_ite_eq' Finset.univ _ _).trans (if_pos (Finset.mem_univ _))

end Cert.Proof.Compress

end
-- ==== Proof.CompressLift.lean ====
/- From the blocks of the grid to the whole array. -/
module

public import proofs.«01_k».proof.Proof.CompressOut

@[expose] public section

set_option maxRecDepth 16384

noncomputable section

namespace Cert.Proof.Compress

open Idealize.ShloMosaic Idealize.ShloMosaic.TcCoe Idealize.SL.Sem
open Cert.CompressIdeal Cert.CompressIdeal.Gen
open scoped BigOperators

variable (m : (ℓ : Loc nD τ sig) → Buf (Elt Ideal) ℓ) (c : Dev nD)

/-- The block indices of the windows at a point. -/
theorem idx : ∀ t : Fin cfg0.N, win0_0.index t = ![t.val, 0, 20] ∧ win0_1.index t = ![t.val, 0, 21]
    ∧ win0_2.index t = ![0, 0, 0, 0] ∧ win0_3.index t = ![0, 0, 0, 0] ∧ win0_4.index t = ![0, 0, 0] ∧ win0_5.index t = ![t.val, 0, 0] :=
  (by decide +kernel : ∀ t : Fin grid0.N, _)

theorem lt_N (t : Fin cfg0.N) : t.val < 2 := lt_of_lt_of_eq t.isLt N_0

/-- The arguments. -/
abbrev proj : S2x8192x3456.Idx → EReal := m ((c : Thread nD τ).loc main_arg0)
abbrev spots : S2x32x64.Idx → EReal := m ((c : Thread nD τ).loc main_arg1)
abbrev firstW : S2x2048x256.Idx → EReal := m ((c : Thread nD τ).loc main_arg2)
abbrev lastW : S2x256x64.Idx → EReal := m ((c : Thread nD τ).loc main_arg3)

theorem read_a (t : Fin cfg0.N) (r : Fin 8192) (l : Fin 128) :
    (iblk m c 0 t : Vec Ideal S1x8192x128 .f32) (ix3 0 r l) = proj m c (ix3 ⟨t.val, lt_N t⟩ r ⟨2560 + l.val, by omega⟩) := by
  have := lt_N t
  blk_point [iblk, V, idx t]

theorem read_b (t : Fin cfg0.N) (r : Fin 8192) (l : Fin 128) :
    (iblk m c 1 t : Vec Ideal S1x8192x128 .f32) (ix3 0 r l) = proj m c (ix3 ⟨t.val, lt_N t⟩ r ⟨2688 + l.val, by omega⟩) := by
  have := lt_N t
  blk_point [iblk, V, idx t]

theorem read_q (t : Fin cfg0.N) (i : S2x4x16x256.Idx) : (iblk m c 2 t : Vec Ideal S2x4x16x256 .bf16) i = (V m c main_v13 : Vec Ideal S2x4x16x256 .bf16) i := by
  obtain ⟨a, b, d, e, rfl⟩ : ∃ (a : Fin 2) (b : Fin 4) (d : Fin 16) (e : Fin 256), i = ix4 a b d e := ⟨i 0, i 1, i 2, i 3, eq_ix4 i⟩
  blk_ext [iblk, idx t]

theorem read_u (t : Fin cfg0.N) (i : S2x4x256x512.Idx) : (iblk m c 3 t : Vec Ideal S2x4x256x512 .bf16) i = (V m c main_v6 : Vec Ideal S2x4x256x512 .bf16) i := by
  obtain ⟨a, b, d, e, rfl⟩ : ∃ (a : Fin 2) (b : Fin 4) (d : Fin 256) (e : Fin 512), i = ix4 a b d e := ⟨i 0, i 1, i 2, i 3, eq_ix4 i⟩
  blk_ext [iblk, idx t]

theorem read_z (t : Fin cfg0.N) (i : S4x256x256.Idx) : (iblk m c 4 t : Vec Ideal S4x256x256 .bf16) i = (V m c main_v48 : Vec Ideal S4x256x256 .bf16) i := by
  obtain ⟨a, b, d, rfl⟩ : ∃ (a : Fin 4) (b : Fin 256) (d : Fin 256), i = ix3 a b d := ⟨i 0, i 1, i 2, eq_ix3 i⟩
  unfold iblk
  generalize V m c = v
  blk_ext [idx t]

theorem narrow_at (f : FVec Ideal S4x256x256 .f32) (i : S4x256x256.Idx) : (truncf .bf16 f bitsLt_bf16_f32 : FVec Ideal S4x256x256 .bf16) i = f i := by
  obtain ⟨a, b, d, rfl⟩ : ∃ (a : Fin 4) (b : Fin 256) (d : Fin 256), i = ix3 a b d := ⟨i 0, i 1, i 2, eq_ix3 i⟩
  pointwise

/-- The spread second weights at a point. -/
theorem last_at (i : Fin 4) (h col : Fin 256) : (V m c main_v48 : Vec Ideal S4x256x256 .bf16) (ix3 i h col)
    = if i.val = col.val / 64 then lastW m c (ix3 ⟨i.val / 2, by omega⟩ h ⟨col.val % 64, by omega⟩) else (0 : EReal) := by
  refine (congrFun (entry_v48 m c) _).trans ((narrow_at _ _).trans ?_)
  exact table_cast _ i h col

theorem reads_of {b : Fin 2} {A B : S1x8192x128.Idx → EReal} {Q Q' : S2x4x16x256.Idx → EReal} {U U' : S2x4x256x512.Idx → EReal} {Z Z' : S4x256x256.Idx → EReal}
    {X : S2x8192x3456.Idx → EReal} {P : S2x32x64.Idx → EReal} {W : S2x2048x256.Idx → EReal} {w : S2x256x64.Idx → EReal}
    (H : Reads X P W w b A B Q' U' Z') (hQ : ∀ i, Q i = Q' i) (hU : ∀ i, U i = U' i) (hZ : ∀ i, Z i = Z' i) : Reads X P W w b A B Q U Z := by
  rw [funext hQ, funext hU, funext hZ]
  exact H

/-- What a point reads. -/
theorem reads (t : Fin cfg0.N) : Reads (proj m c) (spots m c) (firstW m c) (lastW m c) ⟨t.val, lt_N t⟩
    (iblk m c 0 t) (iblk m c 1 t) (iblk m c 2 t) (iblk m c 3 t) (iblk m c 4 t) :=
  reads_of (Reads.mk (read_a m c t) (read_b m c t) (positions0 m c) (positions1 m c) (firsts m c) (last_at m c)) (read_q m c t) (read_u m c t) (read_z m c t)

/-- The point that a batch entry is. -/
abbrev pt (b : Fin 2) : Fin cfg0.N := ⟨b.val, lt_of_lt_of_eq b.isLt N_0.symm⟩

/-- The result array after the region. -/
def resAt : S2x512x256.Idx → EReal := fun i =>
  whole (iblk m c 0 (pt (i 0))) (iblk m c 1 (pt (i 0))) (iblk m c 2 (pt (i 0))) (iblk m c 3 (pt (i 0))) (iblk m c 4 (pt (i 0))) (ix2 (i 1) (i 2))

theorem arr_eq : (dats m 0 c).arrAt 5 cfg0.N = resAt m c := by
  refine (dats m 0 c).arrAt_eq_of_covers 5 (resAt m c) (by decide +kernel) fun t hf y => ?_
  have hN := lt_N t
  blk_simp
  rw [after0_5, out_eq]
  obtain ⟨z, p, l, rfl⟩ : ∃ (z : Fin 1) (p : Fin 512) (l : Fin 256), y = ix3 z p l := ⟨y 0, y 1, y 2, eq_ix3 y⟩
  have e : (win0_5.blk t).view.emb (ix3 z p l) = (ix3 ⟨t.val, hN⟩ p l : S2x512x256.Idx) := by
    refine (eq_ix3 _).trans ?_
    congr 1
    all_goals refine Fin.ext ?_
    all_goals blk_simp [idx t]
  rw [e]
  unfold resAt
  pointwise

theorem tail_eq : Pipeline.afterTail₀ cfgs (dats m) 0 (V0 m) [hostOps1] c main_v50
    = extractStridedSlice S2x511x256 ![0, 0, 0] (resAt m c) slices_S2x512x256_S2x511x256_0_0_0 := by
  rw [← arr_eq]
  unfold Pipeline.afterTail₀
  simp only [List.flatten_cons, List.flatten_nil, List.cons_append, List.nil_append, List.append_nil]
  after_results
  refine congrArg (fun a : S2x512x256.Idx → EReal => extractStridedSlice S2x511x256 ![0, 0, 0] a slices_S2x512x256_S2x511x256_0_0_0) ?_
  exact Pipeline.withArrays_arr_shared (cfgs 0).spec c (V0 m c) (fun w => (dats m 0 c).arrAt w (cfgs 0).N)
    ((dats m 0 c).arrAt_sharedIn sharedIn0 (V0 m c) (A_eq m c) (cfgs 0).N) 5

theorem run (ρ : Dev nD → PrngReg) : θ_run defs (onTc (τ := τ) (main (F := Ideal))) ⟨m, fun _ => 0, ρ⟩ fun r => ∀ c : Dev nD,
      r.2.mem ((c : Thread nD τ).loc main_v50) = extractStridedSlice S2x511x256 ![0, 0, 0] (resAt m c) slices_S2x512x256_S2x511x256_0_0_0
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).2 main_v50 (Pipeline.mem_restRefs_of main_v50 (by decide) (by decide))).trans (tail_eq m c), h.2 c⟩)
    (θ_run_and (run_main m ρ) (unchanged m ρ))

end Cert.Proof.Compress

end
-- ==== Proof.CompressWeights.lean ====
/- The precondition on the block positions and the first weights, read as numbers, and the whole result at a place. -/
module

public import proofs.«01_k».proof.Pre_finite_weights
public import proofs.«01_k».proof.Proof.Gen.Pre_finite_weights
public import proofs.«01_k».proof.Proof.CompressLift
public import proofs.«01_k».proof.Proof.MlstmGates

@[expose] public section

set_option maxRecDepth 16384

noncomputable section

namespace Cert.Proof.Compress

open Idealize.ShloMosaic Idealize.ShloMosaic.TcCoe

section Pre

open Cert.Pre_finite_weights Cert.Pre_finite_weights.Gen

variable (X : FVec Ideal S2x8192x3456 .f32) (P : FVec Ideal S2x32x64 .f32) (W : FVec Ideal S2x2048x256 .f32) (w : FVec Ideal S2x256x64 .f32)

theorem spot_num (h : (fn X P W w).1 = fun _ => 1#1) (i : S2x32x64.Idx) : ∃ r : ℝ, P i = r := by
  obtain ⟨a, b, d, rfl⟩ : ∃ (a : Fin 2) (b : Fin 32) (d : Fin 64), i = ix3 a b d := ⟨i 0, i 1, i 2, eq_ix3 i⟩
  have h0 := congrFun h (ix3 a b d)
  refine Mlstm.num_of_cmp (h0.symm.trans ?_).symm
  unfold fn
  pointwise

theorem first_num (h : (fn X P W w).2 = fun _ => 1#1) (i : S2x2048x256.Idx) : ∃ r : ℝ, W i = r := by
  obtain ⟨a, b, d, rfl⟩ : ∃ (a : Fin 2) (b : Fin 2048) (d : Fin 256), i = ix3 a b d := ⟨i 0, i 1, i 2, eq_ix3 i⟩
  have h0 := congrFun h (ix3 a b d)
  refine Mlstm.num_of_cmp (h0.symm.trans ?_).symm
  unfold fn
  pointwise

end Pre

open Cert.CompressIdeal Cert.CompressIdeal.Gen

variable (m : (ℓ : Loc nD τ sig) → Buf (Elt Ideal) ℓ) (c : Dev nD)

theorem slice_at (hP : ∀ i, ∃ r : ℝ, spots m c i = r) (hW : ∀ i, ∃ r : ℝ, firstW m c i = r) (b : Fin 2) (n : Fin 511) (col : Fin 256) :
    extractStridedSlice S2x511x256 ![0, 0, 0] (resAt m c) slices_S2x512x256_S2x511x256_0_0_0 (ix3 b n col)
      = Ref.outAt (proj m c) (spots m c) (firstW m c) (lastW m c) b n col := by
  have e : extractStridedSlice S2x511x256 ![0, 0, 0] (resAt m c) slices_S2x512x256_S2x511x256_0_0_0 (ix3 b n col) = resAt m c (ix3 b ⟨n.val, by omega⟩ col) := by
    pointwise
  refine e.trans ?_
  exact whole_at (reads m c (pt b)) hP hW n col

end Cert.Proof.Compress

end
-- ==== Proof.InProjSampleSum.lean ====
/- The input projection of the sample rows: the call's one row block, modulated, times each block of weight columns. -/
module

public import proofs.«01_k».proof.Proof.Gen.InProjSampleIdeal.Frame
public import proofs.«01_k».proof.Proof.InProjSum
public import Idealize.ShloMosaic.Lib.Pipeline.Value

@[expose] public section

set_option maxRecDepth 16384

noncomputable section

namespace Cert.Proof.InProjSample

open Idealize.ShloMosaic Idealize.ShloMosaic.TcCoe
open Cert.InProjSampleIdeal Cert.InProjSampleIdeal.Gen
open scoped BigOperators

section Spec

variable (X : S128x4x1024.Idx → EReal) (SC SH : S128x1x1024.Idx → EReal) (W : S1024x3360.Idx → EReal)

/-- Token `s` of sequence `b`, scaled and shifted by the sequence's modulation. -/
def modIn (b : Fin 128) (s : Fin 4) (k : Fin 1024) : EReal :=
  X (ix3 b s k) * (1 + SC (ix3 b 0 k)) + SH (ix3 b 0 k)

/-- The token's projection at column `l`. -/
def projAt (b : Fin 128) (s : Fin 4) (l : Fin 3456) : EReal := ∑ k : Fin 1024, modIn X SC SH b s k * InProj.wgt W k l

end Spec

/-- The sequence and the token that a row of the call is. -/
abbrev seq (r : Fin 512) : Fin 128 := ⟨r.val / 4, by omega⟩
abbrev tok (r : Fin 512) : Fin 4 := ⟨r.val % 4, by omega⟩

variable (m : (ℓ : Loc nD τ sig) → Buf (Elt Ideal) ℓ) (c : Dev nD)

/-- The arguments. -/
abbrev rowsIn : S128x4x1024.Idx → EReal := m ((c : Thread nD τ).loc main_arg0)
abbrev scale : S128x1x1024.Idx → EReal := m ((c : Thread nD τ).loc main_arg1)
abbrev shift : S128x1x1024.Idx → EReal := m ((c : Thread nD τ).loc main_arg2)
abbrev weight : S1024x3360.Idx → EReal := m ((c : Thread nD τ).loc main_arg3)
abbrev window : S128x512x2x2x64.Idx → EReal := m ((c : Thread nD τ).loc main_arg4)

theorem in_A (t : Fin cfg0.N) (h0 : t.val % 3 = 0) :
    (outsAt0 m c t.val t.isLt).2 = k0_pay1 (iblk m c 0 t) (iblk m c 1 t) (iblk m c 2 t) := by
  rw [outsAt0_A m c t h0]
  frame_out

theorem in_B (t : Fin cfg0.N) (h0 : ¬t.val % 3 = 0) :
    (outsAt0 m c t.val t.isLt).2 = (outsAt0 m c (t.val - 1) (Nat.lt_of_le_of_lt (Nat.sub_le _ _) t.isLt)).2 := by
  rw [outsAt0_B m c t h0]; rfl

theorem out_eq (t : Fin cfg0.N) :
    (outsAt0 m c t.val t.isLt).1 = k0_pay2 (outsAt0 m c t.val t.isLt).2 (iblk m c 3 t) := by
  by_cases h0 : t.val % 3 = 0
  · rw [in_A m c t h0, outsAt0_A m c t h0]
    frame_out
  · rw [in_B m c t h0, outsAt0_B m c t h0]
    frame_out
    simp only [read_unread_whole]

/-- The block indices of the windows at a point. -/
theorem idx : ∀ t : Fin cfg0.N, win0_0.index t = ![0, 0] ∧ win0_1.index t = ![0, 0, 0]
    ∧ win0_2.index t = ![0, 0, 0] ∧ win0_3.index t = ![0, t.val] ∧ win0_4.index t = ![0, t.val] :=
  (by decide +kernel : ∀ t : Fin grid0.N, _)

theorem lt_N (t : Fin cfg0.N) : t.val < 3 := lt_of_lt_of_eq t.isLt N_0

theorem V_rows (p : Fin 512) (k : Fin 1024) : V m c main_v7 (ix2 p k) = rowsIn m c (ix3 (seq p) (tok p) k) := by
  have h : V m c main_v7 = shapeCast S512x1024 (rowsIn m c) shapeCasts_S128x4x1024_S512x1024 := by
    unfold_abbrev_sides
    simp only [hostOps0, hostOps0_1, hostOps0_2, List.flatten_cons, List.flatten_nil, List.cons_append, List.nil_append, List.append_nil, StableHlo.TRef.binary, StableHlo.TRef.unary, StableHlo.TRef.toBuf, StableHlo.TRef.ofBuf, cast_eq]
    after_results
    rfl
  rw [h]
  pointwise

/-- A modulation repeated for each token of its sequence. -/
abbrev spread (A : S128x1x1024.Idx → EReal) : S1x512x1024.Idx → EReal :=
  broadcastInDim S1x512x1024 ![1, 2] bcast_S512x1024_S1x512x1024_1_2 (shapeCast S512x1024
    (broadcastInDim S128x4x1024 ![0, 2] bcast_S128x1024_S128x4x1024_0_2 (shapeCast S128x1024 A shapeCasts_S128x1x1024_S128x1024)) shapeCasts_S128x4x1024_S512x1024)

theorem spread_at (A : S128x1x1024.Idx → EReal) (p : Fin 512) (k : Fin 1024) : spread A (ix3 0 p k) = A (ix3 (seq p) 0 k) := by
  pointwise

theorem V_scale : V m c main_v11 = spread (scale m c) := by
  unfold_abbrev_sides
  simp only [hostOps0, hostOps0_1, hostOps0_2, List.flatten_cons, List.flatten_nil, List.cons_append, List.nil_append, List.append_nil, StableHlo.TRef.binary, StableHlo.TRef.unary, StableHlo.TRef.toBuf, StableHlo.TRef.ofBuf, cast_eq]
  after_results
  rfl

theorem V_shift : V m c main_v15 = spread (shift m c) := by
  unfold_abbrev_sides
  simp only [hostOps0, hostOps0_1, hostOps0_2, List.flatten_cons, List.flatten_nil, List.cons_append, List.nil_append, List.append_nil, StableHlo.TRef.binary, StableHlo.TRef.unary, StableHlo.TRef.toBuf, StableHlo.TRef.ofBuf, cast_eq]
  after_results
  rfl

theorem pay1_apply (t : Fin cfg0.N) (p : Fin 512) (k : Fin 1024) :
    k0_pay1 (iblk m c 0 t) (iblk m c 1 t) (iblk m c 2 t) (ix2 p k) = modIn (rowsIn m c) (scale m c) (shift m c) (seq p) (tok p) k := by
  have hN := lt_N t
  unfold modIn
  rw [← spread_at (scale m c), ← spread_at (shift m c), ← V_scale, ← V_shift, ← V_rows]
  pointwise [k0_pay1]
  blk_point [iblk, idx t]

/-- The input scratch after a point holds the modulated rows. -/
theorem in_eq (t : Fin cfg0.N) (p : Fin 512) (k : Fin 1024) :
    (outsAt0 m c t.val t.isLt).2 (ix2 p k) = modIn (rowsIn m c) (scale m c) (shift m c) (seq p) (tok p) k := by
  have h := congrFun (Pipeline.eq_of_write_hold (fun n h => (outsAt0 m c n h).2) 3
    (fun t => k0_pay1 (iblk m c 0 t) (iblk m c 1 t) (iblk m c 2 t)) (fun t h0 => in_A m c t h0) (fun t h0 => in_B m c t h0) t) (ix2 p k)
  exact h.trans (pay1_apply m c _ p k)

theorem V_wgt' : V m c main_v6 = fun i => InProj.wgt (weight m c) (i 0) (i 1) := by
  unfold_abbrev_sides
  simp only [hostOps0, hostOps0_1, hostOps0_2, List.flatten_cons, List.flatten_nil, List.cons_append, List.nil_append, List.append_nil, StableHlo.TRef.binary, StableHlo.TRef.unary, StableHlo.TRef.toBuf, StableHlo.TRef.ofBuf, cast_eq]
  after_results
  funext i
  obtain ⟨k, l, rfl⟩ : ∃ (k : Fin 1024) (l : Fin 3456), i = ix2 k l := ⟨i 0, i 1, eq_ix2 i⟩
  clean_types
  pointwise
  unfold InProj.wgt
  refine dite_congr rfl (fun h => ?_) (fun h => InProj.zero_word)
  refine InProj.gather_eq _ _ _ _ ⟨InProj.from' l.val, by unfold InProj.from'; split_ifs <;> omega⟩ ?_
  refine Eq.trans ?_ (InProj.lit_eq ⟨l.val, h⟩)
  pointwise
  exact congrArg InProjIdeal.lit0 (Fin.ext (Shape.rowMajor_val_one _))

theorem V_wgt (k : Fin 1024) (l : Fin 3456) : V m c main_v6 (ix2 k l) = InProj.wgt (weight m c) k l := by
  rw [V_wgt']
  rfl

theorem pay2_apply (t : Fin cfg0.N) (A : Vec Ideal S512x1024 .bf16) (p : Fin 512) (l : Fin 1152) :
    k0_pay2 A (iblk m c 3 t) (ix2 p l)
      = ∑ k : Fin 1024, A (ix2 p k) * InProj.wgt (weight m c) k ⟨t.val * 1152 + l.val, by have := lt_N t; omega⟩ := by
  have hN := lt_N t
  simp only [← V_wgt]
  pointwise [k0_pay2]
  blk_point [iblk, idx t]

/-- The array the call leaves. -/
def arr : S512x3456.Idx → EReal := fun i => projAt (rowsIn m c) (scale m c) (shift m c) (weight m c) (seq (i 0)) (tok (i 0)) (i 1)

theorem arr_eq : (dats m 0 c).arrAt 4 cfg0.N = arr m c := by
  refine (dats m 0 c).arrAt_eq_of_covers 4 (arr m c) (by decide +kernel) fun t hf y => ?_
  have hN := lt_N t
  blk_simp
  rw [after0_4, out_eq]
  obtain ⟨p, l, rfl⟩ : ∃ (p : Fin 512) (l : Fin 1152), y = ix2 p l := ⟨y 0, y 1, eq_ix2 y⟩
  have e : (win0_4.blk t).view.emb (ix2 p l) = (ix2 p ⟨t.val * 1152 + l.val, by omega⟩ : S512x3456.Idx) := by
    refine (eq_ix2 _).trans (congrArg₂ (fun (a : Fin 512) (b : Fin 3456) => ix2 a b) (Fin.ext ?_) (Fin.ext ?_))
    all_goals blk_simp [idx t]
  rw [e]
  refine (pay2_apply m c t _ p l).trans ?_
  simp only [in_eq]
  rfl

end Cert.Proof.InProjSample

end
-- ==== Proof.InProjSampleLift.lean ====
/- What the sample's input projection leaves: the projection's rows, and the window of cached rows moved on by the new ones. -/
module

public import proofs.«01_k».proof.Proof.InProjSampleSum

@[expose] public section

set_option maxRecDepth 16384

noncomputable section

namespace Cert.Proof.InProjSample

open Idealize.ShloMosaic Idealize.ShloMosaic.TcCoe Idealize.SL.Sem
open Cert.InProjSampleIdeal Cert.InProjSampleIdeal.Gen
open scoped BigOperators

section Spec

variable (X : S128x4x1024.Idx → EReal) (SC SH : S128x1x1024.Idx → EReal) (W : S1024x3360.Idx → EReal) (B : S128x512x2x2x64.Idx → EReal)

/-- The projection, sequence by sequence. -/
def proj : S128x4x3456.Idx → EReal := fun i => projAt X SC SH W (i 0) (i 1) (i 2)

/-- The new rows of the window's keys and values. -/
def fresh : S128x4x2x2x64.Idx → EReal := fun i =>
  projAt X SC SH W (i 0) (i 1) ⟨3072 + ((i 2).val * 128 + (i 3).val * 64 + (i 4).val), by
    have h2 : (i 2).val < 2 := (i 2).isLt
    have h3 : (i 3).val < 2 := (i 3).isLt
    have h4 : (i 4).val < 64 := (i 4).isLt
    omega⟩

/-- The window: the last 512 of the cached rows followed by the new ones. -/
def moved (N : S128x4x2x2x64.Idx → EReal) : S128x512x2x2x64.Idx → EReal :=
  extractStridedSlice S128x512x2x2x64 ![0, 4, 0, 0, 0]
    (concatenate S128x516x2x2x64 1 [⟨S128x512x2x2x64, B⟩, ⟨S128x4x2x2x64, N⟩] concatenates_S128x512x2x2x64_S128x4x2x2x64_S128x516x2x2x64_d1)
    slices_S128x516x2x2x64_S128x512x2x2x64_0_4_0_0_0

end Spec

variable (m : (ℓ : Loc nD τ sig) → Buf (Elt Ideal) ℓ) (c : Dev nD)

theorem cast_arr : shapeCast S128x4x3456 (arr m c) shapeCasts_S512x3456_S128x4x3456 = proj (rowsIn m c) (scale m c) (shift m c) (weight m c) := by
  funext i
  obtain ⟨b, s, l, rfl⟩ : ∃ (b : Fin 128) (s : Fin 4) (l : Fin 3456), i = ix3 b s l := ⟨i 0, i 1, i 2, eq_ix3 i⟩
  have e : shapeCast S128x4x3456 (arr m c) shapeCasts_S512x3456_S128x4x3456 (ix3 b s l) = arr m c (ix2 ⟨b.val * 4 + s.val, by omega⟩ l) := by
    pointwise
  refine e.trans ?_
  show projAt _ _ _ _ (seq ⟨b.val * 4 + s.val, _⟩) (tok ⟨b.val * 4 + s.val, _⟩) l = projAt _ _ _ _ b s l
  have e1 : seq ⟨b.val * 4 + s.val, by omega⟩ = b := Fin.ext (by show (b.val * 4 + s.val) / 4 = b.val; omega)
  have e2 : tok ⟨b.val * 4 + s.val, by omega⟩ = s := Fin.ext (by show (b.val * 4 + s.val) % 4 = s.val; omega)
  rw [e1, e2]

theorem cast_fresh (X : S128x4x1024.Idx → EReal) (SC SH : S128x1x1024.Idx → EReal) (W : S1024x3360.Idx → EReal) :
    shapeCast S128x4x2x2x64 (extractStridedSlice S128x4x256 ![0, 0, 3072] (proj X SC SH W) slices_S128x4x3456_S128x4x256_0_0_3072) shapeCasts_S128x4x256_S128x4x2x2x64
      = fresh X SC SH W := by
  funext i
  obtain ⟨b, s, y, g, d, rfl⟩ : ∃ (b : Fin 128) (s : Fin 4) (y g : Fin 2) (d : Fin 64), i = ix5 b s y g d := ⟨i 0, i 1, i 2, i 3, i 4, eq_ix5 i⟩
  unfold proj fresh
  pointwise

theorem tail_arr : Pipeline.withArrays (cfgs 0).spec c (V0 m c) (fun w => (dats m 0 c).arrAt w (cfgs 0).N) (Proc.devRef .tc main_v16) = arr m c := by
  rw [← arr_eq]
  exact Pipeline.withArrays_arr (cfgs 0).spec (by decide) c (V0 m c) (fun w => (dats m 0 c).arrAt w (cfgs 0).N) 4

theorem tail_window : Pipeline.withArrays (cfgs 0).spec c (V0 m c) (fun w => (dats m 0 c).arrAt w (cfgs 0).N) (Proc.devRef .tc main_arg4) = window m c :=
  (Pipeline.withArrays_of_ne _ c (V0 m c) _ main_arg4 (by exact (by decide : ∀ w, Pipeline.arrRef spec0 w ≠ main_arg4))).trans (V_main_arg4 m c)

theorem tail_proj : Pipeline.afterTail₀ cfgs (dats m) 0 (V0 m) [hostOps1] c main_v17 = proj (rowsIn m c) (scale m c) (shift m c) (weight m c) := by
  rw [← cast_arr]
  unfold Pipeline.afterTail₀
  simp only [List.flatten_cons, List.flatten_nil, List.cons_append, List.nil_append, List.append_nil]
  after_results
  exact congrArg (fun a : S512x3456.Idx → EReal => shapeCast S128x4x3456 a shapeCasts_S512x3456_S128x4x3456) (tail_arr m c)

theorem tail_moved : Pipeline.afterTail₀ cfgs (dats m) 0 (V0 m) [hostOps1] c main_v21
    = moved (window m c) (fresh (rowsIn m c) (scale m c) (shift m c) (weight m c)) := by
  rw [← cast_fresh, ← cast_arr, ← tail_arr, ← tail_window]
  unfold Pipeline.afterTail₀ moved
  simp only [List.flatten_cons, List.flatten_nil, List.cons_append, List.nil_append, List.append_nil]
  generalize Pipeline.withArrays (cfgs 0).spec c (V0 m c) (fun w => (dats m 0 c).arrAt w (cfgs 0).N) = v
  after_results
  rfl

theorem run (ρ : Dev nD → PrngReg) : θ_run defs (onTc (τ := τ) (main (F := Ideal))) ⟨m, fun _ => 0, ρ⟩ fun r => ∀ c : Dev nD,
      r.2.mem ((c : Thread nD τ).loc main_v17) = proj (rowsIn m c) (scale m c) (shift m c) (weight m c)
      ∧ r.2.mem ((c : Thread nD τ).loc main_v21) = moved (window m c) (fresh (rowsIn m c) (scale m c) (shift m c) (weight m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).2 main_v17 (Pipeline.mem_restRefs_of main_v17 (by decide) (by decide))).trans (tail_proj m c),
      ((h.1 c).2 main_v21 (Pipeline.mem_restRefs_of main_v21 (by decide) (by decide))).trans (tail_moved m c), h.2 c⟩)
    (θ_run_and (run_main m ρ) (unchanged m ρ))

end Cert.Proof.InProjSample

end
-- ==== Proof.InProjSampleRef.lean ====
/- The reference of the sample's input projection: the same rows and the same window. -/
module

public import proofs.«01_k».proof.Proof.InProjSampleLift
public import proofs.«01_k».proof.Proof.Gen.InProjSampleRefIdeal.Run
public import Idealize.ShloMosaic.Lib.Tactic.CleanTypes

@[expose] public section

set_option maxRecDepth 16384

noncomputable section

namespace Cert.Proof.InProjSample

open Idealize.ShloMosaic Idealize.ShloMosaic.TcCoe Idealize.SL.Sem
open Cert.InProjSampleRefIdeal Cert.InProjSampleRefIdeal.Gen
open scoped BigOperators

theorem ref_fresh (X : S128x4x1024.Idx → EReal) (SC SH : S128x1x1024.Idx → EReal) (W : S1024x3360.Idx → EReal) :
    shapeCast S128x4x2x2x64 (extractStridedSlice S128x4x256 ![0, 0, 3080]
      (Host.dotGeneral (F := Ideal) (φ₁ := .f32) (φ₂ := .f32) (so := S128x4x3360) dot_S128x4x1024_S1024x3360_S128x4x3360_2_0_01_1_n_n none
        (addf (F := Ideal) (φ := .f32) (mulf X (broadcastInDim S128x4x1024 ![0, 1, 2] bcast_S128x1x1024_S128x4x1024_0_1_2
            (addf (broadcastInDim S128x1x1024 ![] bcast_S_S128x1x1024 (constant S_ .f32 0x3F800000#32)) SC)))
          (broadcastInDim S128x4x1024 ![0, 1, 2] bcast_S128x1x1024_S128x4x1024_0_1_2 SH)) W)
      slices_S128x4x3360_S128x4x256_0_0_3080) shapeCasts_S128x4x256_S128x4x2x2x64 = fresh X SC SH W := by
  funext i
  obtain ⟨b, s, y, g, d, rfl⟩ : ∃ (b : Fin 128) (s : Fin 4) (y g : Fin 2) (d : Fin 64), i = ix5 b s y g d := ⟨i 0, i 1, i 2, i 3, i 4, eq_ix5 i⟩
  show _ = projAt X SC SH W b s ⟨3072 + (y.val * 128 + g.val * 64 + d.val), _⟩
  unfold projAt InProj.wgt modIn
  have hc : 3072 + (y.val * 128 + g.val * 64 + d.val) < 3360 := by omega
  simp only [dif_pos hc]
  pointwise
  refine Finset.sum_congr rfl fun k _ => congrArg (fun i => _ * W (ix2 k i)) (Fin.ext ?_)
  unfold InProj.from'
  (dsimp only) <;> split_ifs <;> omega

/-- What the reference leaves. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = proj (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v16) = moved (m ((c.tc : Thread nD τ).loc main_arg4)) (fresh (m ((c.tc : Thread nD τ).loc main_arg0))
        (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2.1.trans ?_, (h c).2.2⟩) (Cert.InProjSampleRefIdeal.Value.run (F := Ideal) m ρ)
  · funext i
    obtain ⟨b, s, l, rfl⟩ : ∃ (b : Fin 128) (s : Fin 4) (l : Fin 3456), i = ix3 b s l := ⟨i 0, i 1, i 2, eq_ix3 i⟩
    clean_types
    pointwise
    have hl := l.isLt
    show _ = projAt _ _ _ _ b s l
    unfold projAt InProj.wgt modIn
    by_cases h : l.val < 3360
    · rw [dif_pos h]
      simp only [dif_pos h]
      split_ifs with h1 h2 h3
      all_goals
        refine Finset.sum_congr rfl fun k _ => congrArg (fun i => _ * m (c.tc.loc main_arg3) (ix2 k i)) (Fin.ext ?_)
        unfold InProj.from'
        (dsimp only) <;> split_ifs <;> omega
    · rw [dif_neg h]
      simp only [dif_neg h, mul_zero, Finset.sum_const_zero]
      exact InProj.zero_word
  · refine congrArg (moved (m ((c.tc : Thread nD τ).loc main_arg4))) ?_
    exact ref_fresh _ _ _ _

end Cert.Proof.InProjSample

end
-- ==== Proof.FfnSampleBlock.lean ====
/- The feed-forward call of the sample rows, one grid point at a time: what each case of the body leaves in its two scratch buffers and in its
   output block, over the blocks the point reads. -/
module

public import proofs.«01_k».proof.Proof.Gen.FfnSampleIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.Proof.FfnSample

open Idealize.ShloMosaic Idealize.ShloMosaic.TcCoe
open Cert.FfnSampleIdeal Cert.FfnSampleIdeal.Gen

variable (m : (ℓ : Loc nD τ sig) → Buf (Elt Ideal) ℓ) (c : Dev nD)

theorem in_A (t : Fin cfg0.N) (h0 : t.val % 8 = 0) :
    (outsAt0 m c t.val t.isLt).2.1 = k0_pay1 (iblk m c 0 t) (iblk m c 1 t) (iblk m c 2 t) := by
  rw [outsAt0_A m c t h0 (by omega)]
  frame_out

theorem acc_A (t : Fin cfg0.N) (h0 : t.val % 8 = 0) :
    (outsAt0 m c t.val t.isLt).2.2
      = k0_pay3 (outsAt0 m c t.val t.isLt).2.1 (iblk m c 4 t) (k0_pay2 (F := Ideal)) (iblk m c 5 t) := by
  rw [in_A m c t h0, outsAt0_A m c t h0 (by omega)]
  frame_out

theorem in_B (t : Fin cfg0.N) (h0 : ¬t.val % 8 = 0) :
    (outsAt0 m c t.val t.isLt).2.1 = (outsAt0 m c (t.val - 1) (Nat.lt_of_le_of_lt (Nat.sub_le _ _) t.isLt)).2.1 := by
  by_cases h1 : t.val % 8 = 7
  · rw [outsAt0_C m c t h0 h1]; rfl
  · rw [outsAt0_B m c t h0 h1]; rfl

theorem acc_B (t : Fin cfg0.N) (h0 : ¬t.val % 8 = 0) :
    (outsAt0 m c t.val t.isLt).2.2
      = k0_pay3 (outsAt0 m c t.val t.isLt).2.1 (iblk m c 4 t)
          (outsAt0 m c (t.val - 1) (Nat.lt_of_le_of_lt (Nat.sub_le _ _) t.isLt)).2.2 (iblk m c 5 t) := by
  rw [in_B m c t h0]
  by_cases h1 : t.val % 8 = 7
  · rw [outsAt0_C m c t h0 h1]; frame_out; simp only [read_unread_whole]
  · rw [outsAt0_B m c t h0 h1]; frame_out; simp only [read_unread_whole]

theorem out_C (t : Fin cfg0.N) (h1 : t.val % 8 = 7) :
    (outsAt0 m c t.val t.isLt).1
      = k0_pay4 (iblk m c 0 t) (iblk m c 3 t) (outsAt0 m c t.val t.isLt).2.2 (iblk m c 6 t) (iblk m c 7 t) := by
  rw [acc_B m c t (by omega), in_B m c t (by omega), outsAt0_C m c t (by omega) h1]
  frame_out
  simp only [read_unread_whole]

end Cert.Proof.FfnSample

end
-- ==== Proof.FfnSampleSum.lean ====
/- The feed-forward call of the sample rows over its eight column blocks: the input scratch holds the modulated rows, the accumulator the partial
   sums, and the last point of a run writes the normalised rows. -/
module

public import proofs.«01_k».proof.Proof.FfnSampleBlock
public import proofs.«01_k».proof.Proof.FfnSum

@[expose] public section

set_option maxRecDepth 16384

noncomputable section

namespace Cert.Proof.FfnSample

open Idealize.ShloMosaic Idealize.ShloMosaic.TcCoe
open Cert.FfnSampleIdeal Cert.FfnSampleIdeal.Gen
open scoped BigOperators

section Spec

variable (X : S512x1024.Idx → Elt Ideal .f32) (SC SH G : S128x1x1024.Idx → Elt Ideal .f32)
  (WU : S1024x4096.Idx → Elt Ideal .f32) (WD : S4096x1024.Idx → Elt Ideal .f32) (LG LB : S1024.Idx → Elt Ideal .f32)

/-- The sequence (of 4 rows) that row `r` belongs to. -/
abbrev grp (r : Fin 512) : Fin 128 := ⟨r.val / 4, by omega⟩

/-- Row `r` of the input, scaled and shifted by its sequence's modulation. -/
def modIn (r : Fin 512) (k : Fin 1024) : EReal :=
  X (ix2 r k) * (1 + SC (ix3 (grp r) 0 k)) + SH (ix3 (grp r) 0 k)

/-- The hidden unit `f` of row `r` before its square. -/
def hid (r : Fin 512) (f : Fin 4096) : EReal := max (∑ k : Fin 1024, modIn X SC SH r k * WU (ix2 k f)) 0

/-- What hidden unit `f` adds to column `l` of row `r`. -/
def part (r : Fin 512) (l : Fin 1024) (f : Fin 4096) : EReal :=
  hid X SC SH WU r f * hid X SC SH WU r f * WD (ix2 f l)

/-- Row `r` of the residual sum with the gated update `u`, normalised, at column `l`. -/
def joinAt (r : Fin 512) (u : Fin 1024 → EReal) (l : Fin 1024) : EReal :=
  Ffn.normAt (fun k => Ideal.ofBits .f32 0x3FB504F3#32 * X (ix2 r k)
    + G (ix3 (grp r) 0 k) * u k) (LG (ix1 l)) (LB (ix1 l)) l

/-- The layer's feed-forward step at column `l` of row `r`. -/
def ffnAt (r : Fin 512) (l : Fin 1024) : EReal :=
  joinAt X G LG LB r (fun k => ∑ f : Fin 4096, part X SC SH WU WD r k f) l

end Spec

variable (m : (ℓ : Loc nD τ sig) → Buf (Elt Ideal) ℓ) (c : Dev nD)

/-- The block indices of the eight input windows at a point. -/
theorem idx : ∀ t : Fin cfg0.N, win0_0.index t = ![t.val / 8, 0] ∧ win0_1.index t = ![t.val / 8, 0, 0]
    ∧ win0_2.index t = ![t.val / 8, 0, 0] ∧ win0_3.index t = ![t.val / 8, 0, 0]
    ∧ win0_4.index t = ![0, t.val % 8] ∧ win0_5.index t = ![t.val % 8, 0]
    ∧ win0_6.index t = ![0, 0] ∧ win0_7.index t = ![0, 0] :=
  (by decide +kernel : ∀ t : Fin grid0.N, _)

theorem lt_N (t : Fin cfg0.N) : t.val < 8 := lt_of_lt_of_eq t.isLt N_0

/-- The row of the array that row `p` of point `t`'s block is. -/
abbrev row (t : Fin cfg0.N) (p : Fin 512) : Fin 512 := ⟨t.val / 8 * 512 + p.val, by have := lt_N t; omega⟩

theorem pay1_apply (t : Fin cfg0.N) (p : Fin 512) (k : Fin 1024) :
    k0_pay1 (iblk m c 0 t) (iblk m c 1 t) (iblk m c 2 t) (ix2 p k)
      = modIn (m ((c : Thread nD τ).loc main_arg0)) (m ((c : Thread nD τ).loc main_arg1)) (m ((c : Thread nD τ).loc main_arg2)) (row t p) k := by
  have hN := lt_N t
  unfold modIn
  pointwise [k0_pay1]
  blk_point [iblk, V, idx t]

theorem pay3_apply (t : Fin cfg0.N) (W : Vec Ideal S512x1024 .bf16) (A : Vec Ideal S512x1024 .f32) (p : Fin 512) (l : Fin 1024) :
    k0_pay3 W (iblk m c 4 t) A (iblk m c 5 t) (ix2 p l)
      = A (ix2 p l) + ∑ j : Fin 512,
          max (∑ k : Fin 1024, W (ix2 p k) * (m ((c : Thread nD τ).loc main_arg4)) (ix2 k ⟨t.val % 8 * 512 + j.val, by omega⟩)) 0
          * max (∑ k : Fin 1024, W (ix2 p k) * (m ((c : Thread nD τ).loc main_arg4)) (ix2 k ⟨t.val % 8 * 512 + j.val, by omega⟩)) 0
          * (m ((c : Thread nD τ).loc main_arg5)) (ix2 ⟨t.val % 8 * 512 + j.val, by omega⟩ l) := by
  have hN := lt_N t
  pointwise [k0_pay3]
  blk_point [iblk, V, idx t]

/-- The input scratch after a point holds the modulated rows of the point's row block. -/
theorem in_eq (t : Fin cfg0.N) (p : Fin 512) (k : Fin 1024) :
    (outsAt0 m c t.val t.isLt).2.1 (ix2 p k)
      = modIn (m ((c : Thread nD τ).loc main_arg0)) (m ((c : Thread nD τ).loc main_arg1)) (m ((c : Thread nD τ).loc main_arg2)) (row t p) k := by
  have h := congrFun (Pipeline.eq_of_write_hold (fun n h => (outsAt0 m c n h).2.1) 8
    (fun t => k0_pay1 (iblk m c 0 t) (iblk m c 1 t) (iblk m c 2 t)) (fun t h0 => in_A m c t h0) (fun t h0 => in_B m c t h0) t) (ix2 p k)
  refine h.trans ((pay1_apply m c _ p k).trans ?_)
  congr 1
  apply Fin.ext
  show 8 * (t.val / 8) / 8 * 512 + p.val = t.val / 8 * 512 + p.val
  omega

/-- The accumulator at the last point of a run: the whole contraction over the hidden units. -/
theorem acc_eq (t : Fin cfg0.N) (ht : t.val % 8 = 7) (p : Fin 512) (l : Fin 1024) :
    (outsAt0 m c t.val t.isLt).2.2 (ix2 p l)
      = ∑ f : Fin 4096, part (m ((c : Thread nD τ).loc main_arg0)) (m ((c : Thread nD τ).loc main_arg1)) (m ((c : Thread nD τ).loc main_arg2))
          (m ((c : Thread nD τ).loc main_arg4)) (m ((c : Thread nD τ).loc main_arg5)) (row t p) l f := by
  have key := Pipeline.eq_sum_fin_of_reset_step_apply_of_flush (fun n h => (outsAt0 m c n h).2.2) 8 (fun _ => (0 : EReal))
    (fun t i => ∑ j : Fin 512, part (m ((c : Thread nD τ).loc main_arg0)) (m ((c : Thread nD τ).loc main_arg1)) (m ((c : Thread nD τ).loc main_arg2))
          (m ((c : Thread nD τ).loc main_arg4)) (m ((c : Thread nD τ).loc main_arg5)) (row t (i 0)) (i 1) ⟨t.val % 8 * 512 + j.val, by omega⟩)
    (fun t h0 i => by
      obtain ⟨p, l, rfl⟩ : ∃ (p : Fin 512) (l : Fin 1024), i = ix2 p l := ⟨i 0, i 1, eq_ix2 i⟩
      show (outsAt0 m c t.val t.isLt).2.2 (ix2 p l) = _
      rw [acc_A m c t h0, pay3_apply]
      simp only [in_eq]
      have hz : k0_pay2 (F := Ideal) (ix2 p l) = 0 := by pointwise [k0_pay2]
      rw [hz]
      rfl)
    (fun t h0 i => by
      obtain ⟨p, l, rfl⟩ : ∃ (p : Fin 512) (l : Fin 1024), i = ix2 p l := ⟨i 0, i 1, eq_ix2 i⟩
      show (outsAt0 m c t.val t.isLt).2.2 (ix2 p l) = _
      rw [acc_B m c t h0, pay3_apply]
      simp only [in_eq]
      rfl) t ht (ix2 p l)
  refine key.trans ?_
  rw [zero_add, Fin.sum_univ_tiles 8 512 rfl]
  refine Finset.sum_congr rfl fun s _ => Finset.sum_congr rfl fun j _ => ?_
  have hs := s.isLt
  have e1 : row ⟨8 * (t.val / 8) + s.val, Pipeline.run_point_lt_of_flush t ht s⟩ p = row t p := by
    apply Fin.ext
    show (8 * (t.val / 8) + s.val) / 8 * 512 + p.val = t.val / 8 * 512 + p.val
    omega
  show part _ _ _ _ _ (row ⟨8 * (t.val / 8) + s.val, _⟩ p) l _ = _
  rw [e1]
  congr 1
  apply Fin.ext
  show (8 * (t.val / 8) + s.val) % 8 * 512 + j.val = s.val * 512 + j.val
  omega

/-- The last point's stored block over the accumulator: the residual sum, normalised. -/
theorem pay4_apply (t : Fin cfg0.N) (A : Vec Ideal S512x1024 .f32) (p : Fin 512) (l : Fin 1024) :
    k0_pay4 (iblk m c 0 t) (iblk m c 3 t) A (iblk m c 6 t) (iblk m c 7 t) (ix2 p l)
      = joinAt (m ((c : Thread nD τ).loc main_arg0)) (m ((c : Thread nD τ).loc main_arg3))
          (m ((c : Thread nD τ).loc main_arg6)) (m ((c : Thread nD τ).loc main_arg7)) (row t p) (fun k => A (ix2 p k)) l := by
  have hN := lt_N t
  unfold joinAt Ffn.normAt
  pointwise [k0_pay4]
  blk_point [iblk, V, idx t]

/-- What the result array ends holding. -/
theorem G8_eq (r : Fin 512) (l : Fin 1024) :
    Cert.FfnSampleIdeal.Value.G8 m c (ix2 r l)
      = ffnAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) r l := by
  have hr := r.isLt
  have hl := l.isLt
  have hp : Cert.FfnSampleIdeal.Value.pt8Of (ix2 r l) = 8 * (r.val / 512) + 7 := by
    show 8 * (1 * (r.val / 512 - 0) + 1 * (l.val / 1024 - 0)) + 7 = _
    omega
  have hN : cfg0.N = 8 := N_0
  have hlt : 8 * (r.val / 512) + 7 < cfg0.N := by omega
  have hloc : Cert.FfnSampleIdeal.Value.loc8Of (ix2 r l) = ix2 ⟨r.val % 512, by omega⟩ l := by
    funext a; apply Fin.ext
    match a with
    | ⟨0, _⟩ => rfl
    | ⟨1, _⟩ => exact Nat.mod_eq_of_lt hl
  unfold Cert.FfnSampleIdeal.Value.G8
  rw [dif_pos (by rw [hp]; exact hlt), hloc,
    Cert.FfnSampleIdeal.Value.fold0_congr m c _ _ (8 * (r.val / 512) + 7) (by omega) hp, ← Cert.FfnSampleIdeal.Value.outsAt0_sweep m c _ hlt]
  have h7 : (⟨8 * (r.val / 512) + 7, hlt⟩ : Fin cfg0.N).val % 8 = 7 := by show (8 * (r.val / 512) + 7) % 8 = 7; omega
  have hrow : row ⟨8 * (r.val / 512) + 7, hlt⟩ ⟨r.val % 512, by omega⟩ = r := by
    apply Fin.ext
    show (8 * (r.val / 512) + 7) / 8 * 512 + r.val % 512 = r.val
    omega
  refine (congrFun (out_C m c ⟨_, hlt⟩ h7) _).trans ((pay4_apply m c ⟨_, hlt⟩ _ _ l).trans ?_)
  simp only [acc_eq m c ⟨_, hlt⟩ h7, hrow]
  rfl

end Cert.Proof.FfnSample

end
-- ==== Proof.FfnSampleRef.lean ====
/- The reference of the sample's feed-forward call, read at an index. -/
module

public import proofs.«01_k».proof.Proof.FfnSampleSum
public import proofs.«01_k».proof.Proof.Gen.FfnSampleRefIdeal.Run
public import Idealize.ShloMosaic.Lib.Tactic.CleanTypes

@[expose] public section

set_option maxRecDepth 16384

noncomputable section

namespace Cert.Proof.FfnSample

open Idealize.ShloMosaic Idealize.ShloMosaic.TcCoe
open Cert.FfnSampleRefIdeal Cert.FfnSampleRefIdeal.Gen
open scoped BigOperators

variable (m : (ℓ : Loc nD τ sig) → Buf (Elt Ideal) ℓ) (c : Dev nD)

/-- What the reference leaves, at an index. -/
theorem ref_apply (r : Fin 512) (l : Fin 1024) : Cert.FfnSampleRefIdeal.Value.res_out0 m c (ix2 r l)
      = ffnAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) r l := by
  unfold Cert.FfnSampleRefIdeal.Value.res_out0 Cert.FfnSampleRefIdeal.Value.res_main_v40
  clean_types
  pointwise
  rfl

end Cert.Proof.FfnSample

end
-- ==== Proof.OutProjSampleBlock.lean ====
/- The output projection of the sample rows: the single point joins the two halves of all rows to the residual and normalises the rows. -/
module

public import proofs.«01_k».proof.Proof.Gen.OutProjSampleIdeal.Value
public import proofs.«01_k».proof.Proof.OutProjBlock
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.Proof.OutProjSample

open Idealize.ShloMosaic Idealize.ShloMosaic.TcCoe
open Cert.OutProjSampleIdeal Cert.OutProjSampleIdeal.Gen
open scoped BigOperators

section Spec

variable (X : S512x1024.Idx → Elt Ideal .f32) (A B : S512x512.Idx → Elt Ideal .bf16) (W : S1024x1024.Idx → Elt Ideal .f32)
  (G : S128x1x1024.Idx → Elt Ideal .f32) (LG LB : S1024.Idx → Elt Ideal .f32)

/-- The sequence (of 4 rows) that row `r` belongs to. -/
abbrev grp (r : Fin 512) : Fin 128 := ⟨r.val / 4, by omega⟩

/-- The two halves of row `r` against the two halves of weight column `l`. -/
def mixAt (r : Fin 512) (l : Fin 1024) : EReal :=
  (∑ k : Fin 512, A (ix2 r k) * W (ix2 ⟨k.val, by omega⟩ l)) + ∑ k : Fin 512, B (ix2 r k) * W (ix2 ⟨512 + k.val, by omega⟩ l)

/-- The layer's joining step at column `l` of row `r`. -/
def joinAt (r : Fin 512) (l : Fin 1024) : EReal :=
  OutProj.normAt (fun k => Ideal.ofBits .f32 0x3FB504F3#32 * X (ix2 r k) + G (ix3 (grp r) 0 k) * mixAt A B W r k) (LG (ix1 l)) (LB (ix1 l)) l

end Spec

variable (m : (ℓ : Loc nD τ sig) → Buf (Elt Ideal) ℓ) (c : Dev nD)

/-- The block indices of the windows at a point. -/
theorem idx : ∀ t : Fin cfg0.N, win0_0.index t = ![t.val, 0] ∧ win0_1.index t = ![t.val, 0]
    ∧ win0_2.index t = ![t.val, 0] ∧ win0_3.index t = ![0, 0] ∧ win0_4.index t = ![1, 0]
    ∧ win0_5.index t = ![t.val, 0, 0] ∧ win0_6.index t = ![0, 0] ∧ win0_7.index t = ![0, 0] ∧ win0_8.index t = ![t.val, 0] :=
  (by decide +kernel : ∀ t : Fin grid0.N, _)

theorem lt_N (t : Fin cfg0.N) : t.val < 1 := lt_of_lt_of_eq t.isLt N_0

/-- The row of the array that row `p` of point `t`'s block is. -/
abbrev row (t : Fin cfg0.N) (p : Fin 512) : Fin 512 := ⟨t.val * 512 + p.val, by have := lt_N t; omega⟩

/-- What point `t` leaves in the output block. -/
theorem out_apply (t : Fin cfg0.N) (p : Fin 512) (l : Fin 1024) :
    k0_pay1 (k0_pay2 (iblk m c 6 t)) (k0_pay3 (iblk m c 7 t))
        (k0_pay4 (iblk m c 1 t) (iblk m c 3 t) (iblk m c 2 t) (iblk m c 4 t) (iblk m c 0 t) (iblk m c 5 t))
        (k0_pay5 (iblk m c 1 t) (iblk m c 3 t) (iblk m c 2 t) (iblk m c 4 t) (iblk m c 0 t) (iblk m c 5 t)) (ix2 p l)
      = joinAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (row t p) l := by
  have hN := lt_N t
  unfold joinAt OutProj.normAt mixAt
  pointwise [k0_pay1, k0_pay2, k0_pay3, k0_pay4, k0_pay5]
  blk_point [iblk, V, idx t]

/-- The result array after the run. -/
def resAt : S512x1024.Idx → EReal := fun i =>
  joinAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1)

theorem arr_eq : (dats m 0 c).arrAt 8 cfg0.N = resAt m c := by
  refine (dats m 0 c).arrAt_eq_of_covers 8 (resAt m c) (by decide +kernel) fun t hf y => ?_
  blk_simp
  rw [after0_8]
  frame_out
  obtain ⟨p, l, rfl⟩ : ∃ (p : Fin 512) (l : Fin 1024), y = ix2 p l := ⟨y 0, y 1, eq_ix2 y⟩
  rw [out_apply]
  refine congrArg₂ (joinAt _ _ _ _ _ _ _) (Fin.ext ?_) (Fin.ext ?_)
  all_goals blk_simp [idx t]
  show t.val * 512 + p.val = p.val
  have := lt_N t
  omega

end Cert.Proof.OutProjSample

end
-- ==== Proof.OutProjSampleRef.lean ====
/- The reference of the sample's output projection, read at an index. -/
module

public import proofs.«01_k».proof.Proof.OutProjSampleBlock
public import proofs.«01_k».proof.Proof.Gen.OutProjSampleRefIdeal.Run
public import Idealize.ShloMosaic.Lib.Tactic.CleanTypes

@[expose] public section

set_option maxRecDepth 16384

noncomputable section

namespace Cert.Proof.OutProjSample

open Idealize.ShloMosaic Idealize.ShloMosaic.TcCoe
open Cert.OutProjSampleRefIdeal Cert.OutProjSampleRefIdeal.Gen
open scoped BigOperators

variable (m : (ℓ : Loc nD τ sig) → Buf (Elt Ideal) ℓ) (c : Dev nD)

/-- What the reference leaves, at an index. -/
theorem ref_apply (r : Fin 512) (l : Fin 1024) : Cert.OutProjSampleRefIdeal.Value.res_out0 m c (ix2 r l)
      = joinAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) r l := by
  unfold Cert.OutProjSampleRefIdeal.Value.res_out0 Cert.OutProjSampleRefIdeal.Value.res_main_v36
  clean_types
  pointwise
  rfl

end Cert.Proof.OutProjSample

end
-- ==== Proof.lean ====
module

public import proofs.«01_k».proof.Defs
public import proofs.«01_k».proof.Proof.Gen.Ffn.Frame
public import proofs.«01_k».proof.Proof.Gen.InProj.Frame
public import proofs.«01_k».proof.Proof.Gen.OutProj.Frame
public import proofs.«01_k».proof.Proof.Gen.Mlstm.Frame
public import proofs.«01_k».proof.Proof.Gen.Compress.Frame
public import proofs.«01_k».proof.Proof.Gen.InProjSample.Frame
public import proofs.«01_k».proof.Proof.Gen.FfnSample.Frame
public import proofs.«01_k».proof.Proof.Gen.OutProjSample.Frame
public import proofs.«01_k».proof.Proof.Gen.Pre_finite_gates
public import proofs.«01_k».proof.Proof.Gen.Pre_finite_weights
public import Idealize.ShloMosaic.Adequacy
public import Idealize.ShloMosaic.Init
public import Idealize.ShloMosaic.Lib.Quiescent
public import proofs.«01_k».proof.Proof.InProjRef
public import proofs.«01_k».proof.Proof.OutProjRef
public import proofs.«01_k».proof.Proof.FfnRef
public import proofs.«01_k».proof.Proof.MlstmGates
public import proofs.«01_k».proof.Proof.CompressWeights
public import proofs.«01_k».proof.Proof.InProjSampleRef
public import proofs.«01_k».proof.Proof.FfnSampleRef
public import proofs.«01_k».proof.Proof.OutProjSampleRef

@[expose] public section

noncomputable section

namespace Cert.Proof

open Idealize.ShloMosaic Idealize.ShloMosaic.StableHlo Idealize.SL.Sem

theorem quiescent_InProjRefIdeal : quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

theorem quiescent_OutProjRefIdeal : quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The input projection and its reference leave the same array. -/
theorem algebraic_InProjIdeal_InProjRefIdeal : algebraic_InProjIdeal_InProjRefIdeal := by
  intro m ρ m' ρ' _ hagree
  refine ⟨_, Cert.InProjIdeal.Value.run (F := Ideal) m ρ, ?_⟩
  refine (θ_run Cert.InProjRefIdeal.defs _ _).mono (fun _ h c => ⟨?_, (h c).2⟩) (InProj.ref_run m' ρ')
  rw [(h c).1]
  funext i
  obtain ⟨r, l, rfl⟩ : ∃ (r : Fin 16384) (l : Fin 3456), i = ix2 r l := ⟨i 0, i 1, eq_ix2 i⟩
  refine Eq.trans ?_ (InProj.G4_eq m c r l).symm
  simp only [hagree c]
  rfl

/-- The output projection and its reference leave the same array. -/
theorem algebraic_OutProjIdeal_OutProjRefIdeal : algebraic_OutProjIdeal_OutProjRefIdeal := by
  intro m ρ m' ρ' _ hagree
  refine ⟨_, Cert.OutProjIdeal.Value.run_blocks (F := Ideal) m ρ, ?_⟩
  refine (θ_run Cert.OutProjRefIdeal.defs _ _).mono (fun _ h c => ⟨?_, (h c).2⟩) (Cert.OutProjRefIdeal.Value.run (F := Ideal) m' ρ')
  rw [(h c).1, OutProj.arr_eq]
  funext i
  obtain ⟨r, l, rfl⟩ : ∃ (r : Fin 16384) (l : Fin 1024), i = ix2 r l := ⟨i 0, i 1, eq_ix2 i⟩
  refine (OutProj.ref_apply m' c r l).trans ?_
  simp only [hagree c]
  rfl

/-- The feed-forward step and its reference leave the same array. -/
theorem algebraic_FfnIdeal_FfnRefIdeal : algebraic_FfnIdeal_FfnRefIdeal := by
  intro m ρ m' ρ' _ hagree
  refine ⟨_, Cert.FfnIdeal.Value.run (F := Ideal) m ρ, ?_⟩
  refine (θ_run Cert.FfnRefIdeal.defs _ _).mono (fun _ h c => ⟨?_, (h c).2⟩) (Cert.FfnRefIdeal.Value.run (F := Ideal) m' ρ')
  rw [(h c).1]
  funext i
  obtain ⟨r, l, rfl⟩ : ∃ (r : Fin 16384) (l : Fin 1024), i = ix2 r l := ⟨i 0, i 1, eq_ix2 i⟩
  refine (Ffn.ref_apply m' c r l).trans (Eq.trans ?_ (Ffn.G8_eq m c r l).symm)
  simp only [hagree c]

theorem quiescent_MlstmRefIdeal : quiescent_MlstmRefIdeal := fun m ρ _ =>
  (θ_run Cert.MlstmRefIdeal.defs _ _).mono (fun r h => ⟨fun c => (h c).2.2.2.2, sem_eq_zero_of_no_sems (by decide) r.2⟩)
    (Cert.MlstmRefIdeal.Value.run (F := Ideal) m ρ)

/-- The mLSTM's chunk for the sample tokens and its reference leave the same four arrays, where the gates' inputs are numbers. -/
theorem algebraic_MlstmIdeal_MlstmRefIdeal_pre_finite_gates : algebraic_MlstmIdeal_MlstmRefIdeal_pre_finite_gates := by
  intro m ρ m' ρ' hpre hagree
  refine ⟨_, _, _, _, Cert.MlstmIdeal.Value.run_blocks (F := Ideal) m ρ, ?_⟩
  refine (θ_run Cert.MlstmRefIdeal.defs _ _).mono (fun _ h c => ?_) (Cert.MlstmRefIdeal.Value.run (F := Ideal) m' ρ')
  obtain ⟨a0, a1, a2, a3, a4, a5⟩ := hagree c
  have hg : Mlstm.Gates (Mlstm.proj m c) (Mlstm.bias m c) (Mlstm.stab m c) := Mlstm.gates_of _ _ _ _ _ _ (hpre c)
  have e0 : Mlstm.vP (launchContents m' c) = Mlstm.proj m c := a0
  have e1 : Mlstm.vB (launchContents m' c) = Mlstm.bias m c := a1
  have e2 : Mlstm.vg (launchContents m' c) = Mlstm.gain m c := a2
  have e3 : Mlstm.vC (launchContents m' c) = Mlstm.state m c := a3
  have e4 : Mlstm.vN (launchContents m' c) = Mlstm.total m c := a4
  have e5 : Mlstm.vM (launchContents m' c) = Mlstm.stab m c := a5
  have hn : Mlstm.Gates (Mlstm.vP (launchContents m' c)) (Mlstm.vB (launchContents m' c)) (Mlstm.vM (launchContents m' c)) := by
    rw [e0, e1, e5]; exact hg
  refine ⟨(h c).1.trans ?_, (h c).2.1.trans ?_, (h c).2.2.1.trans ?_, (h c).2.2.2.1.trans ?_, (h c).2.2.2.2⟩
  · rw [Mlstm.h_arr m c hg.numbers]
    funext i
    obtain ⟨r, s, x, rfl⟩ : ∃ (r : Fin 128) (s : Fin 16) (x : Fin 512), i = ix3 r s x := ⟨i 0, i 1, i 2, eq_ix3 i⟩
    refine (Mlstm.h_res _ hn r s x).trans ?_
    rw [e0, e1, e2, e3, e4, e5]
    rfl
  · rw [Mlstm.c_arr]
    funext i
    obtain ⟨r, h, e, d, rfl⟩ : ∃ (r : Fin 128) (h : Fin 4) (e d : Fin 128), i = ix4 r h e d := ⟨i 0, i 1, i 2, i 3, eq_ix4 i⟩
    refine (Mlstm.c_res _ hn r h e d).trans ?_
    rw [e0, e1, e3, e5]
    rfl
  · rw [Mlstm.n_arr]
    funext i
    obtain ⟨r, h, z, d, rfl⟩ : ∃ (r : Fin 128) (h : Fin 4) (z : Fin 1) (d : Fin 128), i = ix4 r h z d := ⟨i 0, i 1, i 2, i 3, eq_ix4 i⟩
    obtain rfl : z = 0 := Subsingleton.elim _ _
    refine (Mlstm.n_res _ hn r h d).trans ?_
    rw [e0, e1, e4, e5]
    rfl
  · rw [Mlstm.m_arr]
    funext i
    obtain ⟨r, h, z, w, rfl⟩ : ∃ (r : Fin 128) (h : Fin 4) (z w : Fin 1), i = ix4 r h z w := ⟨i 0, i 1, i 2, i 3, eq_ix4 i⟩
    obtain rfl : z = 0 := Subsingleton.elim _ _
    obtain rfl : w = 0 := Subsingleton.elim _ _
    refine (Mlstm.m_res _ hn r h).trans ?_
    rw [e0, e1, e5]
    rfl

theorem quiescent_CompressRefIdeal : quiescent_CompressRefIdeal := fun m ρ _ =>
  (θ_run Cert.CompressRefIdeal.defs _ _).mono (fun r h => ⟨fun c => (h c).2, sem_eq_zero_of_no_sems (by decide) r.2⟩)
    (Cert.CompressRefIdeal.Value.run (F := Ideal) m ρ)

/-- The compressed rows of the prompt and their reference are the same array, where the positions and the first weights are numbers. -/
theorem algebraic_CompressIdeal_CompressRefIdeal_pre_finite_weights : algebraic_CompressIdeal_CompressRefIdeal_pre_finite_weights := by
  intro m ρ m' ρ' hpre hagree
  refine ⟨_, Compress.run m ρ, ?_⟩
  refine (θ_run Cert.CompressRefIdeal.defs _ _).mono (fun _ h c => ⟨?_, (h c).2⟩) (Cert.CompressRefIdeal.Value.run (F := Ideal) m' ρ')
  obtain ⟨a0, a1, a2, a3⟩ := hagree c
  have hP := Compress.spot_num _ _ _ _ (hpre c).1
  have hW := Compress.first_num _ _ _ _ (hpre c).2
  refine (h c).1.trans ?_
  funext i
  obtain ⟨b, n, col, rfl⟩ : ∃ (b : Fin 2) (n : Fin 511) (col : Fin 256), i = ix3 b n col := ⟨i 0, i 1, i 2, eq_ix3 i⟩
  refine (Compress.Ref.ref_apply m' c b n col).trans (Eq.trans ?_ (Compress.slice_at m c hP hW b n col).symm)
  rw [a0, a1, a2, a3]

theorem quiescent_InProjSampleRefIdeal : quiescent_InProjSampleRefIdeal := fun m ρ _ =>
  (θ_run Cert.InProjSampleRefIdeal.defs _ _).mono (fun r h => ⟨fun c => (h c).2.2, sem_eq_zero_of_no_sems (by decide) r.2⟩)
    (Cert.InProjSampleRefIdeal.Value.run (F := Ideal) m ρ)

theorem quiescent_FfnSampleRefIdeal : quiescent_FfnSampleRefIdeal := fun m ρ _ =>
  (θ_run Cert.FfnSampleRefIdeal.defs _ _).mono (fun r h => ⟨fun c => (h c).2, sem_eq_zero_of_no_sems (by decide) r.2⟩)
    (Cert.FfnSampleRefIdeal.Value.run (F := Ideal) m ρ)

/-- The sample's input projection and its reference leave the same projection and the same window. -/
theorem algebraic_InProjSampleIdeal_InProjSampleRefIdeal : algebraic_InProjSampleIdeal_InProjSampleRefIdeal := by
  intro m ρ m' ρ' _ hagree
  refine ⟨_, _, InProjSample.run m ρ, ?_⟩
  refine (θ_run Cert.InProjSampleRefIdeal.defs _ _).mono (fun _ h c => ?_) (InProjSample.ref_run m' ρ')
  obtain ⟨a0, a1, a2, a3, a4⟩ := hagree c
  refine ⟨(h c).1.trans ?_, (h c).2.1.trans ?_, (h c).2.2⟩
  · rw [a0, a1, a2, a3]
  · rw [a0, a1, a2, a3, a4]

/-- The sample's feed-forward step and its reference leave the same array. -/
theorem algebraic_FfnSampleIdeal_FfnSampleRefIdeal : algebraic_FfnSampleIdeal_FfnSampleRefIdeal := by
  intro m ρ m' ρ' _ hagree
  refine ⟨_, Cert.FfnSampleIdeal.Value.run (F := Ideal) m ρ, ?_⟩
  refine (θ_run Cert.FfnSampleRefIdeal.defs _ _).mono (fun _ h c => ⟨?_, (h c).2⟩) (Cert.FfnSampleRefIdeal.Value.run (F := Ideal) m' ρ')
  rw [(h c).1]
  funext i
  obtain ⟨r, l, rfl⟩ : ∃ (r : Fin 512) (l : Fin 1024), i = ix2 r l := ⟨i 0, i 1, eq_ix2 i⟩
  refine (FfnSample.ref_apply m' c r l).trans (Eq.trans ?_ (FfnSample.G8_eq m c r l).symm)
  simp only [hagree c]

theorem quiescent_OutProjSampleRefIdeal : quiescent_OutProjSampleRefIdeal := fun m ρ _ =>
  (θ_run Cert.OutProjSampleRefIdeal.defs _ _).mono (fun r h => ⟨fun c => (h c).2, sem_eq_zero_of_no_sems (by decide) r.2⟩)
    (Cert.OutProjSampleRefIdeal.Value.run (F := Ideal) m ρ)

/-- The sample's output projection and its reference leave the same array. -/
theorem algebraic_OutProjSampleIdeal_OutProjSampleRefIdeal : algebraic_OutProjSampleIdeal_OutProjSampleRefIdeal := by
  intro m ρ m' ρ' _ hagree
  refine ⟨_, Cert.OutProjSampleIdeal.Value.run_blocks (F := Ideal) m ρ, ?_⟩
  refine (θ_run Cert.OutProjSampleRefIdeal.defs _ _).mono (fun _ h c => ⟨?_, (h c).2⟩)
    (Cert.OutProjSampleRefIdeal.Value.run (F := Ideal) m' ρ')
  rw [(h c).1, OutProjSample.arr_eq]
  funext i
  obtain ⟨r, l, rfl⟩ : ∃ (r : Fin 512) (l : Fin 1024), i = ix2 r l := ⟨i 0, i 1, eq_ix2 i⟩
  refine (OutProjSample.ref_apply m' c r l).trans ?_
  simp only [hagree c]
  rfl

theorem claim : Cert.Claim :=
  ⟨Cert.InProj.Gen.facts, Cert.InProjIdeal.Gen.facts, Cert.InProjRefIdeal.Gen.facts,
    Cert.OutProj.Gen.facts, Cert.OutProjIdeal.Gen.facts, Cert.OutProjRefIdeal.Gen.facts,
    Cert.Ffn.Gen.facts, Cert.FfnIdeal.Gen.facts, Cert.FfnRefIdeal.Gen.facts,
    Cert.Mlstm.Gen.facts, Cert.MlstmIdeal.Gen.facts, Cert.MlstmRefIdeal.Gen.facts,
    Cert.Compress.Gen.facts, Cert.CompressIdeal.Gen.facts, Cert.CompressRefIdeal.Gen.facts,
    Cert.InProjSample.Gen.facts, Cert.InProjSampleIdeal.Gen.facts, Cert.InProjSampleRefIdeal.Gen.facts,
    Cert.FfnSample.Gen.facts, Cert.FfnSampleIdeal.Gen.facts, Cert.FfnSampleRefIdeal.Gen.facts,
    Cert.OutProjSample.Gen.facts, Cert.OutProjSampleIdeal.Gen.facts, Cert.OutProjSampleRefIdeal.Gen.facts,
    Cert.Pre_finite_gates.Gen.facts, Cert.Pre_finite_weights.Gen.facts,
    fun m ρ _ => Cert.InProj.Gen.frame m ρ, fun m ρ _ => Cert.InProjIdeal.Gen.frame m ρ, quiescent_InProjRefIdeal,
    fun m ρ _ => Cert.OutProj.Gen.frame m ρ, fun m ρ _ => Cert.OutProjIdeal.Gen.frame m ρ, quiescent_OutProjRefIdeal,
    fun m ρ _ => Cert.Ffn.Gen.frame m ρ, fun m ρ _ => Cert.FfnIdeal.Gen.frame m ρ, quiescent_FfnRefIdeal,
    fun m ρ _ => Cert.Mlstm.Gen.frame m ρ, fun m ρ _ => Cert.MlstmIdeal.Gen.frame m ρ, fun m ρ _ => Cert.MlstmIdeal.Gen.frame m ρ,
    quiescent_MlstmRefIdeal, fun m ρ _ => quiescent_MlstmRefIdeal m ρ trivial,
    fun m ρ _ => Cert.Compress.Gen.frame m ρ, fun m ρ _ => Cert.CompressIdeal.Gen.frame m ρ, fun m ρ _ => Cert.CompressIdeal.Gen.frame m ρ,
    quiescent_CompressRefIdeal, fun m ρ _ => quiescent_CompressRefIdeal m ρ trivial,
    fun m ρ _ => Cert.InProjSample.Gen.frame m ρ, fun m ρ _ => Cert.InProjSampleIdeal.Gen.frame m ρ, quiescent_InProjSampleRefIdeal,
    fun m ρ _ => Cert.FfnSample.Gen.frame m ρ, fun m ρ _ => Cert.FfnSampleIdeal.Gen.frame m ρ, quiescent_FfnSampleRefIdeal,
    fun m ρ _ => Cert.OutProjSample.Gen.frame m ρ, fun m ρ _ => Cert.OutProjSampleIdeal.Gen.frame m ρ, quiescent_OutProjSampleRefIdeal,
    (trivial : preserves_InProj_InProjIdeal), algebraic_InProjIdeal_InProjRefIdeal,
    (trivial : preserves_OutProj_OutProjIdeal), algebraic_OutProjIdeal_OutProjRefIdeal,
    (trivial : preserves_Ffn_FfnIdeal), algebraic_FfnIdeal_FfnRefIdeal,
    (IdealRules.named_const.statement _ _ _ _ _ rfl : preserves_Mlstm_MlstmIdeal), algebraic_MlstmIdeal_MlstmRefIdeal_pre_finite_gates,
    (trivial : preserves_Compress_CompressIdeal), algebraic_CompressIdeal_CompressRefIdeal_pre_finite_weights,
    (trivial : preserves_InProjSample_InProjSampleIdeal), algebraic_InProjSampleIdeal_InProjSampleRefIdeal,
    (trivial : preserves_FfnSample_FfnSampleIdeal), algebraic_FfnSampleIdeal_FfnSampleRefIdeal,
    (trivial : preserves_OutProjSample_OutProjSampleIdeal), algebraic_OutProjSampleIdeal_OutProjSampleRefIdeal⟩

end Cert.Proof

end
